-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 2048]⟩ ⟨2, ![4096, 2048]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S4096x2048 : Shape := ⟨2, ![4096, 2048]⟩
abbrev S1 : Shape := ⟨1, ![1]⟩
abbrev S128x2048 : Shape := ⟨2, ![128, 2048]⟩
abbrev S32x128x128 : Shape := ⟨3, ![32, 128, 128]⟩
abbrev S3x1024x2048 : Shape := ⟨3, ![3, 1024, 2048]⟩
abbrev S2x1024x2048 : Shape := ⟨3, ![2, 1024, 2048]⟩
abbrev S31 : Shape := ⟨1, ![31]⟩
abbrev S32 : Shape := ⟨1, ![32]⟩
abbrev S3 : Shape := ⟨1, ![3]⟩
abbrev S_ : Shape := ⟨0, ![]⟩
abbrev S1x1024x2048 : Shape := ⟨3, ![1, 1024, 2048]⟩
abbrev S1024x2048 : Shape := ⟨2, ![1024, 2048]⟩
abbrev S1x128x128 : Shape := ⟨3, ![1, 128, 128]⟩
abbrev S128x128 : Shape := ⟨2, ![128, 128]⟩
abbrev S128x1024 : Shape := ⟨2, ![128, 1024]⟩

abbrev nBuf : Space → Nat
  | .hbm => 5
  | .vmem => 6
  | .smem => 2
  | _ => 0

abbrev bufTy : (tb : Table) → Fin (tcTables nBuf tb) → BufTy
  | .hbm, ⟨0, _⟩ => ⟨S4096x128, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S128x2048, .f32⟩
  | .local _ .vmem, ⟨0, _⟩ => ⟨S128x2048, .f32⟩
  | .local _ .vmem, ⟨1, _⟩ => ⟨S4096x128, .f32⟩
  | .local _ .vmem, ⟨2, _⟩ => ⟨S4096x128, .fp8e5m2⟩
  | .local _ .vmem, ⟨3, _⟩ => ⟨S32x128x128, .fp8e5m2⟩
  | .local _ .vmem, ⟨4, _⟩ => ⟨S3x1024x2048, .f32⟩
  | .local _ .vmem, ⟨5, _⟩ => ⟨S2x1024x2048, .fp8e5m2⟩
  | .local _ .smem, ⟨0, _⟩ => ⟨S1, .f32⟩
  | .local _ .smem, ⟨1, _⟩ => ⟨S1, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg2_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_5 : BitVec 32 := 1#32
  let v21 : BitVec 32 := Scalar.addi v2 c1_i32_5
  let c32_i32_6 : BitVec 32 := 32#32
  let c0_i32_7 : BitVec 32 := 0#32
  let v22 : BitVec 1 := Scalar.cmpi .eq c32_i32_6 c0_i32_7
  let c1_i32_8 : BitVec 32 := 1#32
  let v23 : BitVec 32 := Scalar.select v22 c1_i32_8 c32_i32_6
  let v24 : BitVec 32 := Scalar.remsi v21 v23
  let c0_i32_10 : BitVec 32 := 0#32
  let v26 : BitVec 1 := Scalar.cmpi .slt v24 c0_i32_10
  let c0_i32_11 : BitVec 32 := 0#32
  let v27 : BitVec 1 := Scalar.cmpi .slt v23 c0_i32_11
  let v28 : BitVec 1 := Scalar.xori v26 v27
  let c0_i32_9 : BitVec 32 := 0#32
  let v25 : BitVec 1 := Scalar.cmpi .ne v24 c0_i32_9
  let v29 : BitVec 1 := Scalar.andi v28 v25
  let v30 : BitVec 32 := Scalar.addi v24 v23
  let v31 : BitVec 32 := Scalar.select v29 v30 v24
  let c1_i32_13 : BitVec 32 := 1#32
  let v32 : BitVec 32 := Scalar.muli v31 c1_i32_13
  let v33 : BitVec 32 := Scalar.addi c0_i32_14 v32
  v33.toNat
def k0_dev2 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v34 : BitVec 32 := Scalar.addi v2 c2_i32
  let c32_i32_15 : BitVec 32 := 32#32
  let c0_i32_16 : BitVec 32 := 0#32
  let v35 : BitVec 1 := Scalar.cmpi .eq c32_i32_15 c0_i32_16
  let c1_i32_17 : BitVec 32 := 1#32
  let v36 : BitVec 32 := Scalar.select v35 c1_i32_17 c32_i32_15
  let v37 : BitVec 32 := Scalar.remsi v34 v36
  let c0_i32_19 : BitVec 32 := 0#32
  let v39 : BitVec 1 := Scalar.cmpi .slt v37 c0_i32_19
  let c0_i32_20 : BitVec 32 := 0#32
  let v40 : BitVec 1 := Scalar.cmpi .slt v36 c0_i32_20
  let v41 : BitVec 1 := Scalar.xori v39 v40
  let c0_i32_18 : BitVec 32 := 0#32
  let v38 : BitVec 1 := Scalar.cmpi .ne v37 c0_i32_18
  let v42 : BitVec 1 := Scalar.andi v41 v38
  let v43 : BitVec 32 := Scalar.addi v37 v36
  let v44 : BitVec 32 := Scalar.select v42 v43 v37
  let c1_i32_22 : BitVec 32 := 1#32
  let v45 : BitVec 32 := Scalar.muli v44 c1_i32_22
  let v46 : BitVec 32 := Scalar.addi c0_i32_23 v45
  v46.toNat
def k0_dev3 (d0 : Dev nD) : Nat :=
  let c0_i32_32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v47 : BitVec 32 := Scalar.addi v2 c3_i32
  let c32_i32_24 : BitVec 32 := 32#32
  let c0_i32_25 : BitVec 32 := 0#32
  let v48 : BitVec 1 := Scalar.cmpi .eq c32_i32_24 c0_i32_25
  let c1_i32_26 : BitVec 32 := 1#32
  let v49 : BitVec 32 := Scalar.select v48 c1_i32_26 c32_i32_24
  let v50 : BitVec 32 := Scalar.remsi v47 v49
  let c0_i32_28 : BitVec 32 := 0#32
  let v52 : BitVec 1 := Scalar.cmpi .slt v50 c0_i32_28
  let c0_i32_29 : BitVec 32 := 0#32
  let v53 : BitVec 1 := Scalar.cmpi .slt v49 c0_i32_29
  let v54 : BitVec 1 := Scalar.xori v52 v53
  let c0_i32_27 : BitVec 32 := 0#32
  let v51 : BitVec 1 := Scalar.cmpi .ne v50 c0_i32_27
  let v55 : BitVec 1 := Scalar.andi v54 v51
  let v56 : BitVec 32 := Scalar.addi v50 v49
  let v57 : BitVec 32 := Scalar.select v55 v56 v50
  let c1_i32_31 : BitVec 32 := 1#32
  let v58 : BitVec 32 := Scalar.muli v57 c1_i32_31
  let v59 : BitVec 32 := Scalar.addi c0_i32_32 v58
  v59.toNat
def k0_dev4 (d0 : Dev nD) : Nat :=
  let c0_i32_41 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v60 : BitVec 32 := Scalar.addi v2 c4_i32
  let c32_i32_33 : BitVec 32 := 32#32
  let c0_i32_34 : BitVec 32 := 0#32
  let v61 : BitVec 1 := Scalar.cmpi .eq c32_i32_33 c0_i32_34
  let c1_i32_35 : BitVec 32 := 1#32
  let v62 : BitVec 32 := Scalar.select v61 c1_i32_35 c32_i32_33
  let v63 : BitVec 32 := Scalar.remsi v60 v62
  let c0_i32_37 : BitVec 32 := 0#32
  let v65 : BitVec 1 := Scalar.cmpi .slt v63 c0_i32_37
  let c0_i32_38 : BitVec 32 := 0#32
  let v66 : BitVec 1 := Scalar.cmpi .slt v62 c0_i32_38
  let v67 : BitVec 1 := Scalar.xori v65 v66
  let c0_i32_36 : BitVec 32 := 0#32
  let v64 : BitVec 1 := Scalar.cmpi .ne v63 c0_i32_36
  let v68 : BitVec 1 := Scalar.andi v67 v64
  let v69 : BitVec 32 := Scalar.addi v63 v62
  let v70 : BitVec 32 := Scalar.select v68 v69 v63
  let c1_i32_40 : BitVec 32 := 1#32
  let v71 : BitVec 32 := Scalar.muli v70 c1_i32_40
  let v72 : BitVec 32 := Scalar.addi c0_i32_41 v71
  v72.toNat
def k0_dev5 (d0 : Dev nD) : Nat :=
  let c0_i32_50 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v73 : BitVec 32 := Scalar.addi v2 c5_i32
  let c32_i32_42 : BitVec 32 := 32#32
  let c0_i32_43 : BitVec 32 := 0#32
  let v74 : BitVec 1 := Scalar.cmpi .eq c32_i32_42 c0_i32_43
  let c1_i32_44 : BitVec 32 := 1#32
  let v75 : BitVec 32 := Scalar.select v74 c1_i32_44 c32_i32_42
  let v76 : BitVec 32 := Scalar.remsi v73 v75
  let c0_i32_46 : BitVec 32 := 0#32
  let v78 : BitVec 1 := Scalar.cmpi .slt v76 c0_i32_46
  let c0_i32_47 : BitVec 32 := 0#32
  let v79 : BitVec 1 := Scalar.cmpi .slt v75 c0_i32_47
  let v80 : BitVec 1 := Scalar.xori v78 v79
  let c0_i32_45 : BitVec 32 := 0#32
  let v77 : BitVec 1 := Scalar.cmpi .ne v76 c0_i32_45
  let v81 : BitVec 1 := Scalar.andi v80 v77
  let v82 : BitVec 32 := Scalar.addi v76 v75
  let v83 : BitVec 32 := Scalar.select v81 v82 v76
  let c1_i32_49 : BitVec 32 := 1#32
  let v84 : BitVec 32 := Scalar.muli v83 c1_i32_49
  let v85 : BitVec 32 := Scalar.addi c0_i32_50 v84
  v85.toNat
def k0_dev6 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v86 : BitVec 32 := Scalar.addi v2 c6_i32
  let c32_i32_51 : BitVec 32 := 32#32
  let c0_i32_52 : BitVec 32 := 0#32
  let v87 : BitVec 1 := Scalar.cmpi .eq c32_i32_51 c0_i32_52
  let c1_i32_53 : BitVec 32 := 1#32
  let v88 : BitVec 32 := Scalar.select v87 c1_i32_53 c32_i32_51
  let v89 : BitVec 32 := Scalar.remsi v86 v88
  let c0_i32_55 : BitVec 32 := 0#32
  let v91 : BitVec 1 := Scalar.cmpi .slt v89 c0_i32_55
  let c0_i32_56 : BitVec 32 := 0#32
  let v92 : BitVec 1 := Scalar.cmpi .slt v88 c0_i32_56
  let v93 : BitVec 1 := Scalar.xori v91 v92
  let c0_i32_54 : BitVec 32 := 0#32
  let v90 : BitVec 1 := Scalar.cmpi .ne v89 c0_i32_54
  let v94 : BitVec 1 := Scalar.andi v93 v90
  let v95 : BitVec 32 := Scalar.addi v89 v88
  let v96 : BitVec 32 := Scalar.select v94 v95 v89
  let c1_i32_58 : BitVec 32 := 1#32
  let v97 : BitVec 32 := Scalar.muli v96 c1_i32_58
  let v98 : BitVec 32 := Scalar.addi c0_i32_59 v97
  v98.toNat
def k0_dev7 (d0 : Dev nD) : Nat :=
  let c0_i32_68 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v99 : BitVec 32 := Scalar.addi v2 c7_i32
  let c32_i32_60 : BitVec 32 := 32#32
  let c0_i32_61 : BitVec 32 := 0#32
  let v100 : BitVec 1 := Scalar.cmpi .eq c32_i32_60 c0_i32_61
  let c1_i32_62 : BitVec 32 := 1#32
  let v101 : BitVec 32 := Scalar.select v100 c1_i32_62 c32_i32_60
  let v102 : BitVec 32 := Scalar.remsi v99 v101
  let c0_i32_64 : BitVec 32 := 0#32
  let v104 : BitVec 1 := Scalar.cmpi .slt v102 c0_i32_64
  let c0_i32_65 : BitVec 32 := 0#32
  let v105 : BitVec 1 := Scalar.cmpi .slt v101 c0_i32_65
  let v106 : BitVec 1 := Scalar.xori v104 v105
  let c0_i32_63 : BitVec 32 := 0#32
  let v103 : BitVec 1 := Scalar.cmpi .ne v102 c0_i32_63
  let v107 : BitVec 1 := Scalar.andi v106 v103
  let v108 : BitVec 32 := Scalar.addi v102 v101
  let v109 : BitVec 32 := Scalar.select v107 v108 v102
  let c1_i32_67 : BitVec 32 := 1#32
  let v110 : BitVec 32 := Scalar.muli v109 c1_i32_67
  let v111 : BitVec 32 := Scalar.addi c0_i32_68 v110
  v111.toNat
def k0_dev8 (d0 : Dev nD) : Nat :=
  let c0_i32_78 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_69 : BitVec 32 := 8#32
  let v112 : BitVec 32 := Scalar.addi v2 c8_i32_69
  let c32_i32_70 : BitVec 32 := 32#32
  let c0_i32_71 : BitVec 32 := 0#32
  let v113 : BitVec 1 := Scalar.cmpi .eq c32_i32_70 c0_i32_71
  let c1_i32_72 : BitVec 32 := 1#32
  let v114 : BitVec 32 := Scalar.select v113 c1_i32_72 c32_i32_70
  let v115 : BitVec 32 := Scalar.remsi v112 v114
  let c0_i32_74 : BitVec 32 := 0#32
  let v117 : BitVec 1 := Scalar.cmpi .slt v115 c0_i32_74
  let c0_i32_75 : BitVec 32 := 0#32
  let v118 : BitVec 1 := Scalar.cmpi .slt v114 c0_i32_75
  let v119 : BitVec 1 := Scalar.xori v117 v118
  let c0_i32_73 : BitVec 32 := 0#32
  let v116 : BitVec 1 := Scalar.cmpi .ne v115 c0_i32_73
  let v120 : BitVec 1 := Scalar.andi v119 v116
  let v121 : BitVec 32 := Scalar.addi v115 v114
  let v122 : BitVec 32 := Scalar.select v120 v121 v115
  let c1_i32_77 : BitVec 32 := 1#32
  let v123 : BitVec 32 := Scalar.muli v122 c1_i32_77
  let v124 : BitVec 32 := Scalar.addi c0_i32_78 v123
  v124.toNat
def k0_dev9 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v125 : BitVec 32 := Scalar.addi v2 c9_i32
  let c32_i32_79 : BitVec 32 := 32#32
  let c0_i32_80 : BitVec 32 := 0#32
  let v126 : BitVec 1 := Scalar.cmpi .eq c32_i32_79 c0_i32_80
  let c1_i32_81 : BitVec 32 := 1#32
  let v127 : BitVec 32 := Scalar.select v126 c1_i32_81 c32_i32_79
  let v128 : BitVec 32 := Scalar.remsi v125 v127
  let c0_i32_83 : BitVec 32 := 0#32
  let v130 : BitVec 1 := Scalar.cmpi .slt v128 c0_i32_83
  let c0_i32_84 : BitVec 32 := 0#32
  let v131 : BitVec 1 := Scalar.cmpi .slt v127 c0_i32_84
  let v132 : BitVec 1 := Scalar.xori v130 v131
  let c0_i32_82 : BitVec 32 := 0#32
  let v129 : BitVec 1 := Scalar.cmpi .ne v128 c0_i32_82
  let v133 : BitVec 1 := Scalar.andi v132 v129
  let v134 : BitVec 32 := Scalar.addi v128 v127
  let v135 : BitVec 32 := Scalar.select v133 v134 v128
  let c1_i32_86 : BitVec 32 := 1#32
  let v136 : BitVec 32 := Scalar.muli v135 c1_i32_86
  let v137 : BitVec 32 := Scalar.addi c0_i32_87 v136
  v137.toNat
def k0_dev10 (d0 : Dev nD) : Nat :=
  let c0_i32_96 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v138 : BitVec 32 := Scalar.addi v2 c10_i32
  let c32_i32_88 : BitVec 32 := 32#32
  let c0_i32_89 : BitVec 32 := 0#32
  let v139 : BitVec 1 := Scalar.cmpi .eq c32_i32_88 c0_i32_89
  let c1_i32_90 : BitVec 32 := 1#32
  let v140 : BitVec 32 := Scalar.select v139 c1_i32_90 c32_i32_88
  let v141 : BitVec 32 := Scalar.remsi v138 v140
  let c0_i32_92 : BitVec 32 := 0#32
  let v143 : BitVec 1 := Scalar.cmpi .slt v141 c0_i32_92
  let c0_i32_93 : BitVec 32 := 0#32
  let v144 : BitVec 1 := Scalar.cmpi .slt v140 c0_i32_93
  let v145 : BitVec 1 := Scalar.xori v143 v144
  let c0_i32_91 : BitVec 32 := 0#32
  let v142 : BitVec 1 := Scalar.cmpi .ne v141 c0_i32_91
  let v146 : BitVec 1 := Scalar.andi v145 v142
  let v147 : BitVec 32 := Scalar.addi v141 v140
  let v148 : BitVec 32 := Scalar.select v146 v147 v141
  let c1_i32_95 : BitVec 32 := 1#32
  let v149 : BitVec 32 := Scalar.muli v148 c1_i32_95
  let v150 : BitVec 32 := Scalar.addi c0_i32_96 v149
  v150.toNat
def k0_dev11 (d0 : Dev nD) : Nat :=
  let c0_i32_105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v151 : BitVec 32 := Scalar.addi v2 c11_i32
  let c32_i32_97 : BitVec 32 := 32#32
  let c0_i32_98 : BitVec 32 := 0#32
  let v152 : BitVec 1 := Scalar.cmpi .eq c32_i32_97 c0_i32_98
  let c1_i32_99 : BitVec 32 := 1#32
  let v153 : BitVec 32 := Scalar.select v152 c1_i32_99 c32_i32_97
  let v154 : BitVec 32 := Scalar.remsi v151 v153
  let c0_i32_101 : BitVec 32 := 0#32
  let v156 : BitVec 1 := Scalar.cmpi .slt v154 c0_i32_101
  let c0_i32_102 : BitVec 32 := 0#32
  let v157 : BitVec 1 := Scalar.cmpi .slt v153 c0_i32_102
  let v158 : BitVec 1 := Scalar.xori v156 v157
  let c0_i32_100 : BitVec 32 := 0#32
  let v155 : BitVec 1 := Scalar.cmpi .ne v154 c0_i32_100
  let v159 : BitVec 1 := Scalar.andi v158 v155
  let v160 : BitVec 32 := Scalar.addi v154 v153
  let v161 : BitVec 32 := Scalar.select v159 v160 v154
  let c1_i32_104 : BitVec 32 := 1#32
  let v162 : BitVec 32 := Scalar.muli v161 c1_i32_104
  let v163 : BitVec 32 := Scalar.addi c0_i32_105 v162
  v163.toNat
def k0_dev12 (d0 : Dev nD) : Nat :=
  let c0_i32_114 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v164 : BitVec 32 := Scalar.addi v2 c12_i32
  let c32_i32_106 : BitVec 32 := 32#32
  let c0_i32_107 : BitVec 32 := 0#32
  let v165 : BitVec 1 := Scalar.cmpi .eq c32_i32_106 c0_i32_107
  let c1_i32_108 : BitVec 32 := 1#32
  let v166 : BitVec 32 := Scalar.select v165 c1_i32_108 c32_i32_106
  let v167 : BitVec 32 := Scalar.remsi v164 v166
  let c0_i32_110 : BitVec 32 := 0#32
  let v169 : BitVec 1 := Scalar.cmpi .slt v167 c0_i32_110
  let c0_i32_111 : BitVec 32 := 0#32
  let v170 : BitVec 1 := Scalar.cmpi .slt v166 c0_i32_111
  let v171 : BitVec 1 := Scalar.xori v169 v170
  let c0_i32_109 : BitVec 32 := 0#32
  let v168 : BitVec 1 := Scalar.cmpi .ne v167 c0_i32_109
  let v172 : BitVec 1 := Scalar.andi v171 v168
  let v173 : BitVec 32 := Scalar.addi v167 v166
  let v174 : BitVec 32 := Scalar.select v172 v173 v167
  let c1_i32_113 : BitVec 32 := 1#32
  let v175 : BitVec 32 := Scalar.muli v174 c1_i32_113
  let v176 : BitVec 32 := Scalar.addi c0_i32_114 v175
  v176.toNat
def k0_dev13 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v177 : BitVec 32 := Scalar.addi v2 c13_i32
  let c32_i32_115 : BitVec 32 := 32#32
  let c0_i32_116 : BitVec 32 := 0#32
  let v178 : BitVec 1 := Scalar.cmpi .eq c32_i32_115 c0_i32_116
  let c1_i32_117 : BitVec 32 := 1#32
  let v179 : BitVec 32 := Scalar.select v178 c1_i32_117 c32_i32_115
  let v180 : BitVec 32 := Scalar.remsi v177 v179
  let c0_i32_119 : BitVec 32 := 0#32
  let v182 : BitVec 1 := Scalar.cmpi .slt v180 c0_i32_119
  let c0_i32_120 : BitVec 32 := 0#32
  let v183 : BitVec 1 := Scalar.cmpi .slt v179 c0_i32_120
  let v184 : BitVec 1 := Scalar.xori v182 v183
  let c0_i32_118 : BitVec 32 := 0#32
  let v181 : BitVec 1 := Scalar.cmpi .ne v180 c0_i32_118
  let v185 : BitVec 1 := Scalar.andi v184 v181
  let v186 : BitVec 32 := Scalar.addi v180 v179
  let v187 : BitVec 32 := Scalar.select v185 v186 v180
  let c1_i32_122 : BitVec 32 := 1#32
  let v188 : BitVec 32 := Scalar.muli v187 c1_i32_122
  let v189 : BitVec 32 := Scalar.addi c0_i32_123 v188
  v189.toNat
def k0_dev14 (d0 : Dev nD) : Nat :=
  let c0_i32_132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v190 : BitVec 32 := Scalar.addi v2 c14_i32
  let c32_i32_124 : BitVec 32 := 32#32
  let c0_i32_125 : BitVec 32 := 0#32
  let v191 : BitVec 1 := Scalar.cmpi .eq c32_i32_124 c0_i32_125
  let c1_i32_126 : BitVec 32 := 1#32
  let v192 : BitVec 32 := Scalar.select v191 c1_i32_126 c32_i32_124
  let v193 : BitVec 32 := Scalar.remsi v190 v192
  let c0_i32_128 : BitVec 32 := 0#32
  let v195 : BitVec 1 := Scalar.cmpi .slt v193 c0_i32_128
  let c0_i32_129 : BitVec 32 := 0#32
  let v196 : BitVec 1 := Scalar.cmpi .slt v192 c0_i32_129
  let v197 : BitVec 1 := Scalar.xori v195 v196
  let c0_i32_127 : BitVec 32 := 0#32
  let v194 : BitVec 1 := Scalar.cmpi .ne v193 c0_i32_127
  let v198 : BitVec 1 := Scalar.andi v197 v194
  let v199 : BitVec 32 := Scalar.addi v193 v192
  let v200 : BitVec 32 := Scalar.select v198 v199 v193
  let c1_i32_131 : BitVec 32 := 1#32
  let v201 : BitVec 32 := Scalar.muli v200 c1_i32_131
  let v202 : BitVec 32 := Scalar.addi c0_i32_132 v201
  v202.toNat
def k0_dev15 (d0 : Dev nD) : Nat :=
  let c0_i32_141 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v203 : BitVec 32 := Scalar.addi v2 c15_i32
  let c32_i32_133 : BitVec 32 := 32#32
  let c0_i32_134 : BitVec 32 := 0#32
  let v204 : BitVec 1 := Scalar.cmpi .eq c32_i32_133 c0_i32_134
  let c1_i32_135 : BitVec 32 := 1#32
  let v205 : BitVec 32 := Scalar.select v204 c1_i32_135 c32_i32_133
  let v206 : BitVec 32 := Scalar.remsi v203 v205
  let c0_i32_137 : BitVec 32 := 0#32
  let v208 : BitVec 1 := Scalar.cmpi .slt v206 c0_i32_137
  let c0_i32_138 : BitVec 32 := 0#32
  let v209 : BitVec 1 := Scalar.cmpi .slt v205 c0_i32_138
  let v210 : BitVec 1 := Scalar.xori v208 v209
  let c0_i32_136 : BitVec 32 := 0#32
  let v207 : BitVec 1 := Scalar.cmpi .ne v206 c0_i32_136
  let v211 : BitVec 1 := Scalar.andi v210 v207
  let v212 : BitVec 32 := Scalar.addi v206 v205
  let v213 : BitVec 32 := Scalar.select v211 v212 v206
  let c1_i32_140 : BitVec 32 := 1#32
  let v214 : BitVec 32 := Scalar.muli v213 c1_i32_140
  let v215 : BitVec 32 := Scalar.addi c0_i32_141 v214
  v215.toNat
def k0_dev16 (d0 : Dev nD) : Nat :=
  let c0_i32_150 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v216 : BitVec 32 := Scalar.addi v2 c16_i32
  let c32_i32_142 : BitVec 32 := 32#32
  let c0_i32_143 : BitVec 32 := 0#32
  let v217 : BitVec 1 := Scalar.cmpi .eq c32_i32_142 c0_i32_143
  let c1_i32_144 : BitVec 32 := 1#32
  let v218 : BitVec 32 := Scalar.select v217 c1_i32_144 c32_i32_142
  let v219 : BitVec 32 := Scalar.remsi v216 v218
  let c0_i32_146 : BitVec 32 := 0#32
  let v221 : BitVec 1 := Scalar.cmpi .slt v219 c0_i32_146
  let c0_i32_147 : BitVec 32 := 0#32
  let v222 : BitVec 1 := Scalar.cmpi .slt v218 c0_i32_147
  let v223 : BitVec 1 := Scalar.xori v221 v222
  let c0_i32_145 : BitVec 32 := 0#32
  let v220 : BitVec 1 := Scalar.cmpi .ne v219 c0_i32_145
  let v224 : BitVec 1 := Scalar.andi v223 v220
  let v225 : BitVec 32 := Scalar.addi v219 v218
  let v226 : BitVec 32 := Scalar.select v224 v225 v219
  let c1_i32_149 : BitVec 32 := 1#32
  let v227 : BitVec 32 := Scalar.muli v226 c1_i32_149
  let v228 : BitVec 32 := Scalar.addi c0_i32_150 v227
  v228.toNat
def k0_dev17 (d0 : Dev nD) : Nat :=
  let c0_i32_159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v229 : BitVec 32 := Scalar.addi v2 c17_i32
  let c32_i32_151 : BitVec 32 := 32#32
  let c0_i32_152 : BitVec 32 := 0#32
  let v230 : BitVec 1 := Scalar.cmpi .eq c32_i32_151 c0_i32_152
  let c1_i32_153 : BitVec 32 := 1#32
  let v231 : BitVec 32 := Scalar.select v230 c1_i32_153 c32_i32_151
  let v232 : BitVec 32 := Scalar.remsi v229 v231
  let c0_i32_155 : BitVec 32 := 0#32
  let v234 : BitVec 1 := Scalar.cmpi .slt v232 c0_i32_155
  let c0_i32_156 : BitVec 32 := 0#32
  let v235 : BitVec 1 := Scalar.cmpi .slt v231 c0_i32_156
  let v236 : BitVec 1 := Scalar.xori v234 v235
  let c0_i32_154 : BitVec 32 := 0#32
  let v233 : BitVec 1 := Scalar.cmpi .ne v232 c0_i32_154
  let v237 : BitVec 1 := Scalar.andi v236 v233
  let v238 : BitVec 32 := Scalar.addi v232 v231
  let v239 : BitVec 32 := Scalar.select v237 v238 v232
  let c1_i32_158 : BitVec 32 := 1#32
  let v240 : BitVec 32 := Scalar.muli v239 c1_i32_158
  let v241 : BitVec 32 := Scalar.addi c0_i32_159 v240
  v241.toNat
def k0_dev18 (d0 : Dev nD) : Nat :=
  let c0_i32_168 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v242 : BitVec 32 := Scalar.addi v2 c18_i32
  let c32_i32_160 : BitVec 32 := 32#32
  let c0_i32_161 : BitVec 32 := 0#32
  let v243 : BitVec 1 := Scalar.cmpi .eq c32_i32_160 c0_i32_161
  let c1_i32_162 : BitVec 32 := 1#32
  let v244 : BitVec 32 := Scalar.select v243 c1_i32_162 c32_i32_160
  let v245 : BitVec 32 := Scalar.remsi v242 v244
  let c0_i32_164 : BitVec 32 := 0#32
  let v247 : BitVec 1 := Scalar.cmpi .slt v245 c0_i32_164
  let c0_i32_165 : BitVec 32 := 0#32
  let v248 : BitVec 1 := Scalar.cmpi .slt v244 c0_i32_165
  let v249 : BitVec 1 := Scalar.xori v247 v248
  let c0_i32_163 : BitVec 32 := 0#32
  let v246 : BitVec 1 := Scalar.cmpi .ne v245 c0_i32_163
  let v250 : BitVec 1 := Scalar.andi v249 v246
  let v251 : BitVec 32 := Scalar.addi v245 v244
  let v252 : BitVec 32 := Scalar.select v250 v251 v245
  let c1_i32_167 : BitVec 32 := 1#32
  let v253 : BitVec 32 := Scalar.muli v252 c1_i32_167
  let v254 : BitVec 32 := Scalar.addi c0_i32_168 v253
  v254.toNat
def k0_dev19 (d0 : Dev nD) : Nat :=
  let c0_i32_177 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v255 : BitVec 32 := Scalar.addi v2 c19_i32
  let c32_i32_169 : BitVec 32 := 32#32
  let c0_i32_170 : BitVec 32 := 0#32
  let v256 : BitVec 1 := Scalar.cmpi .eq c32_i32_169 c0_i32_170
  let c1_i32_171 : BitVec 32 := 1#32
  let v257 : BitVec 32 := Scalar.select v256 c1_i32_171 c32_i32_169
  let v258 : BitVec 32 := Scalar.remsi v255 v257
  let c0_i32_173 : BitVec 32 := 0#32
  let v260 : BitVec 1 := Scalar.cmpi .slt v258 c0_i32_173
  let c0_i32_174 : BitVec 32 := 0#32
  let v261 : BitVec 1 := Scalar.cmpi .slt v257 c0_i32_174
  let v262 : BitVec 1 := Scalar.xori v260 v261
  let c0_i32_172 : BitVec 32 := 0#32
  let v259 : BitVec 1 := Scalar.cmpi .ne v258 c0_i32_172
  let v263 : BitVec 1 := Scalar.andi v262 v259
  let v264 : BitVec 32 := Scalar.addi v258 v257
  let v265 : BitVec 32 := Scalar.select v263 v264 v258
  let c1_i32_176 : BitVec 32 := 1#32
  let v266 : BitVec 32 := Scalar.muli v265 c1_i32_176
  let v267 : BitVec 32 := Scalar.addi c0_i32_177 v266
  v267.toNat
def k0_dev20 (d0 : Dev nD) : Nat :=
  let c0_i32_186 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v268 : BitVec 32 := Scalar.addi v2 c20_i32
  let c32_i32_178 : BitVec 32 := 32#32
  let c0_i32_179 : BitVec 32 := 0#32
  let v269 : BitVec 1 := Scalar.cmpi .eq c32_i32_178 c0_i32_179
  let c1_i32_180 : BitVec 32 := 1#32
  let v270 : BitVec 32 := Scalar.select v269 c1_i32_180 c32_i32_178
  let v271 : BitVec 32 := Scalar.remsi v268 v270
  let c0_i32_182 : BitVec 32 := 0#32
  let v273 : BitVec 1 := Scalar.cmpi .slt v271 c0_i32_182
  let c0_i32_183 : BitVec 32 := 0#32
  let v274 : BitVec 1 := Scalar.cmpi .slt v270 c0_i32_183
  let v275 : BitVec 1 := Scalar.xori v273 v274
  let c0_i32_181 : BitVec 32 := 0#32
  let v272 : BitVec 1 := Scalar.cmpi .ne v271 c0_i32_181
  let v276 : BitVec 1 := Scalar.andi v275 v272
  let v277 : BitVec 32 := Scalar.addi v271 v270
  let v278 : BitVec 32 := Scalar.select v276 v277 v271
  let c1_i32_185 : BitVec 32 := 1#32
  let v279 : BitVec 32 := Scalar.muli v278 c1_i32_185
  let v280 : BitVec 32 := Scalar.addi c0_i32_186 v279
  v280.toNat
def k0_dev21 (d0 : Dev nD) : Nat :=
  let c0_i32_195 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v281 : BitVec 32 := Scalar.addi v2 c21_i32
  let c32_i32_187 : BitVec 32 := 32#32
  let c0_i32_188 : BitVec 32 := 0#32
  let v282 : BitVec 1 := Scalar.cmpi .eq c32_i32_187 c0_i32_188
  let c1_i32_189 : BitVec 32 := 1#32
  let v283 : BitVec 32 := Scalar.select v282 c1_i32_189 c32_i32_187
  let v284 : BitVec 32 := Scalar.remsi v281 v283
  let c0_i32_191 : BitVec 32 := 0#32
  let v286 : BitVec 1 := Scalar.cmpi .slt v284 c0_i32_191
  let c0_i32_192 : BitVec 32 := 0#32
  let v287 : BitVec 1 := Scalar.cmpi .slt v283 c0_i32_192
  let v288 : BitVec 1 := Scalar.xori v286 v287
  let c0_i32_190 : BitVec 32 := 0#32
  let v285 : BitVec 1 := Scalar.cmpi .ne v284 c0_i32_190
  let v289 : BitVec 1 := Scalar.andi v288 v285
  let v290 : BitVec 32 := Scalar.addi v284 v283
  let v291 : BitVec 32 := Scalar.select v289 v290 v284
  let c1_i32_194 : BitVec 32 := 1#32
  let v292 : BitVec 32 := Scalar.muli v291 c1_i32_194
  let v293 : BitVec 32 := Scalar.addi c0_i32_195 v292
  v293.toNat
def k0_dev22 (d0 : Dev nD) : Nat :=
  let c0_i32_204 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v294 : BitVec 32 := Scalar.addi v2 c22_i32
  let c32_i32_196 : BitVec 32 := 32#32
  let c0_i32_197 : BitVec 32 := 0#32
  let v295 : BitVec 1 := Scalar.cmpi .eq c32_i32_196 c0_i32_197
  let c1_i32_198 : BitVec 32 := 1#32
  let v296 : BitVec 32 := Scalar.select v295 c1_i32_198 c32_i32_196
  let v297 : BitVec 32 := Scalar.remsi v294 v296
  let c0_i32_200 : BitVec 32 := 0#32
  let v299 : BitVec 1 := Scalar.cmpi .slt v297 c0_i32_200
  let c0_i32_201 : BitVec 32 := 0#32
  let v300 : BitVec 1 := Scalar.cmpi .slt v296 c0_i32_201
  let v301 : BitVec 1 := Scalar.xori v299 v300
  let c0_i32_199 : BitVec 32 := 0#32
  let v298 : BitVec 1 := Scalar.cmpi .ne v297 c0_i32_199
  let v302 : BitVec 1 := Scalar.andi v301 v298
  let v303 : BitVec 32 := Scalar.addi v297 v296
  let v304 : BitVec 32 := Scalar.select v302 v303 v297
  let c1_i32_203 : BitVec 32 := 1#32
  let v305 : BitVec 32 := Scalar.muli v304 c1_i32_203
  let v306 : BitVec 32 := Scalar.addi c0_i32_204 v305
  v306.toNat
def k0_dev23 (d0 : Dev nD) : Nat :=
  let c0_i32_213 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v307 : BitVec 32 := Scalar.addi v2 c23_i32
  let c32_i32_205 : BitVec 32 := 32#32
  let c0_i32_206 : BitVec 32 := 0#32
  let v308 : BitVec 1 := Scalar.cmpi .eq c32_i32_205 c0_i32_206
  let c1_i32_207 : BitVec 32 := 1#32
  let v309 : BitVec 32 := Scalar.select v308 c1_i32_207 c32_i32_205
  let v310 : BitVec 32 := Scalar.remsi v307 v309
  let c0_i32_209 : BitVec 32 := 0#32
  let v312 : BitVec 1 := Scalar.cmpi .slt v310 c0_i32_209
  let c0_i32_210 : BitVec 32 := 0#32
  let v313 : BitVec 1 := Scalar.cmpi .slt v309 c0_i32_210
  let v314 : BitVec 1 := Scalar.xori v312 v313
  let c0_i32_208 : BitVec 32 := 0#32
  let v311 : BitVec 1 := Scalar.cmpi .ne v310 c0_i32_208
  let v315 : BitVec 1 := Scalar.andi v314 v311
  let v316 : BitVec 32 := Scalar.addi v310 v309
  let v317 : BitVec 32 := Scalar.select v315 v316 v310
  let c1_i32_212 : BitVec 32 := 1#32
  let v318 : BitVec 32 := Scalar.muli v317 c1_i32_212
  let v319 : BitVec 32 := Scalar.addi c0_i32_213 v318
  v319.toNat
def k0_dev24 (d0 : Dev nD) : Nat :=
  let c0_i32_222 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v320 : BitVec 32 := Scalar.addi v2 c24_i32
  let c32_i32_214 : BitVec 32 := 32#32
  let c0_i32_215 : BitVec 32 := 0#32
  let v321 : BitVec 1 := Scalar.cmpi .eq c32_i32_214 c0_i32_215
  let c1_i32_216 : BitVec 32 := 1#32
  let v322 : BitVec 32 := Scalar.select v321 c1_i32_216 c32_i32_214
  let v323 : BitVec 32 := Scalar.remsi v320 v322
  let c0_i32_218 : BitVec 32 := 0#32
  let v325 : BitVec 1 := Scalar.cmpi .slt v323 c0_i32_218
  let c0_i32_219 : BitVec 32 := 0#32
  let v326 : BitVec 1 := Scalar.cmpi .slt v322 c0_i32_219
  let v327 : BitVec 1 := Scalar.xori v325 v326
  let c0_i32_217 : BitVec 32 := 0#32
  let v324 : BitVec 1 := Scalar.cmpi .ne v323 c0_i32_217
  let v328 : BitVec 1 := Scalar.andi v327 v324
  let v329 : BitVec 32 := Scalar.addi v323 v322
  let v330 : BitVec 32 := Scalar.select v328 v329 v323
  let c1_i32_221 : BitVec 32 := 1#32
  let v331 : BitVec 32 := Scalar.muli v330 c1_i32_221
  let v332 : BitVec 32 := Scalar.addi c0_i32_222 v331
  v332.toNat
def k0_dev25 (d0 : Dev nD) : Nat :=
  let c0_i32_231 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v333 : BitVec 32 := Scalar.addi v2 c25_i32
  let c32_i32_223 : BitVec 32 := 32#32
  let c0_i32_224 : BitVec 32 := 0#32
  let v334 : BitVec 1 := Scalar.cmpi .eq c32_i32_223 c0_i32_224
  let c1_i32_225 : BitVec 32 := 1#32
  let v335 : BitVec 32 := Scalar.select v334 c1_i32_225 c32_i32_223
  let v336 : BitVec 32 := Scalar.remsi v333 v335
  let c0_i32_227 : BitVec 32 := 0#32
  let v338 : BitVec 1 := Scalar.cmpi .slt v336 c0_i32_227
  let c0_i32_228 : BitVec 32 := 0#32
  let v339 : BitVec 1 := Scalar.cmpi .slt v335 c0_i32_228
  let v340 : BitVec 1 := Scalar.xori v338 v339
  let c0_i32_226 : BitVec 32 := 0#32
  let v337 : BitVec 1 := Scalar.cmpi .ne v336 c0_i32_226
  let v341 : BitVec 1 := Scalar.andi v340 v337
  let v342 : BitVec 32 := Scalar.addi v336 v335
  let v343 : BitVec 32 := Scalar.select v341 v342 v336
  let c1_i32_230 : BitVec 32 := 1#32
  let v344 : BitVec 32 := Scalar.muli v343 c1_i32_230
  let v345 : BitVec 32 := Scalar.addi c0_i32_231 v344
  v345.toNat
def k0_dev26 (d0 : Dev nD) : Nat :=
  let c0_i32_240 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v346 : BitVec 32 := Scalar.addi v2 c26_i32
  let c32_i32_232 : BitVec 32 := 32#32
  let c0_i32_233 : BitVec 32 := 0#32
  let v347 : BitVec 1 := Scalar.cmpi .eq c32_i32_232 c0_i32_233
  let c1_i32_234 : BitVec 32 := 1#32
  let v348 : BitVec 32 := Scalar.select v347 c1_i32_234 c32_i32_232
  let v349 : BitVec 32 := Scalar.remsi v346 v348
  let c0_i32_236 : BitVec 32 := 0#32
  let v351 : BitVec 1 := Scalar.cmpi .slt v349 c0_i32_236
  let c0_i32_237 : BitVec 32 := 0#32
  let v352 : BitVec 1 := Scalar.cmpi .slt v348 c0_i32_237
  let v353 : BitVec 1 := Scalar.xori v351 v352
  let c0_i32_235 : BitVec 32 := 0#32
  let v350 : BitVec 1 := Scalar.cmpi .ne v349 c0_i32_235
  let v354 : BitVec 1 := Scalar.andi v353 v350
  let v355 : BitVec 32 := Scalar.addi v349 v348
  let v356 : BitVec 32 := Scalar.select v354 v355 v349
  let c1_i32_239 : BitVec 32 := 1#32
  let v357 : BitVec 32 := Scalar.muli v356 c1_i32_239
  let v358 : BitVec 32 := Scalar.addi c0_i32_240 v357
  v358.toNat
def k0_dev27 (d0 : Dev nD) : Nat :=
  let c0_i32_249 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v359 : BitVec 32 := Scalar.addi v2 c27_i32
  let c32_i32_241 : BitVec 32 := 32#32
  let c0_i32_242 : BitVec 32 := 0#32
  let v360 : BitVec 1 := Scalar.cmpi .eq c32_i32_241 c0_i32_242
  let c1_i32_243 : BitVec 32 := 1#32
  let v361 : BitVec 32 := Scalar.select v360 c1_i32_243 c32_i32_241
  let v362 : BitVec 32 := Scalar.remsi v359 v361
  let c0_i32_245 : BitVec 32 := 0#32
  let v364 : BitVec 1 := Scalar.cmpi .slt v362 c0_i32_245
  let c0_i32_246 : BitVec 32 := 0#32
  let v365 : BitVec 1 := Scalar.cmpi .slt v361 c0_i32_246
  let v366 : BitVec 1 := Scalar.xori v364 v365
  let c0_i32_244 : BitVec 32 := 0#32
  let v363 : BitVec 1 := Scalar.cmpi .ne v362 c0_i32_244
  let v367 : BitVec 1 := Scalar.andi v366 v363
  let v368 : BitVec 32 := Scalar.addi v362 v361
  let v369 : BitVec 32 := Scalar.select v367 v368 v362
  let c1_i32_248 : BitVec 32 := 1#32
  let v370 : BitVec 32 := Scalar.muli v369 c1_i32_248
  let v371 : BitVec 32 := Scalar.addi c0_i32_249 v370
  v371.toNat
def k0_dev28 (d0 : Dev nD) : Nat :=
  let c0_i32_258 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v372 : BitVec 32 := Scalar.addi v2 c28_i32
  let c32_i32_250 : BitVec 32 := 32#32
  let c0_i32_251 : BitVec 32 := 0#32
  let v373 : BitVec 1 := Scalar.cmpi .eq c32_i32_250 c0_i32_251
  let c1_i32_252 : BitVec 32 := 1#32
  let v374 : BitVec 32 := Scalar.select v373 c1_i32_252 c32_i32_250
  let v375 : BitVec 32 := Scalar.remsi v372 v374
  let c0_i32_254 : BitVec 32 := 0#32
  let v377 : BitVec 1 := Scalar.cmpi .slt v375 c0_i32_254
  let c0_i32_255 : BitVec 32 := 0#32
  let v378 : BitVec 1 := Scalar.cmpi .slt v374 c0_i32_255
  let v379 : BitVec 1 := Scalar.xori v377 v378
  let c0_i32_253 : BitVec 32 := 0#32
  let v376 : BitVec 1 := Scalar.cmpi .ne v375 c0_i32_253
  let v380 : BitVec 1 := Scalar.andi v379 v376
  let v381 : BitVec 32 := Scalar.addi v375 v374
  let v382 : BitVec 32 := Scalar.select v380 v381 v375
  let c1_i32_257 : BitVec 32 := 1#32
  let v383 : BitVec 32 := Scalar.muli v382 c1_i32_257
  let v384 : BitVec 32 := Scalar.addi c0_i32_258 v383
  v384.toNat
def k0_dev29 (d0 : Dev nD) : Nat :=
  let c0_i32_267 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v385 : BitVec 32 := Scalar.addi v2 c29_i32
  let c32_i32_259 : BitVec 32 := 32#32
  let c0_i32_260 : BitVec 32 := 0#32
  let v386 : BitVec 1 := Scalar.cmpi .eq c32_i32_259 c0_i32_260
  let c1_i32_261 : BitVec 32 := 1#32
  let v387 : BitVec 32 := Scalar.select v386 c1_i32_261 c32_i32_259
  let v388 : BitVec 32 := Scalar.remsi v385 v387
  let c0_i32_263 : BitVec 32 := 0#32
  let v390 : BitVec 1 := Scalar.cmpi .slt v388 c0_i32_263
  let c0_i32_264 : BitVec 32 := 0#32
  let v391 : BitVec 1 := Scalar.cmpi .slt v387 c0_i32_264
  let v392 : BitVec 1 := Scalar.xori v390 v391
  let c0_i32_262 : BitVec 32 := 0#32
  let v389 : BitVec 1 := Scalar.cmpi .ne v388 c0_i32_262
  let v393 : BitVec 1 := Scalar.andi v392 v389
  let v394 : BitVec 32 := Scalar.addi v388 v387
  let v395 : BitVec 32 := Scalar.select v393 v394 v388
  let c1_i32_266 : BitVec 32 := 1#32
  let v396 : BitVec 32 := Scalar.muli v395 c1_i32_266
  let v397 : BitVec 32 := Scalar.addi c0_i32_267 v396
  v397.toNat
def k0_dev30 (d0 : Dev nD) : Nat :=
  let c0_i32_276 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v398 : BitVec 32 := Scalar.addi v2 c30_i32
  let c32_i32_268 : BitVec 32 := 32#32
  let c0_i32_269 : BitVec 32 := 0#32
  let v399 : BitVec 1 := Scalar.cmpi .eq c32_i32_268 c0_i32_269
  let c1_i32_270 : BitVec 32 := 1#32
  let v400 : BitVec 32 := Scalar.select v399 c1_i32_270 c32_i32_268
  let v401 : BitVec 32 := Scalar.remsi v398 v400
  let c0_i32_272 : BitVec 32 := 0#32
  let v403 : BitVec 1 := Scalar.cmpi .slt v401 c0_i32_272
  let c0_i32_273 : BitVec 32 := 0#32
  let v404 : BitVec 1 := Scalar.cmpi .slt v400 c0_i32_273
  let v405 : BitVec 1 := Scalar.xori v403 v404
  let c0_i32_271 : BitVec 32 := 0#32
  let v402 : BitVec 1 := Scalar.cmpi .ne v401 c0_i32_271
  let v406 : BitVec 1 := Scalar.andi v405 v402
  let v407 : BitVec 32 := Scalar.addi v401 v400
  let v408 : BitVec 32 := Scalar.select v406 v407 v401
  let c1_i32_275 : BitVec 32 := 1#32
  let v409 : BitVec 32 := Scalar.muli v408 c1_i32_275
  let v410 : BitVec 32 := Scalar.addi c0_i32_276 v409
  v410.toNat
def k0_dev31 (d0 : Dev nD) : Nat :=
  let c0_i32_285 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v411 : BitVec 32 := Scalar.addi v2 c31_i32
  let c32_i32_277 : BitVec 32 := 32#32
  let c0_i32_278 : BitVec 32 := 0#32
  let v412 : BitVec 1 := Scalar.cmpi .eq c32_i32_277 c0_i32_278
  let c1_i32_279 : BitVec 32 := 1#32
  let v413 : BitVec 32 := Scalar.select v412 c1_i32_279 c32_i32_277
  let v414 : BitVec 32 := Scalar.remsi v411 v413
  let c0_i32_281 : BitVec 32 := 0#32
  let v416 : BitVec 1 := Scalar.cmpi .slt v414 c0_i32_281
  let c0_i32_282 : BitVec 32 := 0#32
  let v417 : BitVec 1 := Scalar.cmpi .slt v413 c0_i32_282
  let v418 : BitVec 1 := Scalar.xori v416 v417
  let c0_i32_280 : BitVec 32 := 0#32
  let v415 : BitVec 1 := Scalar.cmpi .ne v414 c0_i32_280
  let v419 : BitVec 1 := Scalar.andi v418 v415
  let v420 : BitVec 32 := Scalar.addi v414 v413
  let v421 : BitVec 32 := Scalar.select v419 v420 v414
  let c1_i32_284 : BitVec 32 := 1#32
  let v422 : BitVec 32 := Scalar.muli v421 c1_i32_284
  let v423 : BitVec 32 := Scalar.addi c0_i32_285 v422
  v423.toNat
def k0_off1 (d0 : Dev nD) (c0_i32_286 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v424 : BitVec 32 := Scalar.addi v19 c0_i32_286
  let c4_i32_287 : BitVec 32 := 4#32
  let c0_i32_288 : BitVec 32 := 0#32
  let v425 : BitVec 1 := Scalar.cmpi .eq c4_i32_287 c0_i32_288
  let c1_i32_289 : BitVec 32 := 1#32
  let v426 : BitVec 32 := Scalar.select v425 c1_i32_289 c4_i32_287
  let v427 : BitVec 32 := Scalar.remsi v424 v426
  let c0_i32_291 : BitVec 32 := 0#32
  let v429 : BitVec 1 := Scalar.cmpi .slt v427 c0_i32_291
  let c0_i32_292 : BitVec 32 := 0#32
  let v430 : BitVec 1 := Scalar.cmpi .slt v426 c0_i32_292
  let v431 : BitVec 1 := Scalar.xori v429 v430
  let c0_i32_290 : BitVec 32 := 0#32
  let v428 : BitVec 1 := Scalar.cmpi .ne v427 c0_i32_290
  let v432 : BitVec 1 := Scalar.andi v431 v428
  let v433 : BitVec 32 := Scalar.addi v427 v426
  let v434 : BitVec 32 := Scalar.select v432 v433 v427
  let c1024_i32 : BitVec 32 := 1024#32
  let v435 : BitVec 32 := Scalar.muli v434 c1024_i32
  let c0_i32_297 : BitVec 32 := 0#32
  ![v435.toNat, 0]
def k0_off2 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_327 : BitVec 32 := 0#32
  let c0_i32_328 : BitVec 32 := 0#32
  ![v2.toNat, 0, 0]
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v480 : BitVec 32 := Scalar.muli v2 c128_i32
  let c0_i32_329 : BitVec 32 := 0#32
  ![v480.toNat, 0]
def k0_off5 (d0 : Dev nD) (c1_i32_331 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v486 : BitVec 32 := Scalar.addi v2 c1_i32_331
  let c32_i32_332 : BitVec 32 := 32#32
  let c0_i32_333 : BitVec 32 := 0#32
  let v487 : BitVec 1 := Scalar.cmpi .eq c32_i32_332 c0_i32_333
  let c1_i32_334 : BitVec 32 := 1#32
  let v488 : BitVec 32 := Scalar.select v487 c1_i32_334 c32_i32_332
  let v489 : BitVec 32 := Scalar.remsi v486 v488
  let c0_i32_336 : BitVec 32 := 0#32
  let v491 : BitVec 1 := Scalar.cmpi .slt v489 c0_i32_336
  let c0_i32_337 : BitVec 32 := 0#32
  let v492 : BitVec 1 := Scalar.cmpi .slt v488 c0_i32_337
  let v493 : BitVec 1 := Scalar.xori v491 v492
  let c0_i32_335 : BitVec 32 := 0#32
  let v490 : BitVec 1 := Scalar.cmpi .ne v489 c0_i32_335
  let v494 : BitVec 1 := Scalar.andi v493 v490
  let v495 : BitVec 32 := Scalar.addi v489 v488
  let v496 : BitVec 32 := Scalar.select v494 v495 v489
  let c128_i32_338 : BitVec 32 := 128#32
  let v497 : BitVec 32 := Scalar.muli v496 c128_i32_338
  let c0_i32_344 : BitVec 32 := 0#32
  ![v497.toNat, 0]
def k0_dev32 (d0 : Dev nD) : Nat :=
  let c0_i32_341 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_331 : BitVec 32 := 1#32
  let v486 : BitVec 32 := Scalar.addi v2 c1_i32_331
  let c32_i32_332 : BitVec 32 := 32#32
  let c0_i32_333 : BitVec 32 := 0#32
  let v487 : BitVec 1 := Scalar.cmpi .eq c32_i32_332 c0_i32_333
  let c1_i32_334 : BitVec 32 := 1#32
  let v488 : BitVec 32 := Scalar.select v487 c1_i32_334 c32_i32_332
  let v489 : BitVec 32 := Scalar.remsi v486 v488
  let c0_i32_336 : BitVec 32 := 0#32
  let v491 : BitVec 1 := Scalar.cmpi .slt v489 c0_i32_336
  let c0_i32_337 : BitVec 32 := 0#32
  let v492 : BitVec 1 := Scalar.cmpi .slt v488 c0_i32_337
  let v493 : BitVec 1 := Scalar.xori v491 v492
  let c0_i32_335 : BitVec 32 := 0#32
  let v490 : BitVec 1 := Scalar.cmpi .ne v489 c0_i32_335
  let v494 : BitVec 1 := Scalar.andi v493 v490
  let v495 : BitVec 32 := Scalar.addi v489 v488
  let v496 : BitVec 32 := Scalar.select v494 v495 v489
  let c1_i32_340 : BitVec 32 := 1#32
  let v498 : BitVec 32 := Scalar.muli v496 c1_i32_340
  let v499 : BitVec 32 := Scalar.addi c0_i32_341 v498
  v499.toNat
def k0_dev33 (d0 : Dev nD) : Nat :=
  let c0_i32_355 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_345 : BitVec 32 := 2#32
  let v507 : BitVec 32 := Scalar.addi v2 c2_i32_345
  let c32_i32_346 : BitVec 32 := 32#32
  let c0_i32_347 : BitVec 32 := 0#32
  let v508 : BitVec 1 := Scalar.cmpi .eq c32_i32_346 c0_i32_347
  let c1_i32_348 : BitVec 32 := 1#32
  let v509 : BitVec 32 := Scalar.select v508 c1_i32_348 c32_i32_346
  let v510 : BitVec 32 := Scalar.remsi v507 v509
  let c0_i32_350 : BitVec 32 := 0#32
  let v512 : BitVec 1 := Scalar.cmpi .slt v510 c0_i32_350
  let c0_i32_351 : BitVec 32 := 0#32
  let v513 : BitVec 1 := Scalar.cmpi .slt v509 c0_i32_351
  let v514 : BitVec 1 := Scalar.xori v512 v513
  let c0_i32_349 : BitVec 32 := 0#32
  let v511 : BitVec 1 := Scalar.cmpi .ne v510 c0_i32_349
  let v515 : BitVec 1 := Scalar.andi v514 v511
  let v516 : BitVec 32 := Scalar.addi v510 v509
  let v517 : BitVec 32 := Scalar.select v515 v516 v510
  let c1_i32_354 : BitVec 32 := 1#32
  let v519 : BitVec 32 := Scalar.muli v517 c1_i32_354
  let v520 : BitVec 32 := Scalar.addi c0_i32_355 v519
  v520.toNat
def k0_dev34 (d0 : Dev nD) : Nat :=
  let c0_i32_369 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_359 : BitVec 32 := 3#32
  let v528 : BitVec 32 := Scalar.addi v2 c3_i32_359
  let c32_i32_360 : BitVec 32 := 32#32
  let c0_i32_361 : BitVec 32 := 0#32
  let v529 : BitVec 1 := Scalar.cmpi .eq c32_i32_360 c0_i32_361
  let c1_i32_362 : BitVec 32 := 1#32
  let v530 : BitVec 32 := Scalar.select v529 c1_i32_362 c32_i32_360
  let v531 : BitVec 32 := Scalar.remsi v528 v530
  let c0_i32_364 : BitVec 32 := 0#32
  let v533 : BitVec 1 := Scalar.cmpi .slt v531 c0_i32_364
  let c0_i32_365 : BitVec 32 := 0#32
  let v534 : BitVec 1 := Scalar.cmpi .slt v530 c0_i32_365
  let v535 : BitVec 1 := Scalar.xori v533 v534
  let c0_i32_363 : BitVec 32 := 0#32
  let v532 : BitVec 1 := Scalar.cmpi .ne v531 c0_i32_363
  let v536 : BitVec 1 := Scalar.andi v535 v532
  let v537 : BitVec 32 := Scalar.addi v531 v530
  let v538 : BitVec 32 := Scalar.select v536 v537 v531
  let c1_i32_368 : BitVec 32 := 1#32
  let v540 : BitVec 32 := Scalar.muli v538 c1_i32_368
  let v541 : BitVec 32 := Scalar.addi c0_i32_369 v540
  v541.toNat
def k0_dev35 (d0 : Dev nD) : Nat :=
  let c0_i32_383 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_373 : BitVec 32 := 4#32
  let v549 : BitVec 32 := Scalar.addi v2 c4_i32_373
  let c32_i32_374 : BitVec 32 := 32#32
  let c0_i32_375 : BitVec 32 := 0#32
  let v550 : BitVec 1 := Scalar.cmpi .eq c32_i32_374 c0_i32_375
  let c1_i32_376 : BitVec 32 := 1#32
  let v551 : BitVec 32 := Scalar.select v550 c1_i32_376 c32_i32_374
  let v552 : BitVec 32 := Scalar.remsi v549 v551
  let c0_i32_378 : BitVec 32 := 0#32
  let v554 : BitVec 1 := Scalar.cmpi .slt v552 c0_i32_378
  let c0_i32_379 : BitVec 32 := 0#32
  let v555 : BitVec 1 := Scalar.cmpi .slt v551 c0_i32_379
  let v556 : BitVec 1 := Scalar.xori v554 v555
  let c0_i32_377 : BitVec 32 := 0#32
  let v553 : BitVec 1 := Scalar.cmpi .ne v552 c0_i32_377
  let v557 : BitVec 1 := Scalar.andi v556 v553
  let v558 : BitVec 32 := Scalar.addi v552 v551
  let v559 : BitVec 32 := Scalar.select v557 v558 v552
  let c1_i32_382 : BitVec 32 := 1#32
  let v561 : BitVec 32 := Scalar.muli v559 c1_i32_382
  let v562 : BitVec 32 := Scalar.addi c0_i32_383 v561
  v562.toNat
def k0_dev36 (d0 : Dev nD) : Nat :=
  let c0_i32_397 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_387 : BitVec 32 := 5#32
  let v570 : BitVec 32 := Scalar.addi v2 c5_i32_387
  let c32_i32_388 : BitVec 32 := 32#32
  let c0_i32_389 : BitVec 32 := 0#32
  let v571 : BitVec 1 := Scalar.cmpi .eq c32_i32_388 c0_i32_389
  let c1_i32_390 : BitVec 32 := 1#32
  let v572 : BitVec 32 := Scalar.select v571 c1_i32_390 c32_i32_388
  let v573 : BitVec 32 := Scalar.remsi v570 v572
  let c0_i32_392 : BitVec 32 := 0#32
  let v575 : BitVec 1 := Scalar.cmpi .slt v573 c0_i32_392
  let c0_i32_393 : BitVec 32 := 0#32
  let v576 : BitVec 1 := Scalar.cmpi .slt v572 c0_i32_393
  let v577 : BitVec 1 := Scalar.xori v575 v576
  let c0_i32_391 : BitVec 32 := 0#32
  let v574 : BitVec 1 := Scalar.cmpi .ne v573 c0_i32_391
  let v578 : BitVec 1 := Scalar.andi v577 v574
  let v579 : BitVec 32 := Scalar.addi v573 v572
  let v580 : BitVec 32 := Scalar.select v578 v579 v573
  let c1_i32_396 : BitVec 32 := 1#32
  let v582 : BitVec 32 := Scalar.muli v580 c1_i32_396
  let v583 : BitVec 32 := Scalar.addi c0_i32_397 v582
  v583.toNat
def k0_dev37 (d0 : Dev nD) : Nat :=
  let c0_i32_411 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_401 : BitVec 32 := 6#32
  let v591 : BitVec 32 := Scalar.addi v2 c6_i32_401
  let c32_i32_402 : BitVec 32 := 32#32
  let c0_i32_403 : BitVec 32 := 0#32
  let v592 : BitVec 1 := Scalar.cmpi .eq c32_i32_402 c0_i32_403
  let c1_i32_404 : BitVec 32 := 1#32
  let v593 : BitVec 32 := Scalar.select v592 c1_i32_404 c32_i32_402
  let v594 : BitVec 32 := Scalar.remsi v591 v593
  let c0_i32_406 : BitVec 32 := 0#32
  let v596 : BitVec 1 := Scalar.cmpi .slt v594 c0_i32_406
  let c0_i32_407 : BitVec 32 := 0#32
  let v597 : BitVec 1 := Scalar.cmpi .slt v593 c0_i32_407
  let v598 : BitVec 1 := Scalar.xori v596 v597
  let c0_i32_405 : BitVec 32 := 0#32
  let v595 : BitVec 1 := Scalar.cmpi .ne v594 c0_i32_405
  let v599 : BitVec 1 := Scalar.andi v598 v595
  let v600 : BitVec 32 := Scalar.addi v594 v593
  let v601 : BitVec 32 := Scalar.select v599 v600 v594
  let c1_i32_410 : BitVec 32 := 1#32
  let v603 : BitVec 32 := Scalar.muli v601 c1_i32_410
  let v604 : BitVec 32 := Scalar.addi c0_i32_411 v603
  v604.toNat
def k0_dev38 (d0 : Dev nD) : Nat :=
  let c0_i32_425 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_415 : BitVec 32 := 7#32
  let v612 : BitVec 32 := Scalar.addi v2 c7_i32_415
  let c32_i32_416 : BitVec 32 := 32#32
  let c0_i32_417 : BitVec 32 := 0#32
  let v613 : BitVec 1 := Scalar.cmpi .eq c32_i32_416 c0_i32_417
  let c1_i32_418 : BitVec 32 := 1#32
  let v614 : BitVec 32 := Scalar.select v613 c1_i32_418 c32_i32_416
  let v615 : BitVec 32 := Scalar.remsi v612 v614
  let c0_i32_420 : BitVec 32 := 0#32
  let v617 : BitVec 1 := Scalar.cmpi .slt v615 c0_i32_420
  let c0_i32_421 : BitVec 32 := 0#32
  let v618 : BitVec 1 := Scalar.cmpi .slt v614 c0_i32_421
  let v619 : BitVec 1 := Scalar.xori v617 v618
  let c0_i32_419 : BitVec 32 := 0#32
  let v616 : BitVec 1 := Scalar.cmpi .ne v615 c0_i32_419
  let v620 : BitVec 1 := Scalar.andi v619 v616
  let v621 : BitVec 32 := Scalar.addi v615 v614
  let v622 : BitVec 32 := Scalar.select v620 v621 v615
  let c1_i32_424 : BitVec 32 := 1#32
  let v624 : BitVec 32 := Scalar.muli v622 c1_i32_424
  let v625 : BitVec 32 := Scalar.addi c0_i32_425 v624
  v625.toNat
def k0_dev39 (d0 : Dev nD) : Nat :=
  let c0_i32_439 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_429 : BitVec 32 := 8#32
  let v633 : BitVec 32 := Scalar.addi v2 c8_i32_429
  let c32_i32_430 : BitVec 32 := 32#32
  let c0_i32_431 : BitVec 32 := 0#32
  let v634 : BitVec 1 := Scalar.cmpi .eq c32_i32_430 c0_i32_431
  let c1_i32_432 : BitVec 32 := 1#32
  let v635 : BitVec 32 := Scalar.select v634 c1_i32_432 c32_i32_430
  let v636 : BitVec 32 := Scalar.remsi v633 v635
  let c0_i32_434 : BitVec 32 := 0#32
  let v638 : BitVec 1 := Scalar.cmpi .slt v636 c0_i32_434
  let c0_i32_435 : BitVec 32 := 0#32
  let v639 : BitVec 1 := Scalar.cmpi .slt v635 c0_i32_435
  let v640 : BitVec 1 := Scalar.xori v638 v639
  let c0_i32_433 : BitVec 32 := 0#32
  let v637 : BitVec 1 := Scalar.cmpi .ne v636 c0_i32_433
  let v641 : BitVec 1 := Scalar.andi v640 v637
  let v642 : BitVec 32 := Scalar.addi v636 v635
  let v643 : BitVec 32 := Scalar.select v641 v642 v636
  let c1_i32_438 : BitVec 32 := 1#32
  let v645 : BitVec 32 := Scalar.muli v643 c1_i32_438
  let v646 : BitVec 32 := Scalar.addi c0_i32_439 v645
  v646.toNat
def k0_dev40 (d0 : Dev nD) : Nat :=
  let c0_i32_453 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_443 : BitVec 32 := 9#32
  let v654 : BitVec 32 := Scalar.addi v2 c9_i32_443
  let c32_i32_444 : BitVec 32 := 32#32
  let c0_i32_445 : BitVec 32 := 0#32
  let v655 : BitVec 1 := Scalar.cmpi .eq c32_i32_444 c0_i32_445
  let c1_i32_446 : BitVec 32 := 1#32
  let v656 : BitVec 32 := Scalar.select v655 c1_i32_446 c32_i32_444
  let v657 : BitVec 32 := Scalar.remsi v654 v656
  let c0_i32_448 : BitVec 32 := 0#32
  let v659 : BitVec 1 := Scalar.cmpi .slt v657 c0_i32_448
  let c0_i32_449 : BitVec 32 := 0#32
  let v660 : BitVec 1 := Scalar.cmpi .slt v656 c0_i32_449
  let v661 : BitVec 1 := Scalar.xori v659 v660
  let c0_i32_447 : BitVec 32 := 0#32
  let v658 : BitVec 1 := Scalar.cmpi .ne v657 c0_i32_447
  let v662 : BitVec 1 := Scalar.andi v661 v658
  let v663 : BitVec 32 := Scalar.addi v657 v656
  let v664 : BitVec 32 := Scalar.select v662 v663 v657
  let c1_i32_452 : BitVec 32 := 1#32
  let v666 : BitVec 32 := Scalar.muli v664 c1_i32_452
  let v667 : BitVec 32 := Scalar.addi c0_i32_453 v666
  v667.toNat
def k0_dev41 (d0 : Dev nD) : Nat :=
  let c0_i32_467 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_457 : BitVec 32 := 10#32
  let v675 : BitVec 32 := Scalar.addi v2 c10_i32_457
  let c32_i32_458 : BitVec 32 := 32#32
  let c0_i32_459 : BitVec 32 := 0#32
  let v676 : BitVec 1 := Scalar.cmpi .eq c32_i32_458 c0_i32_459
  let c1_i32_460 : BitVec 32 := 1#32
  let v677 : BitVec 32 := Scalar.select v676 c1_i32_460 c32_i32_458
  let v678 : BitVec 32 := Scalar.remsi v675 v677
  let c0_i32_462 : BitVec 32 := 0#32
  let v680 : BitVec 1 := Scalar.cmpi .slt v678 c0_i32_462
  let c0_i32_463 : BitVec 32 := 0#32
  let v681 : BitVec 1 := Scalar.cmpi .slt v677 c0_i32_463
  let v682 : BitVec 1 := Scalar.xori v680 v681
  let c0_i32_461 : BitVec 32 := 0#32
  let v679 : BitVec 1 := Scalar.cmpi .ne v678 c0_i32_461
  let v683 : BitVec 1 := Scalar.andi v682 v679
  let v684 : BitVec 32 := Scalar.addi v678 v677
  let v685 : BitVec 32 := Scalar.select v683 v684 v678
  let c1_i32_466 : BitVec 32 := 1#32
  let v687 : BitVec 32 := Scalar.muli v685 c1_i32_466
  let v688 : BitVec 32 := Scalar.addi c0_i32_467 v687
  v688.toNat
def k0_dev42 (d0 : Dev nD) : Nat :=
  let c0_i32_481 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_471 : BitVec 32 := 11#32
  let v696 : BitVec 32 := Scalar.addi v2 c11_i32_471
  let c32_i32_472 : BitVec 32 := 32#32
  let c0_i32_473 : BitVec 32 := 0#32
  let v697 : BitVec 1 := Scalar.cmpi .eq c32_i32_472 c0_i32_473
  let c1_i32_474 : BitVec 32 := 1#32
  let v698 : BitVec 32 := Scalar.select v697 c1_i32_474 c32_i32_472
  let v699 : BitVec 32 := Scalar.remsi v696 v698
  let c0_i32_476 : BitVec 32 := 0#32
  let v701 : BitVec 1 := Scalar.cmpi .slt v699 c0_i32_476
  let c0_i32_477 : BitVec 32 := 0#32
  let v702 : BitVec 1 := Scalar.cmpi .slt v698 c0_i32_477
  let v703 : BitVec 1 := Scalar.xori v701 v702
  let c0_i32_475 : BitVec 32 := 0#32
  let v700 : BitVec 1 := Scalar.cmpi .ne v699 c0_i32_475
  let v704 : BitVec 1 := Scalar.andi v703 v700
  let v705 : BitVec 32 := Scalar.addi v699 v698
  let v706 : BitVec 32 := Scalar.select v704 v705 v699
  let c1_i32_480 : BitVec 32 := 1#32
  let v708 : BitVec 32 := Scalar.muli v706 c1_i32_480
  let v709 : BitVec 32 := Scalar.addi c0_i32_481 v708
  v709.toNat
def k0_dev43 (d0 : Dev nD) : Nat :=
  let c0_i32_495 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_485 : BitVec 32 := 12#32
  let v717 : BitVec 32 := Scalar.addi v2 c12_i32_485
  let c32_i32_486 : BitVec 32 := 32#32
  let c0_i32_487 : BitVec 32 := 0#32
  let v718 : BitVec 1 := Scalar.cmpi .eq c32_i32_486 c0_i32_487
  let c1_i32_488 : BitVec 32 := 1#32
  let v719 : BitVec 32 := Scalar.select v718 c1_i32_488 c32_i32_486
  let v720 : BitVec 32 := Scalar.remsi v717 v719
  let c0_i32_490 : BitVec 32 := 0#32
  let v722 : BitVec 1 := Scalar.cmpi .slt v720 c0_i32_490
  let c0_i32_491 : BitVec 32 := 0#32
  let v723 : BitVec 1 := Scalar.cmpi .slt v719 c0_i32_491
  let v724 : BitVec 1 := Scalar.xori v722 v723
  let c0_i32_489 : BitVec 32 := 0#32
  let v721 : BitVec 1 := Scalar.cmpi .ne v720 c0_i32_489
  let v725 : BitVec 1 := Scalar.andi v724 v721
  let v726 : BitVec 32 := Scalar.addi v720 v719
  let v727 : BitVec 32 := Scalar.select v725 v726 v720
  let c1_i32_494 : BitVec 32 := 1#32
  let v729 : BitVec 32 := Scalar.muli v727 c1_i32_494
  let v730 : BitVec 32 := Scalar.addi c0_i32_495 v729
  v730.toNat
def k0_dev44 (d0 : Dev nD) : Nat :=
  let c0_i32_509 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_499 : BitVec 32 := 13#32
  let v738 : BitVec 32 := Scalar.addi v2 c13_i32_499
  let c32_i32_500 : BitVec 32 := 32#32
  let c0_i32_501 : BitVec 32 := 0#32
  let v739 : BitVec 1 := Scalar.cmpi .eq c32_i32_500 c0_i32_501
  let c1_i32_502 : BitVec 32 := 1#32
  let v740 : BitVec 32 := Scalar.select v739 c1_i32_502 c32_i32_500
  let v741 : BitVec 32 := Scalar.remsi v738 v740
  let c0_i32_504 : BitVec 32 := 0#32
  let v743 : BitVec 1 := Scalar.cmpi .slt v741 c0_i32_504
  let c0_i32_505 : BitVec 32 := 0#32
  let v744 : BitVec 1 := Scalar.cmpi .slt v740 c0_i32_505
  let v745 : BitVec 1 := Scalar.xori v743 v744
  let c0_i32_503 : BitVec 32 := 0#32
  let v742 : BitVec 1 := Scalar.cmpi .ne v741 c0_i32_503
  let v746 : BitVec 1 := Scalar.andi v745 v742
  let v747 : BitVec 32 := Scalar.addi v741 v740
  let v748 : BitVec 32 := Scalar.select v746 v747 v741
  let c1_i32_508 : BitVec 32 := 1#32
  let v750 : BitVec 32 := Scalar.muli v748 c1_i32_508
  let v751 : BitVec 32 := Scalar.addi c0_i32_509 v750
  v751.toNat
def k0_dev45 (d0 : Dev nD) : Nat :=
  let c0_i32_523 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_513 : BitVec 32 := 14#32
  let v759 : BitVec 32 := Scalar.addi v2 c14_i32_513
  let c32_i32_514 : BitVec 32 := 32#32
  let c0_i32_515 : BitVec 32 := 0#32
  let v760 : BitVec 1 := Scalar.cmpi .eq c32_i32_514 c0_i32_515
  let c1_i32_516 : BitVec 32 := 1#32
  let v761 : BitVec 32 := Scalar.select v760 c1_i32_516 c32_i32_514
  let v762 : BitVec 32 := Scalar.remsi v759 v761
  let c0_i32_518 : BitVec 32 := 0#32
  let v764 : BitVec 1 := Scalar.cmpi .slt v762 c0_i32_518
  let c0_i32_519 : BitVec 32 := 0#32
  let v765 : BitVec 1 := Scalar.cmpi .slt v761 c0_i32_519
  let v766 : BitVec 1 := Scalar.xori v764 v765
  let c0_i32_517 : BitVec 32 := 0#32
  let v763 : BitVec 1 := Scalar.cmpi .ne v762 c0_i32_517
  let v767 : BitVec 1 := Scalar.andi v766 v763
  let v768 : BitVec 32 := Scalar.addi v762 v761
  let v769 : BitVec 32 := Scalar.select v767 v768 v762
  let c1_i32_522 : BitVec 32 := 1#32
  let v771 : BitVec 32 := Scalar.muli v769 c1_i32_522
  let v772 : BitVec 32 := Scalar.addi c0_i32_523 v771
  v772.toNat
def k0_dev46 (d0 : Dev nD) : Nat :=
  let c0_i32_537 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_527 : BitVec 32 := 15#32
  let v780 : BitVec 32 := Scalar.addi v2 c15_i32_527
  let c32_i32_528 : BitVec 32 := 32#32
  let c0_i32_529 : BitVec 32 := 0#32
  let v781 : BitVec 1 := Scalar.cmpi .eq c32_i32_528 c0_i32_529
  let c1_i32_530 : BitVec 32 := 1#32
  let v782 : BitVec 32 := Scalar.select v781 c1_i32_530 c32_i32_528
  let v783 : BitVec 32 := Scalar.remsi v780 v782
  let c0_i32_532 : BitVec 32 := 0#32
  let v785 : BitVec 1 := Scalar.cmpi .slt v783 c0_i32_532
  let c0_i32_533 : BitVec 32 := 0#32
  let v786 : BitVec 1 := Scalar.cmpi .slt v782 c0_i32_533
  let v787 : BitVec 1 := Scalar.xori v785 v786
  let c0_i32_531 : BitVec 32 := 0#32
  let v784 : BitVec 1 := Scalar.cmpi .ne v783 c0_i32_531
  let v788 : BitVec 1 := Scalar.andi v787 v784
  let v789 : BitVec 32 := Scalar.addi v783 v782
  let v790 : BitVec 32 := Scalar.select v788 v789 v783
  let c1_i32_536 : BitVec 32 := 1#32
  let v792 : BitVec 32 := Scalar.muli v790 c1_i32_536
  let v793 : BitVec 32 := Scalar.addi c0_i32_537 v792
  v793.toNat
def k0_dev47 (d0 : Dev nD) : Nat :=
  let c0_i32_551 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_541 : BitVec 32 := 16#32
  let v801 : BitVec 32 := Scalar.addi v2 c16_i32_541
  let c32_i32_542 : BitVec 32 := 32#32
  let c0_i32_543 : BitVec 32 := 0#32
  let v802 : BitVec 1 := Scalar.cmpi .eq c32_i32_542 c0_i32_543
  let c1_i32_544 : BitVec 32 := 1#32
  let v803 : BitVec 32 := Scalar.select v802 c1_i32_544 c32_i32_542
  let v804 : BitVec 32 := Scalar.remsi v801 v803
  let c0_i32_546 : BitVec 32 := 0#32
  let v806 : BitVec 1 := Scalar.cmpi .slt v804 c0_i32_546
  let c0_i32_547 : BitVec 32 := 0#32
  let v807 : BitVec 1 := Scalar.cmpi .slt v803 c0_i32_547
  let v808 : BitVec 1 := Scalar.xori v806 v807
  let c0_i32_545 : BitVec 32 := 0#32
  let v805 : BitVec 1 := Scalar.cmpi .ne v804 c0_i32_545
  let v809 : BitVec 1 := Scalar.andi v808 v805
  let v810 : BitVec 32 := Scalar.addi v804 v803
  let v811 : BitVec 32 := Scalar.select v809 v810 v804
  let c1_i32_550 : BitVec 32 := 1#32
  let v813 : BitVec 32 := Scalar.muli v811 c1_i32_550
  let v814 : BitVec 32 := Scalar.addi c0_i32_551 v813
  v814.toNat
def k0_dev48 (d0 : Dev nD) : Nat :=
  let c0_i32_565 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_555 : BitVec 32 := 17#32
  let v822 : BitVec 32 := Scalar.addi v2 c17_i32_555
  let c32_i32_556 : BitVec 32 := 32#32
  let c0_i32_557 : BitVec 32 := 0#32
  let v823 : BitVec 1 := Scalar.cmpi .eq c32_i32_556 c0_i32_557
  let c1_i32_558 : BitVec 32 := 1#32
  let v824 : BitVec 32 := Scalar.select v823 c1_i32_558 c32_i32_556
  let v825 : BitVec 32 := Scalar.remsi v822 v824
  let c0_i32_560 : BitVec 32 := 0#32
  let v827 : BitVec 1 := Scalar.cmpi .slt v825 c0_i32_560
  let c0_i32_561 : BitVec 32 := 0#32
  let v828 : BitVec 1 := Scalar.cmpi .slt v824 c0_i32_561
  let v829 : BitVec 1 := Scalar.xori v827 v828
  let c0_i32_559 : BitVec 32 := 0#32
  let v826 : BitVec 1 := Scalar.cmpi .ne v825 c0_i32_559
  let v830 : BitVec 1 := Scalar.andi v829 v826
  let v831 : BitVec 32 := Scalar.addi v825 v824
  let v832 : BitVec 32 := Scalar.select v830 v831 v825
  let c1_i32_564 : BitVec 32 := 1#32
  let v834 : BitVec 32 := Scalar.muli v832 c1_i32_564
  let v835 : BitVec 32 := Scalar.addi c0_i32_565 v834
  v835.toNat
def k0_dev49 (d0 : Dev nD) : Nat :=
  let c0_i32_579 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_569 : BitVec 32 := 18#32
  let v843 : BitVec 32 := Scalar.addi v2 c18_i32_569
  let c32_i32_570 : BitVec 32 := 32#32
  let c0_i32_571 : BitVec 32 := 0#32
  let v844 : BitVec 1 := Scalar.cmpi .eq c32_i32_570 c0_i32_571
  let c1_i32_572 : BitVec 32 := 1#32
  let v845 : BitVec 32 := Scalar.select v844 c1_i32_572 c32_i32_570
  let v846 : BitVec 32 := Scalar.remsi v843 v845
  let c0_i32_574 : BitVec 32 := 0#32
  let v848 : BitVec 1 := Scalar.cmpi .slt v846 c0_i32_574
  let c0_i32_575 : BitVec 32 := 0#32
  let v849 : BitVec 1 := Scalar.cmpi .slt v845 c0_i32_575
  let v850 : BitVec 1 := Scalar.xori v848 v849
  let c0_i32_573 : BitVec 32 := 0#32
  let v847 : BitVec 1 := Scalar.cmpi .ne v846 c0_i32_573
  let v851 : BitVec 1 := Scalar.andi v850 v847
  let v852 : BitVec 32 := Scalar.addi v846 v845
  let v853 : BitVec 32 := Scalar.select v851 v852 v846
  let c1_i32_578 : BitVec 32 := 1#32
  let v855 : BitVec 32 := Scalar.muli v853 c1_i32_578
  let v856 : BitVec 32 := Scalar.addi c0_i32_579 v855
  v856.toNat
def k0_dev50 (d0 : Dev nD) : Nat :=
  let c0_i32_593 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_583 : BitVec 32 := 19#32
  let v864 : BitVec 32 := Scalar.addi v2 c19_i32_583
  let c32_i32_584 : BitVec 32 := 32#32
  let c0_i32_585 : BitVec 32 := 0#32
  let v865 : BitVec 1 := Scalar.cmpi .eq c32_i32_584 c0_i32_585
  let c1_i32_586 : BitVec 32 := 1#32
  let v866 : BitVec 32 := Scalar.select v865 c1_i32_586 c32_i32_584
  let v867 : BitVec 32 := Scalar.remsi v864 v866
  let c0_i32_588 : BitVec 32 := 0#32
  let v869 : BitVec 1 := Scalar.cmpi .slt v867 c0_i32_588
  let c0_i32_589 : BitVec 32 := 0#32
  let v870 : BitVec 1 := Scalar.cmpi .slt v866 c0_i32_589
  let v871 : BitVec 1 := Scalar.xori v869 v870
  let c0_i32_587 : BitVec 32 := 0#32
  let v868 : BitVec 1 := Scalar.cmpi .ne v867 c0_i32_587
  let v872 : BitVec 1 := Scalar.andi v871 v868
  let v873 : BitVec 32 := Scalar.addi v867 v866
  let v874 : BitVec 32 := Scalar.select v872 v873 v867
  let c1_i32_592 : BitVec 32 := 1#32
  let v876 : BitVec 32 := Scalar.muli v874 c1_i32_592
  let v877 : BitVec 32 := Scalar.addi c0_i32_593 v876
  v877.toNat
def k0_dev51 (d0 : Dev nD) : Nat :=
  let c0_i32_607 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_597 : BitVec 32 := 20#32
  let v885 : BitVec 32 := Scalar.addi v2 c20_i32_597
  let c32_i32_598 : BitVec 32 := 32#32
  let c0_i32_599 : BitVec 32 := 0#32
  let v886 : BitVec 1 := Scalar.cmpi .eq c32_i32_598 c0_i32_599
  let c1_i32_600 : BitVec 32 := 1#32
  let v887 : BitVec 32 := Scalar.select v886 c1_i32_600 c32_i32_598
  let v888 : BitVec 32 := Scalar.remsi v885 v887
  let c0_i32_602 : BitVec 32 := 0#32
  let v890 : BitVec 1 := Scalar.cmpi .slt v888 c0_i32_602
  let c0_i32_603 : BitVec 32 := 0#32
  let v891 : BitVec 1 := Scalar.cmpi .slt v887 c0_i32_603
  let v892 : BitVec 1 := Scalar.xori v890 v891
  let c0_i32_601 : BitVec 32 := 0#32
  let v889 : BitVec 1 := Scalar.cmpi .ne v888 c0_i32_601
  let v893 : BitVec 1 := Scalar.andi v892 v889
  let v894 : BitVec 32 := Scalar.addi v888 v887
  let v895 : BitVec 32 := Scalar.select v893 v894 v888
  let c1_i32_606 : BitVec 32 := 1#32
  let v897 : BitVec 32 := Scalar.muli v895 c1_i32_606
  let v898 : BitVec 32 := Scalar.addi c0_i32_607 v897
  v898.toNat
def k0_dev52 (d0 : Dev nD) : Nat :=
  let c0_i32_621 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_611 : BitVec 32 := 21#32
  let v906 : BitVec 32 := Scalar.addi v2 c21_i32_611
  let c32_i32_612 : BitVec 32 := 32#32
  let c0_i32_613 : BitVec 32 := 0#32
  let v907 : BitVec 1 := Scalar.cmpi .eq c32_i32_612 c0_i32_613
  let c1_i32_614 : BitVec 32 := 1#32
  let v908 : BitVec 32 := Scalar.select v907 c1_i32_614 c32_i32_612
  let v909 : BitVec 32 := Scalar.remsi v906 v908
  let c0_i32_616 : BitVec 32 := 0#32
  let v911 : BitVec 1 := Scalar.cmpi .slt v909 c0_i32_616
  let c0_i32_617 : BitVec 32 := 0#32
  let v912 : BitVec 1 := Scalar.cmpi .slt v908 c0_i32_617
  let v913 : BitVec 1 := Scalar.xori v911 v912
  let c0_i32_615 : BitVec 32 := 0#32
  let v910 : BitVec 1 := Scalar.cmpi .ne v909 c0_i32_615
  let v914 : BitVec 1 := Scalar.andi v913 v910
  let v915 : BitVec 32 := Scalar.addi v909 v908
  let v916 : BitVec 32 := Scalar.select v914 v915 v909
  let c1_i32_620 : BitVec 32 := 1#32
  let v918 : BitVec 32 := Scalar.muli v916 c1_i32_620
  let v919 : BitVec 32 := Scalar.addi c0_i32_621 v918
  v919.toNat
def k0_dev53 (d0 : Dev nD) : Nat :=
  let c0_i32_635 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_625 : BitVec 32 := 22#32
  let v927 : BitVec 32 := Scalar.addi v2 c22_i32_625
  let c32_i32_626 : BitVec 32 := 32#32
  let c0_i32_627 : BitVec 32 := 0#32
  let v928 : BitVec 1 := Scalar.cmpi .eq c32_i32_626 c0_i32_627
  let c1_i32_628 : BitVec 32 := 1#32
  let v929 : BitVec 32 := Scalar.select v928 c1_i32_628 c32_i32_626
  let v930 : BitVec 32 := Scalar.remsi v927 v929
  let c0_i32_630 : BitVec 32 := 0#32
  let v932 : BitVec 1 := Scalar.cmpi .slt v930 c0_i32_630
  let c0_i32_631 : BitVec 32 := 0#32
  let v933 : BitVec 1 := Scalar.cmpi .slt v929 c0_i32_631
  let v934 : BitVec 1 := Scalar.xori v932 v933
  let c0_i32_629 : BitVec 32 := 0#32
  let v931 : BitVec 1 := Scalar.cmpi .ne v930 c0_i32_629
  let v935 : BitVec 1 := Scalar.andi v934 v931
  let v936 : BitVec 32 := Scalar.addi v930 v929
  let v937 : BitVec 32 := Scalar.select v935 v936 v930
  let c1_i32_634 : BitVec 32 := 1#32
  let v939 : BitVec 32 := Scalar.muli v937 c1_i32_634
  let v940 : BitVec 32 := Scalar.addi c0_i32_635 v939
  v940.toNat
def k0_dev54 (d0 : Dev nD) : Nat :=
  let c0_i32_649 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_639 : BitVec 32 := 23#32
  let v948 : BitVec 32 := Scalar.addi v2 c23_i32_639
  let c32_i32_640 : BitVec 32 := 32#32
  let c0_i32_641 : BitVec 32 := 0#32
  let v949 : BitVec 1 := Scalar.cmpi .eq c32_i32_640 c0_i32_641
  let c1_i32_642 : BitVec 32 := 1#32
  let v950 : BitVec 32 := Scalar.select v949 c1_i32_642 c32_i32_640
  let v951 : BitVec 32 := Scalar.remsi v948 v950
  let c0_i32_644 : BitVec 32 := 0#32
  let v953 : BitVec 1 := Scalar.cmpi .slt v951 c0_i32_644
  let c0_i32_645 : BitVec 32 := 0#32
  let v954 : BitVec 1 := Scalar.cmpi .slt v950 c0_i32_645
  let v955 : BitVec 1 := Scalar.xori v953 v954
  let c0_i32_643 : BitVec 32 := 0#32
  let v952 : BitVec 1 := Scalar.cmpi .ne v951 c0_i32_643
  let v956 : BitVec 1 := Scalar.andi v955 v952
  let v957 : BitVec 32 := Scalar.addi v951 v950
  let v958 : BitVec 32 := Scalar.select v956 v957 v951
  let c1_i32_648 : BitVec 32 := 1#32
  let v960 : BitVec 32 := Scalar.muli v958 c1_i32_648
  let v961 : BitVec 32 := Scalar.addi c0_i32_649 v960
  v961.toNat
def k0_dev55 (d0 : Dev nD) : Nat :=
  let c0_i32_663 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_653 : BitVec 32 := 24#32
  let v969 : BitVec 32 := Scalar.addi v2 c24_i32_653
  let c32_i32_654 : BitVec 32 := 32#32
  let c0_i32_655 : BitVec 32 := 0#32
  let v970 : BitVec 1 := Scalar.cmpi .eq c32_i32_654 c0_i32_655
  let c1_i32_656 : BitVec 32 := 1#32
  let v971 : BitVec 32 := Scalar.select v970 c1_i32_656 c32_i32_654
  let v972 : BitVec 32 := Scalar.remsi v969 v971
  let c0_i32_658 : BitVec 32 := 0#32
  let v974 : BitVec 1 := Scalar.cmpi .slt v972 c0_i32_658
  let c0_i32_659 : BitVec 32 := 0#32
  let v975 : BitVec 1 := Scalar.cmpi .slt v971 c0_i32_659
  let v976 : BitVec 1 := Scalar.xori v974 v975
  let c0_i32_657 : BitVec 32 := 0#32
  let v973 : BitVec 1 := Scalar.cmpi .ne v972 c0_i32_657
  let v977 : BitVec 1 := Scalar.andi v976 v973
  let v978 : BitVec 32 := Scalar.addi v972 v971
  let v979 : BitVec 32 := Scalar.select v977 v978 v972
  let c1_i32_662 : BitVec 32 := 1#32
  let v981 : BitVec 32 := Scalar.muli v979 c1_i32_662
  let v982 : BitVec 32 := Scalar.addi c0_i32_663 v981
  v982.toNat
def k0_dev56 (d0 : Dev nD) : Nat :=
  let c0_i32_677 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_667 : BitVec 32 := 25#32
  let v990 : BitVec 32 := Scalar.addi v2 c25_i32_667
  let c32_i32_668 : BitVec 32 := 32#32
  let c0_i32_669 : BitVec 32 := 0#32
  let v991 : BitVec 1 := Scalar.cmpi .eq c32_i32_668 c0_i32_669
  let c1_i32_670 : BitVec 32 := 1#32
  let v992 : BitVec 32 := Scalar.select v991 c1_i32_670 c32_i32_668
  let v993 : BitVec 32 := Scalar.remsi v990 v992
  let c0_i32_672 : BitVec 32 := 0#32
  let v995 : BitVec 1 := Scalar.cmpi .slt v993 c0_i32_672
  let c0_i32_673 : BitVec 32 := 0#32
  let v996 : BitVec 1 := Scalar.cmpi .slt v992 c0_i32_673
  let v997 : BitVec 1 := Scalar.xori v995 v996
  let c0_i32_671 : BitVec 32 := 0#32
  let v994 : BitVec 1 := Scalar.cmpi .ne v993 c0_i32_671
  let v998 : BitVec 1 := Scalar.andi v997 v994
  let v999 : BitVec 32 := Scalar.addi v993 v992
  let v1000 : BitVec 32 := Scalar.select v998 v999 v993
  let c1_i32_676 : BitVec 32 := 1#32
  let v1002 : BitVec 32 := Scalar.muli v1000 c1_i32_676
  let v1003 : BitVec 32 := Scalar.addi c0_i32_677 v1002
  v1003.toNat
def k0_dev57 (d0 : Dev nD) : Nat :=
  let c0_i32_691 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_681 : BitVec 32 := 26#32
  let v1011 : BitVec 32 := Scalar.addi v2 c26_i32_681
  let c32_i32_682 : BitVec 32 := 32#32
  let c0_i32_683 : BitVec 32 := 0#32
  let v1012 : BitVec 1 := Scalar.cmpi .eq c32_i32_682 c0_i32_683
  let c1_i32_684 : BitVec 32 := 1#32
  let v1013 : BitVec 32 := Scalar.select v1012 c1_i32_684 c32_i32_682
  let v1014 : BitVec 32 := Scalar.remsi v1011 v1013
  let c0_i32_686 : BitVec 32 := 0#32
  let v1016 : BitVec 1 := Scalar.cmpi .slt v1014 c0_i32_686
  let c0_i32_687 : BitVec 32 := 0#32
  let v1017 : BitVec 1 := Scalar.cmpi .slt v1013 c0_i32_687
  let v1018 : BitVec 1 := Scalar.xori v1016 v1017
  let c0_i32_685 : BitVec 32 := 0#32
  let v1015 : BitVec 1 := Scalar.cmpi .ne v1014 c0_i32_685
  let v1019 : BitVec 1 := Scalar.andi v1018 v1015
  let v1020 : BitVec 32 := Scalar.addi v1014 v1013
  let v1021 : BitVec 32 := Scalar.select v1019 v1020 v1014
  let c1_i32_690 : BitVec 32 := 1#32
  let v1023 : BitVec 32 := Scalar.muli v1021 c1_i32_690
  let v1024 : BitVec 32 := Scalar.addi c0_i32_691 v1023
  v1024.toNat
def k0_dev58 (d0 : Dev nD) : Nat :=
  let c0_i32_705 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_695 : BitVec 32 := 27#32
  let v1032 : BitVec 32 := Scalar.addi v2 c27_i32_695
  let c32_i32_696 : BitVec 32 := 32#32
  let c0_i32_697 : BitVec 32 := 0#32
  let v1033 : BitVec 1 := Scalar.cmpi .eq c32_i32_696 c0_i32_697
  let c1_i32_698 : BitVec 32 := 1#32
  let v1034 : BitVec 32 := Scalar.select v1033 c1_i32_698 c32_i32_696
  let v1035 : BitVec 32 := Scalar.remsi v1032 v1034
  let c0_i32_700 : BitVec 32 := 0#32
  let v1037 : BitVec 1 := Scalar.cmpi .slt v1035 c0_i32_700
  let c0_i32_701 : BitVec 32 := 0#32
  let v1038 : BitVec 1 := Scalar.cmpi .slt v1034 c0_i32_701
  let v1039 : BitVec 1 := Scalar.xori v1037 v1038
  let c0_i32_699 : BitVec 32 := 0#32
  let v1036 : BitVec 1 := Scalar.cmpi .ne v1035 c0_i32_699
  let v1040 : BitVec 1 := Scalar.andi v1039 v1036
  let v1041 : BitVec 32 := Scalar.addi v1035 v1034
  let v1042 : BitVec 32 := Scalar.select v1040 v1041 v1035
  let c1_i32_704 : BitVec 32 := 1#32
  let v1044 : BitVec 32 := Scalar.muli v1042 c1_i32_704
  let v1045 : BitVec 32 := Scalar.addi c0_i32_705 v1044
  v1045.toNat
def k0_dev59 (d0 : Dev nD) : Nat :=
  let c0_i32_719 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_709 : BitVec 32 := 28#32
  let v1053 : BitVec 32 := Scalar.addi v2 c28_i32_709
  let c32_i32_710 : BitVec 32 := 32#32
  let c0_i32_711 : BitVec 32 := 0#32
  let v1054 : BitVec 1 := Scalar.cmpi .eq c32_i32_710 c0_i32_711
  let c1_i32_712 : BitVec 32 := 1#32
  let v1055 : BitVec 32 := Scalar.select v1054 c1_i32_712 c32_i32_710
  let v1056 : BitVec 32 := Scalar.remsi v1053 v1055
  let c0_i32_714 : BitVec 32 := 0#32
  let v1058 : BitVec 1 := Scalar.cmpi .slt v1056 c0_i32_714
  let c0_i32_715 : BitVec 32 := 0#32
  let v1059 : BitVec 1 := Scalar.cmpi .slt v1055 c0_i32_715
  let v1060 : BitVec 1 := Scalar.xori v1058 v1059
  let c0_i32_713 : BitVec 32 := 0#32
  let v1057 : BitVec 1 := Scalar.cmpi .ne v1056 c0_i32_713
  let v1061 : BitVec 1 := Scalar.andi v1060 v1057
  let v1062 : BitVec 32 := Scalar.addi v1056 v1055
  let v1063 : BitVec 32 := Scalar.select v1061 v1062 v1056
  let c1_i32_718 : BitVec 32 := 1#32
  let v1065 : BitVec 32 := Scalar.muli v1063 c1_i32_718
  let v1066 : BitVec 32 := Scalar.addi c0_i32_719 v1065
  v1066.toNat
def k0_dev60 (d0 : Dev nD) : Nat :=
  let c0_i32_733 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_723 : BitVec 32 := 29#32
  let v1074 : BitVec 32 := Scalar.addi v2 c29_i32_723
  let c32_i32_724 : BitVec 32 := 32#32
  let c0_i32_725 : BitVec 32 := 0#32
  let v1075 : BitVec 1 := Scalar.cmpi .eq c32_i32_724 c0_i32_725
  let c1_i32_726 : BitVec 32 := 1#32
  let v1076 : BitVec 32 := Scalar.select v1075 c1_i32_726 c32_i32_724
  let v1077 : BitVec 32 := Scalar.remsi v1074 v1076
  let c0_i32_728 : BitVec 32 := 0#32
  let v1079 : BitVec 1 := Scalar.cmpi .slt v1077 c0_i32_728
  let c0_i32_729 : BitVec 32 := 0#32
  let v1080 : BitVec 1 := Scalar.cmpi .slt v1076 c0_i32_729
  let v1081 : BitVec 1 := Scalar.xori v1079 v1080
  let c0_i32_727 : BitVec 32 := 0#32
  let v1078 : BitVec 1 := Scalar.cmpi .ne v1077 c0_i32_727
  let v1082 : BitVec 1 := Scalar.andi v1081 v1078
  let v1083 : BitVec 32 := Scalar.addi v1077 v1076
  let v1084 : BitVec 32 := Scalar.select v1082 v1083 v1077
  let c1_i32_732 : BitVec 32 := 1#32
  let v1086 : BitVec 32 := Scalar.muli v1084 c1_i32_732
  let v1087 : BitVec 32 := Scalar.addi c0_i32_733 v1086
  v1087.toNat
def k0_dev61 (d0 : Dev nD) : Nat :=
  let c0_i32_747 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_737 : BitVec 32 := 30#32
  let v1095 : BitVec 32 := Scalar.addi v2 c30_i32_737
  let c32_i32_738 : BitVec 32 := 32#32
  let c0_i32_739 : BitVec 32 := 0#32
  let v1096 : BitVec 1 := Scalar.cmpi .eq c32_i32_738 c0_i32_739
  let c1_i32_740 : BitVec 32 := 1#32
  let v1097 : BitVec 32 := Scalar.select v1096 c1_i32_740 c32_i32_738
  let v1098 : BitVec 32 := Scalar.remsi v1095 v1097
  let c0_i32_742 : BitVec 32 := 0#32
  let v1100 : BitVec 1 := Scalar.cmpi .slt v1098 c0_i32_742
  let c0_i32_743 : BitVec 32 := 0#32
  let v1101 : BitVec 1 := Scalar.cmpi .slt v1097 c0_i32_743
  let v1102 : BitVec 1 := Scalar.xori v1100 v1101
  let c0_i32_741 : BitVec 32 := 0#32
  let v1099 : BitVec 1 := Scalar.cmpi .ne v1098 c0_i32_741
  let v1103 : BitVec 1 := Scalar.andi v1102 v1099
  let v1104 : BitVec 32 := Scalar.addi v1098 v1097
  let v1105 : BitVec 32 := Scalar.select v1103 v1104 v1098
  let c1_i32_746 : BitVec 32 := 1#32
  let v1107 : BitVec 32 := Scalar.muli v1105 c1_i32_746
  let v1108 : BitVec 32 := Scalar.addi c0_i32_747 v1107
  v1108.toNat
def k0_dev62 (d0 : Dev nD) : Nat :=
  let c0_i32_761 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_751 : BitVec 32 := 31#32
  let v1116 : BitVec 32 := Scalar.addi v2 c31_i32_751
  let c32_i32_752 : BitVec 32 := 32#32
  let c0_i32_753 : BitVec 32 := 0#32
  let v1117 : BitVec 1 := Scalar.cmpi .eq c32_i32_752 c0_i32_753
  let c1_i32_754 : BitVec 32 := 1#32
  let v1118 : BitVec 32 := Scalar.select v1117 c1_i32_754 c32_i32_752
  let v1119 : BitVec 32 := Scalar.remsi v1116 v1118
  let c0_i32_756 : BitVec 32 := 0#32
  let v1121 : BitVec 1 := Scalar.cmpi .slt v1119 c0_i32_756
  let c0_i32_757 : BitVec 32 := 0#32
  let v1122 : BitVec 1 := Scalar.cmpi .slt v1118 c0_i32_757
  let v1123 : BitVec 1 := Scalar.xori v1121 v1122
  let c0_i32_755 : BitVec 32 := 0#32
  let v1120 : BitVec 1 := Scalar.cmpi .ne v1119 c0_i32_755
  let v1124 : BitVec 1 := Scalar.andi v1123 v1120
  let v1125 : BitVec 32 := Scalar.addi v1119 v1118
  let v1126 : BitVec 32 := Scalar.select v1124 v1125 v1119
  let c1_i32_760 : BitVec 32 := 1#32
  let v1128 : BitVec 32 := Scalar.muli v1126 c1_i32_760
  let v1129 : BitVec 32 := Scalar.addi c0_i32_761 v1128
  v1129.toNat
def k0_off6 (d0 : Dev nD) (c0_i32_767 : BitVec 32) (c0_i32_799 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1140 : BitVec 32 := Scalar.addi v19 c0_i32_767
  let c4_i32_768 : BitVec 32 := 4#32
  let c0_i32_769 : BitVec 32 := 0#32
  let v1141 : BitVec 1 := Scalar.cmpi .eq c4_i32_768 c0_i32_769
  let c1_i32_770 : BitVec 32 := 1#32
  let v1142 : BitVec 32 := Scalar.select v1141 c1_i32_770 c4_i32_768
  let v1143 : BitVec 32 := Scalar.remsi v1140 v1142
  let c0_i32_772 : BitVec 32 := 0#32
  let v1145 : BitVec 1 := Scalar.cmpi .slt v1143 c0_i32_772
  let c0_i32_773 : BitVec 32 := 0#32
  let v1146 : BitVec 1 := Scalar.cmpi .slt v1142 c0_i32_773
  let v1147 : BitVec 1 := Scalar.xori v1145 v1146
  let c0_i32_771 : BitVec 32 := 0#32
  let v1144 : BitVec 1 := Scalar.cmpi .ne v1143 c0_i32_771
  let v1148 : BitVec 1 := Scalar.andi v1147 v1144
  let v1149 : BitVec 32 := Scalar.addi v1143 v1142
  let v1150 : BitVec 32 := Scalar.select v1148 v1149 v1143
  let c8_i32_798 : BitVec 32 := 8#32
  let v1179 : BitVec 32 := Scalar.muli v1150 c8_i32_798
  let v1180 : BitVec 32 := Scalar.addi v1179 c0_i32_799
  ![v1180.toNat]
def k0_off7 (d0 : Dev nD) (c0_i32_767 : BitVec 32) (c0_i32_799 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1140 : BitVec 32 := Scalar.addi v19 c0_i32_767
  let c4_i32_768 : BitVec 32 := 4#32
  let c0_i32_769 : BitVec 32 := 0#32
  let v1141 : BitVec 1 := Scalar.cmpi .eq c4_i32_768 c0_i32_769
  let c1_i32_770 : BitVec 32 := 1#32
  let v1142 : BitVec 32 := Scalar.select v1141 c1_i32_770 c4_i32_768
  let v1143 : BitVec 32 := Scalar.remsi v1140 v1142
  let c0_i32_772 : BitVec 32 := 0#32
  let v1145 : BitVec 1 := Scalar.cmpi .slt v1143 c0_i32_772
  let c0_i32_773 : BitVec 32 := 0#32
  let v1146 : BitVec 1 := Scalar.cmpi .slt v1142 c0_i32_773
  let v1147 : BitVec 1 := Scalar.xori v1145 v1146
  let c0_i32_771 : BitVec 32 := 0#32
  let v1144 : BitVec 1 := Scalar.cmpi .ne v1143 c0_i32_771
  let v1148 : BitVec 1 := Scalar.andi v1147 v1144
  let v1149 : BitVec 32 := Scalar.addi v1143 v1142
  let v1150 : BitVec 32 := Scalar.select v1148 v1149 v1143
  let c8_i32_798 : BitVec 32 := 8#32
  let v1179 : BitVec 32 := Scalar.muli v1150 c8_i32_798
  let v1180 : BitVec 32 := Scalar.addi v1179 c0_i32_799
  let c0_i32_800 : BitVec 32 := 0#32
  let c0_i32_801 : BitVec 32 := 0#32
  ![v1180.toNat, 0, 0]
def k0_off8 (d0 : Dev nD) (c0_i32_767 : BitVec 32) (c0_i32_847 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1140 : BitVec 32 := Scalar.addi v19 c0_i32_767
  let c4_i32_768 : BitVec 32 := 4#32
  let c0_i32_769 : BitVec 32 := 0#32
  let v1141 : BitVec 1 := Scalar.cmpi .eq c4_i32_768 c0_i32_769
  let c1_i32_770 : BitVec 32 := 1#32
  let v1142 : BitVec 32 := Scalar.select v1141 c1_i32_770 c4_i32_768
  let v1143 : BitVec 32 := Scalar.remsi v1140 v1142
  let c0_i32_772 : BitVec 32 := 0#32
  let v1145 : BitVec 1 := Scalar.cmpi .slt v1143 c0_i32_772
  let c0_i32_773 : BitVec 32 := 0#32
  let v1146 : BitVec 1 := Scalar.cmpi .slt v1142 c0_i32_773
  let v1147 : BitVec 1 := Scalar.xori v1145 v1146
  let c0_i32_771 : BitVec 32 := 0#32
  let v1144 : BitVec 1 := Scalar.cmpi .ne v1143 c0_i32_771
  let v1148 : BitVec 1 := Scalar.andi v1147 v1144
  let v1149 : BitVec 32 := Scalar.addi v1143 v1142
  let v1150 : BitVec 32 := Scalar.select v1148 v1149 v1143
  let c8_i32_846 : BitVec 32 := 8#32
  let v1235 : BitVec 32 := Scalar.muli v1150 c8_i32_846
  let v1236 : BitVec 32 := Scalar.addi v1235 c0_i32_847
  let v1237 : Index := Scalar.indexCast v1236
  let c0_848 : Index := 0#32
  let c0_849 : Index := 0#32
  ![v1237.toNat, 0, 0]
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.Geometry.lean ====
/-
# The kernel's index computations in closed form

Device `c` of the 32 computes, from its own number, the numbers of its peers, the rows of `x` it sends, the slots of the
gathered array it fills and reads, and the rows of `w` it fetches. Each computation is a chain of 32-bit word
operations; here each is given as a natural-number formula, decided over the 32 devices.
-/
module

public import proofs.«01_k».proof.Proof.Gen.KernelIdeal
public import proofs.«01_k».proof.Proof.Gen.KernelIdeal.Skeleton
public import Idealize.ShloMosaic.Lib.ValueLayout

@[expose] public section

noncomputable section

namespace Cert.AllToAll

open Cert.KernelIdeal Cert.KernelIdeal.Gen
open Idealize.ShloMosaic

/-- The device `k` places after `c` around the 32. -/
def pr (c : Dev nD) (k : ℕ) : Dev nD := ⟨(c.val + k) % 32, Nat.mod_lt _ (by decide)⟩

/-- The peers the 31 barrier signals address, in order. -/
theorem signal_devs : ∀ c : Dev nD, k0_dev1 c = (c.val + 1) % 32 ∧ k0_dev2 c = (c.val + 2) % 32 ∧ k0_dev3 c = (c.val + 3) % 32 ∧ k0_dev4 c = (c.val + 4) % 32 ∧ k0_dev5 c = (c.val + 5) % 32 ∧ k0_dev6 c = (c.val + 6) % 32 ∧ k0_dev7 c = (c.val + 7) % 32 ∧ k0_dev8 c = (c.val + 8) % 32 ∧ k0_dev9 c = (c.val + 9) % 32 ∧ k0_dev10 c = (c.val + 10) % 32 ∧ k0_dev11 c = (c.val + 11) % 32 ∧ k0_dev12 c = (c.val + 12) % 32 ∧ k0_dev13 c = (c.val + 13) % 32 ∧ k0_dev14 c = (c.val + 14) % 32 ∧ k0_dev15 c = (c.val + 15) % 32 ∧ k0_dev16 c = (c.val + 16) % 32 ∧ k0_dev17 c = (c.val + 17) % 32 ∧ k0_dev18 c = (c.val + 18) % 32 ∧ k0_dev19 c = (c.val + 19) % 32 ∧ k0_dev20 c = (c.val + 20) % 32 ∧ k0_dev21 c = (c.val + 21) % 32 ∧ k0_dev22 c = (c.val + 22) % 32 ∧ k0_dev23 c = (c.val + 23) % 32 ∧ k0_dev24 c = (c.val + 24) % 32 ∧ k0_dev25 c = (c.val + 25) % 32 ∧ k0_dev26 c = (c.val + 26) % 32 ∧ k0_dev27 c = (c.val + 27) % 32 ∧ k0_dev28 c = (c.val + 28) % 32 ∧ k0_dev29 c = (c.val + 29) % 32 ∧ k0_dev30 c = (c.val + 30) % 32 ∧ k0_dev31 c = (c.val + 31) % 32 := by
  decide +kernel

/-- The peers the 31 transfers address, in order. -/
theorem send_devs : ∀ c : Dev nD, k0_dev32 c = (c.val + 1) % 32 ∧ k0_dev33 c = (c.val + 2) % 32 ∧ k0_dev34 c = (c.val + 3) % 32 ∧ k0_dev35 c = (c.val + 4) % 32 ∧ k0_dev36 c = (c.val + 5) % 32 ∧ k0_dev37 c = (c.val + 6) % 32 ∧ k0_dev38 c = (c.val + 7) % 32 ∧ k0_dev39 c = (c.val + 8) % 32 ∧ k0_dev40 c = (c.val + 9) % 32 ∧ k0_dev41 c = (c.val + 10) % 32 ∧ k0_dev42 c = (c.val + 11) % 32 ∧ k0_dev43 c = (c.val + 12) % 32 ∧ k0_dev44 c = (c.val + 13) % 32 ∧ k0_dev45 c = (c.val + 14) % 32 ∧ k0_dev46 c = (c.val + 15) % 32 ∧ k0_dev47 c = (c.val + 16) % 32 ∧ k0_dev48 c = (c.val + 17) % 32 ∧ k0_dev49 c = (c.val + 18) % 32 ∧ k0_dev50 c = (c.val + 19) % 32 ∧ k0_dev51 c = (c.val + 20) % 32 ∧ k0_dev52 c = (c.val + 21) % 32 ∧ k0_dev53 c = (c.val + 22) % 32 ∧ k0_dev54 c = (c.val + 23) % 32 ∧ k0_dev55 c = (c.val + 24) % 32 ∧ k0_dev56 c = (c.val + 25) % 32 ∧ k0_dev57 c = (c.val + 26) % 32 ∧ k0_dev58 c = (c.val + 27) % 32 ∧ k0_dev59 c = (c.val + 28) % 32 ∧ k0_dev60 c = (c.val + 29) % 32 ∧ k0_dev61 c = (c.val + 30) % 32 ∧ k0_dev62 c = (c.val + 31) % 32 := by
  decide +kernel

/-- The quarter of `w`'s rows (and of the devices) that device `c` meets `r` steps after its own. -/
def quarter (c : Dev nD) (r : ℕ) : ℕ := (c.val / 8 + r) % 4

/-- The `i`-th device of the quarter that `c` meets `r` steps after its own. -/
def member (c : Dev nD) (r i : ℕ) : ℕ := 8 * quarter c r + i

theorem off1_eq : ∀ (c : Dev nD) (r : Fin 4), k0_off1 c (BitVec.ofNat 32 r.val) = ![1024 * quarter c r.val, 0] := by decide +kernel
theorem off5_eq : ∀ (c : Dev nD) (k : Fin 32), k0_off5 c (BitVec.ofNat 32 k.val) = ![128 * (pr c k.val).val, 0] := by decide +kernel
theorem off6_eq : ∀ (c : Dev nD) (r : Fin 4) (i : Fin 8), k0_off6 c (BitVec.ofNat 32 r.val) (BitVec.ofNat 32 i.val) = ![member c r.val i.val] := by
  decide +kernel
theorem off7_eq : ∀ (c : Dev nD) (r : Fin 4) (i : Fin 8), k0_off7 c (BitVec.ofNat 32 r.val) (BitVec.ofNat 32 i.val) = ![member c r.val i.val, 0, 0] := by
  decide +kernel
theorem off8_eq : ∀ (c : Dev nD) (r : Fin 4) (i : Fin 8), k0_off8 c (BitVec.ofNat 32 r.val) (BitVec.ofNat 32 i.val) = ![member c r.val i.val, 0, 0] := by
  decide +kernel

theorem quarter_lt (c : Dev nD) (r : ℕ) : quarter c r < 4 := Nat.mod_lt _ (by decide)
theorem member_lt (c : Dev nD) (r : ℕ) {i : ℕ} (h : i < 8) : member c r i < 32 := by
  have := quarter_lt c r; unfold member; omega

/-- The 31 places after `c` are all the devices but `c`. -/
theorem peers_image : ∀ c : Dev nD, (Finset.Ico 0 31).image (fun k => pr c (k + 1)) = Finset.univ.erase c := by decide +kernel
theorem peers_inj (c : Dev nD) : Set.InjOn (fun k => pr c (k + 1)) (Finset.Ico 0 31 : Finset ℕ) := by
  intro a ha b hb h
  have h' : (c.val + (a + 1)) % 32 = (c.val + (b + 1)) % 32 := congrArg Fin.val h
  simp only [Finset.coe_Ico, Set.mem_Ico] at ha hb
  have := c.isLt
  omega
theorem pr_ne (c : Dev nD) {k : ℕ} (hk : k < 31) : pr c (k + 1) ≠ c := by
  intro h
  have h' : (c.val + (k + 1)) % 32 = c.val := congrArg Fin.val h
  have := c.isLt
  omega

/-- The devices, quarter by quarter from `c`'s own on. -/
theorem members_image : ∀ c : Dev nD, ((Finset.range 4) ×ˢ (Finset.range 8)).image (fun p => member c p.1 p.2) = Finset.Ico 0 32 := by
  decide +kernel
theorem members_inj (c : Dev nD) : Set.InjOn (fun p : ℕ × ℕ => member c p.1 p.2) ((Finset.range 4 ×ˢ Finset.range 8 : Finset (ℕ × ℕ)) : Set (ℕ × ℕ)) := by
  rintro ⟨a, i⟩ ha ⟨b, j⟩ hb h
  simp only [Finset.coe_product, Set.mem_prod, Finset.coe_range, Set.mem_Iio] at ha hb
  simp only [member, quarter] at h
  have := c.isLt
  ext <;> dsimp only <;> omega

end Cert.AllToAll

end
-- ==== Proof.Views.lean ====
/-
# The pieces of the kernel's buffers, and what a copy leaves in them

A device's buffers are cut into pieces along their first axis: `x8` (the device's columns of `x`, rounded) into 32 blocks
of 128 rows, the gathered array `xg` into 32 slots of 128 × 128, the staging buffer for `w` into 3 slots, `w` itself into
4 quarters of 1024 rows. Here each piece is a plain set of indices, shown to be the one the kernel's slice names; a copy
between two pieces is read off index by index; and so is a load from a piece.
-/
module

public import proofs.«01_k».proof.Proof.Geometry
public import Idealize.ShloMosaic.Lib.Pipeline.Launch
public import Idealize.ShloMosaic.Lib.Pipeline.Kit

@[expose] public section

noncomputable section

namespace Cert.AllToAll

open Cert.KernelIdeal Cert.KernelIdeal.Gen
open Idealize.ShloMosaic
open Idealize.ShloMosaic.TcCoe
open Idealize.ShloMosaic.ValueIdx

variable {F : FTy → Type}

/-! ## The buffers -/

abbrev xM : Memref sig .tc .hbm S4096x128 .f32 := Memref.whole main_arg0
abbrev wM : Memref sig .tc .hbm S4096x2048 .f32 := Memref.whole main_arg1
abbrev xfM : Memref sig .tc .vmem S4096x128 .f32 := Memref.whole cc0_scratch0
abbrev x8M : Memref sig .tc .vmem S4096x128 .fp8e5m2 := Memref.whole cc0_scratch1
abbrev xgM : Memref sig .tc .vmem S32x128x128 .fp8e5m2 := Memref.whole cc0_scratch2
abbrev wbM : Memref sig .tc .vmem S3x1024x2048 .f32 := Memref.whole cc0_scratch3
abbrev wcM : Memref sig .tc .vmem S2x1024x2048 .fp8e5m2 := Memref.whole cc0_scratch4
abbrev oM : Memref sig .tc .vmem S128x2048 .f32 := Memref.whole cc0_stg2_0

/-! ## The pieces, as the kernel names them -/

/-- A block of 128 rows of `x8`. -/
abbrev rowM (off : Fin 2 → ℕ) (h : ∀ a, off a + S128x128.size a ≤ S4096x128.size a) : Memref sig .tc .vmem S128x128 .fp8e5m2 :=
  x8M.slice (Rect.unit (s := S4096x128) off S128x128.size h) (fun _ => rfl)
/-- A slot of `xg`. -/
abbrev slotM (off : Fin 3 → ℕ) (h : ∀ a, off a + S1x128x128.size a ≤ S32x128x128.size a) : Memref sig .tc .vmem S128x128 .fp8e5m2 :=
  (xgM.slice (Rect.unit (s := S32x128x128) off S1x128x128.size h) (fun _ => rfl)).squeeze S128x128 squeezes_S1x128x128_S128x128
/-- A slot of the staging buffer for `w`. -/
abbrev wslotM (off : Fin 3 → ℕ) (h : ∀ a, off a + S1x1024x2048.size a ≤ S3x1024x2048.size a) : Memref sig .tc .vmem S1024x2048 .f32 :=
  (wbM.slice (Rect.unit (s := S3x1024x2048) off S1x1024x2048.size h) (fun _ => rfl)).squeeze S1024x2048 squeezes_S1x1024x2048_S1024x2048
/-- A quarter of `w`. -/
abbrev chunkM (off : Fin 2 → ℕ) (h : ∀ a, off a + S1024x2048.size a ≤ S4096x2048.size a) : Memref sig .tc .hbm S1024x2048 .f32 :=
  wM.slice (Rect.unit (s := S4096x2048) off S1024x2048.size h) (fun _ => rfl)

/-! ## The pieces, as sets of indices -/

def rowSet (j : ℕ) : Finset S4096x128.Idx := Finset.univ.filter fun i => (i 0).val / 128 = j
def slotSet (j : ℕ) : Finset S32x128x128.Idx := Finset.univ.filter fun i => (i 0).val = j
def wSet (s : ℕ) : Finset S3x1024x2048.Idx := Finset.univ.filter fun i => (i 0).val = s
def chunkSet (q : ℕ) : Finset S4096x2048.Idx := Finset.univ.filter fun i => (i 0).val / 1024 = q

theorem mem_rowSet {j : ℕ} {i : S4096x128.Idx} : i ∈ rowSet j ↔ (i 0).val / 128 = j := by simp [rowSet]
theorem mem_slotSet {j : ℕ} {i : S32x128x128.Idx} : i ∈ slotSet j ↔ (i 0).val = j := by simp [slotSet]
theorem mem_wSet {s : ℕ} {i : S3x1024x2048.Idx} : i ∈ wSet s ↔ (i 0).val = s := by simp [wSet]
theorem mem_chunkSet {q : ℕ} {i : S4096x2048.Idx} : i ∈ chunkSet q ↔ (i 0).val / 1024 = q := by simp [chunkSet]

theorem row_set {j : ℕ} {off : Fin 2 → ℕ} (hoff : off = ![128 * j, 0]) (h : ∀ a, off a + S128x128.size a ≤ S4096x128.size a) :
    (rowM off h).view.set = rowSet j := by
  subst hoff
  rw [show (rowM _ h).view.set = (Rect.unit (s := S4096x128) _ S128x128.size h).set from View.set_slice_whole _ _]
  ext i
  rw [Rect.mem_set_unit, mem_rowSet, Fin.forall_fin_two]
  have h1 : (i 1).val < 128 := (i 1).isLt
  simp only [Matrix.cons_val_zero, Matrix.cons_val_one]
  omega

theorem slot_rect_set {j : ℕ} {off : Fin 3 → ℕ} (hoff : off = ![j, 0, 0]) (h : ∀ a, off a + S1x128x128.size a ≤ S32x128x128.size a) :
    (Rect.unit (s := S32x128x128) off S1x128x128.size h).set = slotSet j := by
  subst hoff
  ext i
  rw [Rect.mem_set_unit, mem_slotSet, Fin.forall_fin_succ, Fin.forall_fin_two]
  have h1 : (i 1).val < 128 := (i 1).isLt
  have h2 : (i 2).val < 128 := (i 2).isLt
  simp
  omega

theorem slot_set {j : ℕ} {off : Fin 3 → ℕ} (hoff : off = ![j, 0, 0]) (h : ∀ a, off a + S1x128x128.size a ≤ S32x128x128.size a) :
    (slotM off h).view.set = slotSet j := by
  rw [← slot_rect_set hoff h]
  exact (View.set_reshape _ _).trans (View.set_slice_whole _ _)

theorem w_rect_set {j : ℕ} {off : Fin 3 → ℕ} (hoff : off = ![j, 0, 0]) (h : ∀ a, off a + S1x1024x2048.size a ≤ S3x1024x2048.size a) :
    (Rect.unit (s := S3x1024x2048) off S1x1024x2048.size h).set = wSet j := by
  subst hoff
  ext i
  rw [Rect.mem_set_unit, mem_wSet, Fin.forall_fin_succ, Fin.forall_fin_two]
  have h1 : (i 1).val < 1024 := (i 1).isLt
  have h2 : (i 2).val < 2048 := (i 2).isLt
  simp
  omega

theorem wslot_set {j : ℕ} {off : Fin 3 → ℕ} (hoff : off = ![j, 0, 0]) (h : ∀ a, off a + S1x1024x2048.size a ≤ S3x1024x2048.size a) :
    (wslotM off h).view.set = wSet j := by
  rw [← w_rect_set hoff h]
  exact (View.set_reshape _ _).trans (View.set_slice_whole _ _)

theorem chunk_set {q : ℕ} {off : Fin 2 → ℕ} (hoff : off = ![1024 * q, 0]) (h : ∀ a, off a + S1024x2048.size a ≤ S4096x2048.size a) :
    (chunkM off h).view.set = chunkSet q := by
  subst hoff
  rw [show (chunkM _ h).view.set = (Rect.unit (s := S4096x2048) _ S1024x2048.size h).set from View.set_slice_whole _ _]
  ext i
  rw [Rect.mem_set_unit, mem_chunkSet, Fin.forall_fin_two]
  have h1 : (i 1).val < 2048 := (i 1).isLt
  simp only [Matrix.cons_val_zero, Matrix.cons_val_one]
  omega

/-! ## Where an index of a piece lies in its buffer -/

theorem row_emb {j : ℕ} {off : Fin 2 → ℕ} (hoff : off = ![128 * j, 0]) (h : ∀ a, off a + S128x128.size a ≤ S4096x128.size a)
    (x y : Fin 128) (k : Fin 4096) (hk : k.val = 128 * j + x.val) : (rowM off h).view.emb (ix2 x y) = (ix2 k y : S4096x128.Idx) := by
  subst hoff
  funext a
  apply Fin.ext
  match a with
  | ⟨0, _⟩ => show 128 * j + 1 * x.val = k.val; omega
  | ⟨1, _⟩ => show 0 + 1 * y.val = y.val; omega

theorem slot_emb {j : Fin 32} {off : Fin 3 → ℕ} (hoff : off = ![j.val, 0, 0]) (h : ∀ a, off a + S1x128x128.size a ≤ S32x128x128.size a)
    (x y : Fin 128) : (slotM off h).view.emb (ix2 x y) = (ix3 j x y : S32x128x128.Idx) := by
  subst hoff
  show (Rect.unit (s := S32x128x128) _ S1x128x128.size h).emb (Shape.reshapeEquiv _ (ix2 x y)) = _
  rw [reshapeEquiv_ix2_1ab]
  funext a
  apply Fin.ext
  match a with
  | ⟨0, _⟩ => show j.val + 1 * 0 = j.val; omega
  | ⟨1, _⟩ => show 0 + 1 * x.val = x.val; omega
  | ⟨2, _⟩ => show 0 + 1 * y.val = y.val; omega

theorem wslot_emb {j : Fin 3} {off : Fin 3 → ℕ} (hoff : off = ![j.val, 0, 0]) (h : ∀ a, off a + S1x1024x2048.size a ≤ S3x1024x2048.size a)
    (x : Fin 1024) (y : Fin 2048) : (wslotM off h).view.emb (ix2 x y) = (ix3 j x y : S3x1024x2048.Idx) := by
  subst hoff
  show (Rect.unit (s := S3x1024x2048) _ S1x1024x2048.size h).emb (Shape.reshapeEquiv _ (ix2 x y)) = _
  rw [reshapeEquiv_ix2_1ab]
  funext a
  apply Fin.ext
  match a with
  | ⟨0, _⟩ => show j.val + 1 * 0 = j.val; omega
  | ⟨1, _⟩ => show 0 + 1 * x.val = x.val; omega
  | ⟨2, _⟩ => show 0 + 1 * y.val = y.val; omega

theorem chunk_emb {q : ℕ} {off : Fin 2 → ℕ} (hoff : off = ![1024 * q, 0]) (h : ∀ a, off a + S1024x2048.size a ≤ S4096x2048.size a)
    (x : Fin 1024) (y : Fin 2048) (k : Fin 4096) (hk : k.val = 1024 * q + x.val) :
    (chunkM off h).view.emb (ix2 x y) = (ix2 k y : S4096x2048.Idx) := by
  subst hoff
  funext a
  apply Fin.ext
  match a with
  | ⟨0, _⟩ => show 1024 * q + 1 * x.val = k.val; omega
  | ⟨1, _⟩ => show 0 + 1 * y.val = y.val; omega

/-! ## What a copy leaves -/

/-- Row block `j'` of `x8` copied into slot `j` of `xg`: the slot's `(x, y)` is row `128 j' + x`, column `y`. -/
theorem slot_landing {j : Fin 32} {j' : ℕ} {off : Fin 3 → ℕ} {off' : Fin 2 → ℕ} (hoff : off = ![j.val, 0, 0]) (hoff' : off' = ![128 * j', 0])
    (h : ∀ a, off a + S1x128x128.size a ≤ S32x128x128.size a) (h' : ∀ a, off' a + S128x128.size a ≤ S4096x128.size a)
    (fd : (cc0_scratch2 : Ref sig .tc).ty.Contents (Elt F)) (fs : (cc0_scratch1 : Ref sig .tc).ty.Contents (Elt F))
    (g : (cc0_scratch2 : Ref sig .tc).ty.Contents (Elt F))
    (hg : ∀ (x y : Fin 128) (k : Fin 4096), k.val = 128 * j' + x.val → g (ix3 j x y : S32x128x128.Idx) = fs (ix2 k y : S4096x128.Idx)) :
    ∀ i ∈ slotSet j.val, (slotM off h).view.write (Elt F) fd ((rowM off' h').view.read (Elt F) fs) Finset.univ i = g i := by
  intro i hi
  obtain ⟨a, x, y, rfl⟩ : ∃ (a : Fin 32) (x y : Fin 128), i = ix3 a x y := ⟨i 0, i 1, i 2, eq_ix3 i⟩
  have ha : a = j := Fin.ext (mem_slotSet.mp hi)
  subst ha
  have hj : 128 * j' + 128 ≤ 4096 := by have := h' 0; subst hoff'; exact this
  rw [← slot_emb hoff h x y, View.write_emb_of_mem _ _ (Finset.mem_univ _), View.read_apply,
    row_emb hoff' h' x y ⟨128 * j' + x.val, by omega⟩ rfl, slot_emb hoff h x y, hg x y ⟨128 * j' + x.val, by omega⟩ rfl]
  rfl

/-- Quarter `q` of `w` copied into slot `s` of the staging buffer. -/
theorem wslot_landing {j : Fin 3} {q : ℕ} {off : Fin 3 → ℕ} {off' : Fin 2 → ℕ} (hoff : off = ![j.val, 0, 0]) (hoff' : off' = ![1024 * q, 0])
    (h : ∀ a, off a + S1x1024x2048.size a ≤ S3x1024x2048.size a) (h' : ∀ a, off' a + S1024x2048.size a ≤ S4096x2048.size a)
    (fd : (cc0_scratch3 : Ref sig .tc).ty.Contents (Elt F)) (fs : (main_arg1 : Ref sig .tc).ty.Contents (Elt F))
    (g : (cc0_scratch3 : Ref sig .tc).ty.Contents (Elt F))
    (hg : ∀ (x : Fin 1024) (y : Fin 2048) (k : Fin 4096), k.val = 1024 * q + x.val → g (ix3 j x y : S3x1024x2048.Idx) = fs (ix2 k y : S4096x2048.Idx)) :
    ∀ i ∈ wSet j.val, (wslotM off h).view.write (Elt F) fd ((chunkM off' h').view.read (Elt F) fs) Finset.univ i = g i := by
  intro i hi
  obtain ⟨a, x, y, rfl⟩ : ∃ (a : Fin 3) (x : Fin 1024) (y : Fin 2048), i = ix3 a x y := ⟨i 0, i 1, i 2, eq_ix3 i⟩
  have ha : a = j := Fin.ext (mem_wSet.mp hi)
  subst ha
  have hj : 1024 * q + 1024 ≤ 4096 := by have := h' 0; subst hoff'; exact this
  rw [← wslot_emb hoff h x y, View.write_emb_of_mem _ _ (Finset.mem_univ _), View.read_apply,
    chunk_emb hoff' h' x y ⟨1024 * q + x.val, by omega⟩ rfl, wslot_emb hoff h x y, hg x y ⟨1024 * q + x.val, by omega⟩ rfl]
  rfl

/-- The whole of `x` copied into the staging buffer for it. -/
theorem x_landing (fd : (cc0_scratch0 : Ref sig .tc).ty.Contents (Elt F)) (fs : (main_arg0 : Ref sig .tc).ty.Contents (Elt F)) :
    xfM.view.write (Elt F) fd (xM.view.read (Elt F) fs) Finset.univ = fs := by
  show (View.whole cc0_scratch0).write (Elt F) fd ((View.whole main_arg0).read (Elt F) fs) Finset.univ = fs
  rw [View.read_whole]
  exact View.write_whole_univ _ _ _

/-! ## Loads and stores -/

theorem hz2 : (![0, 0] : Fin 2 → ℕ) = fun _ => 0 := funext fun a => by fin_cases a <;> rfl

/-- A load of slot `j` of `xg` touches the slot's indices only, -/
theorem slot_load_sub {j : ℕ} {off : Fin 3 → ℕ} (hoff : off = ![j, 0, 0]) (h : ∀ a, off a + S1x128x128.size a ≤ S32x128x128.size a) :
    xgM.view.setOn (Rect.unit (s := S32x128x128) off S1x128x128.size h).toLoadRect.set ⊆ slotSet j := by
  rw [← slot_rect_set hoff h]
  show Finset.map (Function.Embedding.refl _) _ ⊆ _
  rw [Finset.map_refl]

/-- and reads them. -/
theorem slot_load {j : Fin 32} {off : Fin 3 → ℕ} (hoff : off = ![j.val, 0, 0]) (h : ∀ a, off a + S1x128x128.size a ≤ S32x128x128.size a)
    (f : (cc0_scratch2 : Ref sig .tc).ty.Contents (Elt F)) :
    xgM.view.readAt (Elt F) (Rect.unit (s := S32x128x128) off S1x128x128.size h).toLoadRect f
      = (fun y => f (ix3 j (y 1) (y 2) : S32x128x128.Idx) : Vec F S1x128x128 .fp8e5m2) := by
  subst hoff
  funext y
  show f _ = f _
  congr 1
  funext a
  apply Fin.ext
  have h0 : (y 0).val < 1 := (y 0).isLt
  match a with
  | ⟨0, _⟩ => show j.val + 1 * (y 0).val = j.val; omega
  | ⟨1, _⟩ => show 0 + 1 * (y 1).val = (y 1).val; omega
  | ⟨2, _⟩ => show 0 + 1 * (y 2).val = (y 2).val; omega

theorem wslot_load_sub {j : ℕ} {off : Fin 3 → ℕ} (hoff : off = ![j, 0, 0]) (h : ∀ a, off a + S1x1024x2048.size a ≤ S3x1024x2048.size a) :
    wbM.view.setOn (Rect.unit (s := S3x1024x2048) off S1x1024x2048.size h).toLoadRect.set ⊆ wSet j := by
  rw [← w_rect_set hoff h]
  show Finset.map (Function.Embedding.refl _) _ ⊆ _
  rw [Finset.map_refl]

theorem wslot_load {j : Fin 3} {off : Fin 3 → ℕ} (hoff : off = ![j.val, 0, 0]) (h : ∀ a, off a + S1x1024x2048.size a ≤ S3x1024x2048.size a)
    (f : (cc0_scratch3 : Ref sig .tc).ty.Contents (Elt F)) :
    wbM.view.readAt (Elt F) (Rect.unit (s := S3x1024x2048) off S1x1024x2048.size h).toLoadRect f
      = (fun y => f (ix3 j (y 1) (y 2) : S3x1024x2048.Idx) : Vec F S1x1024x2048 .f32) := by
  subst hoff
  funext y
  show f _ = f _
  congr 1
  funext a
  apply Fin.ext
  have h0 : (y 0).val < 1 := (y 0).isLt
  match a with
  | ⟨0, _⟩ => show j.val + 1 * (y 0).val = j.val; omega
  | ⟨1, _⟩ => show 0 + 1 * (y 1).val = (y 1).val; omega
  | ⟨2, _⟩ => show 0 + 1 * (y 2).val = (y 2).val; omega

/-- A load of the rounded quarter just stored reads what was stored. -/
theorem wc_load_store (r : Rect S2x1024x2048) (f : (cc0_scratch4 : Ref sig .tc).ty.Contents (Elt F)) (v : r.shape.Idx → Elt F .fp8e5m2) :
    wcM.view.readAt (Elt F) r.toLoadRect ((wcM.access r : View sig .tc _ _ _).write (Elt F) f v Finset.univ) = v := by
  rw [View.readAt_rect]
  exact View.read_write_univ _ _

theorem xf_load (h : ∀ a, (![0, 0] : Fin 2 → ℕ) a + S4096x128.size a ≤ S4096x128.size a) (f : (cc0_scratch0 : Ref sig .tc).ty.Contents (Elt F)) :
    xfM.view.readAt (Elt F) (Rect.unit (s := S4096x128) ![0, 0] S4096x128.size h).toLoadRect f = f :=
  Memref.readAt_unit_zero (Elt F) cc0_scratch0 hz2 _ f
theorem x8_store (h : ∀ a, (![0, 0] : Fin 2 → ℕ) a + S4096x128.size a ≤ S4096x128.size a) (f v : (cc0_scratch1 : Ref sig .tc).ty.Contents (Elt F)) :
    (x8M.access (Rect.unit (s := S4096x128) ![0, 0] S4096x128.size h) : View sig .tc _ _ _).write (Elt F) f v Finset.univ = v :=
  Memref.write_access_unit_zero_univ (Elt F) cc0_scratch1 hz2 _ f v
theorem out_load (h : ∀ a, (![0, 0] : Fin 2 → ℕ) a + S128x2048.size a ≤ S128x2048.size a) (f : (cc0_stg2_0 : Ref sig .tc).ty.Contents (Elt F)) :
    oM.view.readAt (Elt F) (Rect.unit (s := S128x2048) ![0, 0] S128x2048.size h).toLoadRect f = f :=
  Memref.readAt_unit_zero (Elt F) cc0_stg2_0 hz2 _ f
theorem out_store (h : ∀ a, (![0, 0] : Fin 2 → ℕ) a + S128x2048.size a ≤ S128x2048.size a) (f v : (cc0_stg2_0 : Ref sig .tc).ty.Contents (Elt F)) :
    (oM.access (Rect.unit (s := S128x2048) ![0, 0] S128x2048.size h) : View sig .tc _ _ _).write (Elt F) f v Finset.univ = v :=
  Memref.write_access_unit_zero_univ (Elt F) cc0_stg2_0 hz2 _ f v

end Cert.AllToAll

end
-- ==== Proof.Protocol.lean ====
/-
# The protocol between the devices

What each semaphore of device `c` carries, who pays onto it, who waits on it, and what the payment hands over.

  * The barrier semaphore. Every other device `d` signals it once, and with the signal hands over slot `c` of ITS OWN
    gathered array, at whatever it holds. Device `c` waits for all 31 signals before it sends anything, so at that point it
    holds the slot it is about to fill on every peer.
  * Receive semaphore `j` (of 32). Device `j`'s transfer pays it once and hands over slot `j` of `c`'s gathered array, holding
    the block of `j`'s rounded rows that are meant for `c`. For `j = c` the payer is `c`'s own local copy, which also gives
    back the block of `x8` it read.
  * Send semaphore `k` (of 31). `c`'s own transfer to the device `k + 1` places on pays it once and gives back the block of `x8`
    that transfer read.
  * `w` semaphores 0, 1, 2. `c`'s own copies of quarters of `w` into the three staging slots pay them; the payment hands over the
    slot holding that quarter, and gives back the quarter. Semaphore 0 serves two copies in turn, the others one each.
  * The `x` semaphore. `c`'s own copy of `x` pays it once; it hands over the staging buffer holding `x` and gives back `x`.

A device owes 31 barrier signals and 31 transfers from the start. It waits for its own `x` copy and for the barrier while it still
owes the transfers, so a receive semaphore is placed above the barrier, which is above all the others.
-/
module

public import proofs.«01_k».proof.Proof.Views
public import proofs.«01_k».proof.Proof.Gen.KernelIdeal.Launch
public import Idealize.ShloMosaic.Lib.Tactic

@[expose] public section

noncomputable section

namespace Cert.AllToAll

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state of the rounds: cells' duties are named by the device that pays them. -/
abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- The memory at launch. -/
abbrev Mem0 (F : FTy → Type) : Type := (ℓ : Loc nD τ sig) → Buf (Elt F) ℓ

/-! ## The cells -/

/-- The runtime's barrier semaphore. -/
abbrev barS : Sem sig := (SemArray.scalar (sig.barrier 0 rfl) : Sems sig S_).sem
/-- The transfer semaphore numbered `n`. -/
def dq (n : ℕ) : DmaSem sig := (⟨n % 70, Nat.mod_lt _ (by decide)⟩ : Fin 70)

abbrev bar (c : Dev nD) : GSem nD τ sig := ((c : Thread nD τ), .reg barS)
abbrev dcell (c : Dev nD) (n : ℕ) : GSem nD τ sig := ((c : Thread nD τ), .dma (dq n))

theorem dq_val {n : ℕ} (h : n < 70) : (dq n).val = n := Nat.mod_eq_of_lt h

/-! ## Contents -/

section Contents

variable (m : Mem0 F)

/-- Device `c`'s block of columns of `x`, rounded. -/
def X8 (c : Dev nD) : (cc0_scratch1 : Ref sig .tc).ty.Contents (Elt F) := k0_pay1 (m ((c : Thread nD τ).loc main_arg0))

/-- The gathered array of device `c` when everything has arrived: slot `j` holds rows `128 c … 128 c + 127` of device `j`'s
    rounded block. -/
def XG (c : Dev nD) : (cc0_scratch2 : Ref sig .tc).ty.Contents (Elt F) :=
  (fun i => X8 m (⟨(i 0).val, (i 0).isLt⟩ : Dev nD)
    (ix2 (⟨128 * c.val + (i 1).val, by have h1 : (i 1).val < 128 := (i 1).isLt; have h2 : c.val < 32 := c.isLt; omega⟩ : Fin 4096) (⟨(i 2).val, (i 2).isLt⟩ : Fin 128) : S4096x128.Idx)
    : S32x128x128.Idx → Elt F .fp8e5m2)

/-- A staging slot when quarter `q` of `w` has arrived in it. -/
def WB (c : Dev nD) (q : Fin 4) : (cc0_scratch3 : Ref sig .tc).ty.Contents (Elt F) :=
  (fun i => m ((c : Thread nD τ).loc main_arg1)
    (ix2 (⟨1024 * q.val + (i 1).val, by have h1 : (i 1).val < 1024 := (i 1).isLt; have := q.isLt; omega⟩ : Fin 4096) (⟨(i 2).val, (i 2).isLt⟩ : Fin 2048) : S4096x2048.Idx)
    : S3x1024x2048.Idx → Elt F .f32)

end Contents

/-- The quarter met `r` steps on, as one of four. -/
def qr (c : Dev nD) (r : ℕ) : Fin 4 := ⟨quarter c r, quarter_lt c r⟩

/-! ## The pieces held -/

abbrev x8Loc (c : Dev nD) : Loc nD τ sig := (c : Thread nD τ).loc cc0_scratch1
abbrev xgLoc (c : Dev nD) : Loc nD τ sig := (c : Thread nD τ).loc cc0_scratch2
abbrev wbLoc (c : Dev nD) : Loc nD τ sig := (c : Thread nD τ).loc cc0_scratch3
abbrev wLoc (c : Dev nD) : Loc nD τ sig := (c : Thread nD τ).loc main_arg1

def rowPts (c : Dev nD) (j : ℕ) (f : Buf (Elt F) (x8Loc c)) : sProp 𝕄 := x8Loc c ↦[rowSet j]{fullShare} f
def slotPts (c : Dev nD) (j : ℕ) (f : Buf (Elt F) (xgLoc c)) : sProp 𝕄 := xgLoc c ↦[slotSet j]{fullShare} f
def wslotPts (c : Dev nD) (s : ℕ) (f : Buf (Elt F) (wbLoc c)) : sProp 𝕄 := wbLoc c ↦[wSet s]{fullShare} f
def chunkPts (c : Dev nD) (q : ℕ) (f : Buf (Elt F) (wLoc c)) : sProp 𝕄 := wLoc c ↦[chunkSet q]{fullShare} f

/-- Slot `j` of device `c`'s gathered array, whatever it holds. -/
def slotAny (c : Dev nD) (j : ℕ) : sProp 𝕄 := iprop(∃ f, slotPts (F := F) c j f)

omit [FloatOps F] in
instance rowPts_storable (c : Dev nD) (j : ℕ) (f) : BI.Storable (upEmb : UEmb _ 𝕄) (rowPts (F := F) c j f) := by unfold rowPts; infer_instance
omit [FloatOps F] in
instance slotPts_storable (c : Dev nD) (j : ℕ) (f) : BI.Storable (upEmb : UEmb _ 𝕄) (slotPts (F := F) c j f) := by unfold slotPts; infer_instance
omit [FloatOps F] in
instance wslotPts_storable (c : Dev nD) (j : ℕ) (f) : BI.Storable (upEmb : UEmb _ 𝕄) (wslotPts (F := F) c j f) := by unfold wslotPts; infer_instance
omit [FloatOps F] in
instance chunkPts_storable (c : Dev nD) (j : ℕ) (f) : BI.Storable (upEmb : UEmb _ 𝕄) (chunkPts (F := F) c j f) := by unfold chunkPts; infer_instance
omit [FloatOps F] in
instance slotAny_storable (c : Dev nD) (j : ℕ) : BI.Storable (upEmb : UEmb _ 𝕄) (slotAny (F := F) c j) := by unfold slotAny; infer_instance

/-! ## Amounts -/

/-- A 128 × 128 block's worth of credit; a quarter of `w`'s; the whole of `x`'s. -/
@[irreducible] def NT : ℕ := RefSig.tileCredit S128x128 .fp8e5m2
@[irreducible] def NW : ℕ := RefSig.tileCredit S1024x2048 .f32
@[irreducible] def NX : ℕ := RefSig.tileCredit S4096x128 .f32
theorem credit_eq (tb : Table) (b) (s : Shape) (e : EltTy) : sig.dmaCredit .tc tb b s e = RefSig.tileCredit s e := rfl
theorem credit_NT (tb : Table) (b) : sig.dmaCredit .tc tb b S128x128 .fp8e5m2 = NT := by unfold NT; exact credit_eq _ _ _ _
theorem credit_NW (tb : Table) (b) : sig.dmaCredit .tc tb b S1024x2048 .f32 = NW := by unfold NW; exact credit_eq _ _ _ _
theorem credit_NX (tb : Table) (b) : sig.dmaCredit .tc tb b S4096x128 .f32 = NX := by unfold NX; exact credit_eq _ _ _ _
theorem NT_pos : 0 < NT := by unfold NT; exact RefSig.tileCredit_pos _ _ (by decide)
theorem NW_pos : 0 < NW := by unfold NW; exact RefSig.tileCredit_pos _ _ (by decide)
theorem NX_pos : 0 < NX := by unfold NX; exact RefSig.tileCredit_pos _ _ (by decide)

/-! ## The schedule -/

/-- How many steps on the quarter lies that `w` semaphore `s` brings in its round `r`. -/
def wStep (s r : ℕ) : ℕ := if s = 0 then (if r = 0 then 0 else 2) else if s = 1 then 1 else 3

section Sched

variable (m : Mem0 F)

/-- What a payment onto send semaphore `k` hands over. -/
def sendPay (c : Dev nD) (k : ℕ) : sProp 𝕄 := rowPts c (pr c (k + 1)).val (X8 m c)
/-- What a payment onto receive semaphore `j` hands over. -/
def recvPay (c : Dev nD) (j : ℕ) : sProp 𝕄 := iprop(slotPts c j (XG m c) ∗ if j = c.val then rowPts c c.val (X8 m c) else iprop(emp))
/-- What a payment onto `w` semaphore `s`, bringing the quarter `r` steps on, hands over. -/
def wPay (c : Dev nD) (s r : ℕ) : sProp 𝕄 :=
  iprop(wslotPts c s (WB m c (qr c r)) ∗ chunkPts c (quarter c r) (m (wLoc c)))
/-- What the payment onto the `x` semaphore hands over. -/
def xPay (c : Dev nD) : sProp 𝕄 :=
  iprop((((c : Thread nD τ).loc cc0_scratch0) ↦{fullShare} (m ((c : Thread nD τ).loc main_arg0) : Buf (Elt F) ((c : Thread nD τ).loc cc0_scratch0)))
    ∗ (((c : Thread nD τ).loc main_arg0) ↦{fullShare} m ((c : Thread nD τ).loc main_arg0)))

def dmaPay (c : Dev nD) (n r : ℕ) : sProp 𝕄 :=
  if n < 34 then sendPay m c (n - 3) else if n < 66 then recvPay m c (n - 34) else if n < 69 then wPay m c (n - 66) (wStep (n - 66) r) else xPay m c

def dmaAmt (n : ℕ) : ℕ := if n < 66 then NT else if n < 69 then NW else NX

def sched : Rounds.Schedule (GSem nD τ sig) (Dev nD) 𝕄 where
  duties g r := match g.2 with
    | .reg s => if g.1.2 = .tc ∧ s = barS ∧ r = 0 then Finset.univ.erase g.1.1 else ∅
    | .dma q => if g.1.2 = .tc ∧ 3 ≤ q.val ∧ (r = 0 ∨ (r = 1 ∧ q.val = 66)) then {0} else ∅
  unitless _ := False
  amount g _ _ := match g.2 with
    | .reg _ => 1
    | .dma q => dmaAmt q.val
  payload g r d := match g.2 with
    | .reg _ => slotAny d g.1.1.val
    | .dma q => dmaPay m g.1.1 q.val r
  amount_pos g _ _ _ := by
    rcases g with ⟨_, s | q⟩
    · exact Nat.one_pos
    · show 0 < dmaAmt q.val
      unfold dmaAmt
      split
      · exact NT_pos
      · split
        · exact NW_pos
        · exact NX_pos

instance sched_storable (g : GSem nD τ sig) (r : ℕ) (d : Dev nD) : BI.Storable (upEmb : UEmb _ 𝕄) ((sched (F := F) m).payload g r d) := by
  rcases g with ⟨t, s | q⟩
  · show BI.Storable upEmb (slotAny d t.1.val); infer_instance
  · show BI.Storable upEmb (dmaPay m t.1 q.val r)
    unfold dmaPay sendPay recvPay wPay xPay
    (repeat' split) <;> infer_instance

variable (c : Dev nD)

theorem dut_bar_at {r : ℕ} (hr : r = 0) : (sched m).duties (bar c) r = Finset.univ.erase c := if_pos ⟨rfl, rfl, hr⟩
theorem dut_bar : (sched m).duties (bar c) 0 = Finset.univ.erase c := dut_bar_at m c rfl
theorem dut_bar_later : ∀ r, 1 ≤ r → (sched m).duties (bar c) r = ∅ := fun r hr => if_neg fun h => by have := h.2.2; omega
theorem dut_dma {n : ℕ} (h3 : 3 ≤ n) (h : n < 70) : (sched m).duties (dcell c n) 0 = {0} :=
  if_pos ⟨rfl, by rw [dq_val h]; exact h3, Or.inl rfl⟩
theorem dut_w0_at {r : ℕ} (hr : r = 1) : (sched m).duties (dcell c 66) r = {0} := if_pos ⟨rfl, by decide, Or.inr ⟨hr, rfl⟩⟩
theorem dut_w0 : (sched m).duties (dcell c 66) 1 = {0} := dut_w0_at m c rfl
theorem dut_dma_later {n : ℕ} (h : n < 70) (hn : n ≠ 66) : ∀ r, 1 ≤ r → (sched m).duties (dcell c n) r = ∅ := fun r hr =>
  if_neg fun h' => by
    rcases h'.2.2 with h0 | h0
    · omega
    · exact hn ((dq_val h).symm.trans h0.2)
theorem dut_w0_later : ∀ r, 2 ≤ r → (sched m).duties (dcell c 66) r = ∅ := fun r hr =>
  if_neg fun h' => by rcases h'.2.2 with h0 | h0 <;> omega

theorem amt_bar (d : Dev nD) : (sched m).amount (bar c) 0 d = 1 := rfl
theorem amt_dma {n : ℕ} (h : n < 70) (r : ℕ) (d : Dev nD) : (sched m).amount (dcell c n) r d = dmaAmt n := by
  show dmaAmt (dq n).val = _; rw [dq_val h]

theorem dmaAmt_send {k : ℕ} (hk : k < 31) : dmaAmt (3 + k) = NT := if_pos (by omega)
theorem dmaAmt_recv {j : ℕ} (hj : j < 32) : dmaAmt (34 + j) = NT := if_pos (by omega)
theorem dmaAmt_w {s : ℕ} (hs : s < 3) : dmaAmt (66 + s) = NW := by unfold dmaAmt; rw [if_neg (by omega), if_pos (by omega)]
theorem dmaAmt_w0 : dmaAmt 66 = NW := by unfold dmaAmt; rw [if_neg (by omega), if_pos (by omega)]
theorem dmaAmt_x : dmaAmt 69 = NX := by unfold dmaAmt; rw [if_neg (by omega), if_neg (by omega)]

theorem exp_bar : (sched m).expect (bar c) 0 = 31 := by
  unfold Schedule.expect Schedule.amountOf
  rw [dut_bar, Finset.sum_congr rfl fun d _ => amt_bar m c d, Finset.sum_const, Finset.card_erase_of_mem (Finset.mem_univ _), Finset.card_univ, Fintype.card_fin]
  decide
theorem exp_dma {n : ℕ} (h3 : 3 ≤ n) (h : n < 70) : (sched m).expect (dcell c n) 0 = dmaAmt n := by
  unfold Schedule.expect Schedule.amountOf
  rw [dut_dma m c h3 h, Finset.sum_singleton, amt_dma m c h]
theorem exp_one {n r : ℕ} (h : n < 70) (hd : (sched m).duties (dcell c n) r = {0}) : (sched m).expect (dcell c n) r = dmaAmt n := by
  unfold Schedule.expect Schedule.amountOf
  rw [hd, Finset.sum_singleton, amt_dma m c h]
theorem exp_w0 : (sched m).expect (dcell c 66) 1 = NW := (exp_one m c (by decide) (dut_w0 m c)).trans dmaAmt_w0

theorem pay_bar (d : Dev nD) : (sched m).payload (bar c) 0 d = slotAny d c.val := rfl
theorem pay_dma {n : ℕ} (h : n < 70) (r : ℕ) (d : Dev nD) : (sched m).payload (dcell c n) r d = dmaPay m c n r := by
  show dmaPay m c (dq n).val r = _; rw [dq_val h]

theorem dmaPay_send {k : ℕ} (hk : k < 31) (r : ℕ) : dmaPay m c (3 + k) r = sendPay m c k := by
  unfold dmaPay; rw [if_pos (by omega), Nat.add_sub_cancel_left]
theorem dmaPay_recv {j : ℕ} (hj : j < 32) (r : ℕ) : dmaPay m c (34 + j) r = recvPay m c j := by
  unfold dmaPay; rw [if_neg (by omega), if_pos (by omega), Nat.add_sub_cancel_left]
theorem dmaPay_w {s : ℕ} (hs : s < 3) (r : ℕ) : dmaPay m c (66 + s) r = wPay m c s (wStep s r) := by
  unfold dmaPay; rw [if_neg (by omega), if_neg (by omega), if_pos (by omega), Nat.add_sub_cancel_left]
theorem dmaPay_x (r : ℕ) : dmaPay m c 69 r = xPay m c := by
  unfold dmaPay; rw [if_neg (by omega), if_neg (by omega), if_neg (by omega)]

theorem rest_bar : bigSep ((sched m).duties (bar c) 0 \ ∅) (fun d => (sched m).payload (bar c) 0 d) = bigSep (Finset.univ.erase c) (fun d => slotAny (F := F) d c.val) := by
  rw [Finset.sdiff_empty, dut_bar]; rfl
theorem rest_dma {n : ℕ} (h3 : 3 ≤ n) (h : n < 70) :
    bigSep ((sched m).duties (dcell c n) 0 \ ∅) (fun d => (sched m).payload (dcell c n) 0 d) = dmaPay m c n 0 := by
  rw [Finset.sdiff_empty, dut_dma m c h3 h, bigSep_singleton, pay_dma m c h]
theorem rest_one {n r : ℕ} (h : n < 70) (hd : (sched m).duties (dcell c n) r = {0}) :
    bigSep ((sched m).duties (dcell c n) r \ ∅) (fun d => (sched m).payload (dcell c n) r d) = dmaPay m c n r := by
  rw [Finset.sdiff_empty, hd, bigSep_singleton, pay_dma m c h]
theorem rest_w0 : bigSep ((sched m).duties (dcell c 66) 1 \ ∅) (fun d => (sched m).payload (dcell c 66) 1 d) = dmaPay m c 66 1 :=
  rest_one m c (by decide) (dut_w0 m c)

end Sched

/-! ## What a device owes, and the levels -/

theorem Ico_step {d n : ℕ} (h : d < n) : Finset.Ico d n = insert d (Finset.Ico (d + 1) n) := by
  ext k; rw [Finset.mem_insert, Finset.mem_Ico, Finset.mem_Ico]; omega

/-- The barrier signals from the `d`-th on. -/
def OB (c : Dev nD) (d : ℕ) : CellTallies nD τ sig Unit := ∑ k ∈ Finset.Ico d 31, tallyAt (bar (pr c (k + 1))) () 1
/-- The transfers' receive credit from the `d`-th on. -/
def OR (c : Dev nD) (d : ℕ) : CellTallies nD τ sig Unit := ∑ k ∈ Finset.Ico d 31, tallyAt (dcell (pr c (k + 1)) (34 + c.val)) () NT
/-- What device `c` owes at launch. -/
def O₀ (c : Dev nD) : CellTallies nD τ sig Unit := OB c 0 + OR c 0

theorem OB_step (c : Dev nD) {d : ℕ} (h : d < 31) : OB c d = OB c (d + 1) + tallyAt (bar (pr c (d + 1))) () 1 := by
  unfold OB; rw [Ico_step h, Finset.sum_insert (by simp), add_comm]
theorem OR_step (c : Dev nD) {d : ℕ} (h : d < 31) : OR c d = OR c (d + 1) + tallyAt (dcell (pr c (d + 1)) (34 + c.val)) () NT := by
  unfold OR; rw [Ico_step h, Finset.sum_insert (by simp), add_comm]
theorem OB_last (c : Dev nD) : OB c 31 = 0 := by unfold OB; rw [Finset.Ico_self, Finset.sum_empty]
theorem OR_last (c : Dev nD) : OR c 31 = 0 := by unfold OR; rw [Finset.Ico_self, Finset.sum_empty]

def L (g : GSem nD τ sig) : Finset Unit := if g.1.2 = .tc then {()} else ∅
def lv (g : GSem nD τ sig) (_ : Unit) : ℕ := match g.2 with
  | .reg _ => 1
  | .dma q => if 34 ≤ q.val ∧ q.val < 66 then 2 else 0
theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (bar c) u = 1 := rfl
theorem lv_recv (c : Dev nD) (j : Dev nD) (u : Unit) : lv (dcell c (34 + j.val)) u = 2 := by
  have hj : j.val < 32 := j.isLt
  show (if 34 ≤ (dq (34 + j.val)).val ∧ (dq (34 + j.val)).val < 66 then 2 else 0) = 2
  rw [dq_val (by omega), if_pos (by omega)]

theorem sum_tally_pos {S : Finset ℕ} {f : ℕ → GSem nD τ sig} {N : ℕ} {g : GSem nD τ sig} {u : Unit}
    (h : 0 < (∑ k ∈ S, tallyAt (f k) () N : CellTallies nD τ sig Unit) g u) : ∃ k ∈ S, g = f k := by
  by_contra hn
  push Not at hn
  rw [Finset.sum_apply, Finsupp.finsetSum_apply, Finset.sum_eq_zero (fun k hk => by rw [tallyAt_apply, if_neg (fun h' => hn k hk h'.1)])] at h
  exact Nat.lt_irrefl 0 h

theorem OR_pos {c : Dev nD} {d : ℕ} {g : GSem nD τ sig} {u : Unit} (h : 0 < OR c d g u) : ∃ p : Dev nD, g = dcell p (34 + c.val) := by
  obtain ⟨k, -, hk⟩ := sum_tally_pos h; exact ⟨_, hk⟩
theorem OB_pos {c : Dev nD} {d : ℕ} {g : GSem nD τ sig} {u : Unit} (h : 0 < OB c d g u) : ∃ p : Dev nD, g = bar p := by
  obtain ⟨k, -, hk⟩ := sum_tally_pos h; exact ⟨_, hk⟩
theorem OBR_pos {c : Dev nD} {d e : ℕ} {g : GSem nD τ sig} {u : Unit} (h : 0 < (OB c d + OR c e) g u) :
    (∃ p : Dev nD, g = bar p) ∨ ∃ p : Dev nD, g = dcell p (34 + c.val) := by
  rw [Pi.add_apply, Finsupp.add_apply] at h
  rcases Nat.eq_zero_or_pos (OB c d g u) with h0 | h0
  · rw [h0, Nat.zero_add] at h; exact Or.inr (OR_pos h)
  · exact Or.inl (OB_pos h0)

omit [FloatOps F] in
/-- Any semaphore but the barrier's and the receive semaphores may be waited on whatever is still owed. -/
theorem mayWait_low (c : Dev nD) (q : DmaSem sig) (hq : ¬(34 ≤ q.val ∧ q.val < 66)) (d e : ℕ) :
    (levAts L lv : sProp 𝕄) ⊢ MayWait (c : Thread nD τ) (.dma q) () (OB c d + OR c e) :=
  MayOwe.of_cut (L := L) (lev := lv) 0 (fun p hp => by rw [Finset.mem_singleton.mp hp, L_tc]; exact Finset.mem_singleton_self _)
    (fun g u hg => by rcases OBR_pos hg with ⟨p, rfl⟩ | ⟨p, rfl⟩ <;> exact Finset.mem_singleton_self _)
    (fun p hp => by rw [Finset.mem_singleton.mp hp]; dsimp only [lv]; rw [if_neg hq])
    (fun g u hg => by
      rcases OBR_pos hg with ⟨p, rfl⟩ | ⟨p, rfl⟩
      · rw [lv_bar]; decide
      · rw [lv_recv]; decide)

omit [FloatOps F] in
/-- The barrier may be waited on while transfers are still owed. -/
theorem mayWait_bar (c : Dev nD) (e : ℕ) : (levAts L lv : sProp 𝕄) ⊢ MayWait (c : Thread nD τ) (.reg barS) () (OR c e) :=
  MayOwe.of_cut (L := L) (lev := lv) 1 (fun p hp => by rw [Finset.mem_singleton.mp hp, L_tc]; exact Finset.mem_singleton_self _)
    (fun g u hg => by obtain ⟨p, rfl⟩ := OR_pos hg; exact Finset.mem_singleton_self _)
    (fun p hp => by rw [Finset.mem_singleton.mp hp]; exact Nat.le_refl _)
    (fun g u hg => by obtain ⟨p, rfl⟩ := OR_pos hg; rw [lv_recv]; decide)

end Cert.AllToAll

end
-- ==== Proof.Steps.lean ====
/-
# One step of the kernel each

The rule for each kind of effect the kernel performs, at this protocol: the barrier signal and wait, the four kinds of copy, the
wait on a transfer semaphore, and the loads. Each is stated with what the device holds before and after, for the
program's own offsets and semaphores under the equations that say which they are.
-/
module

public import proofs.«01_k».proof.Proof.Protocol
public import proofs.«01_k».proof.Proof.Gen.KernelIdeal.Skeleton
public import Idealize.ShloMosaic.Lib.Pipeline.Kit

@[expose] public section

noncomputable section

namespace Cert.AllToAll

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a piece of the kernel on device `c`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What device `c` owes, whatever it has waited on so far. -/
def ow (c : Dev nD) (O : CellTallies nD τ sig Unit) : sProp 𝕄 := iprop(∃ W, owes (c : Thread nD τ) O W)

omit [FloatOps F] in
theorem pick {I : Type} [DecidableEq I] (Φ : I → sProp 𝕄) {s : Finset I} {i : I} (hi : i ∈ s) : iprop(bigSep s Φ) ⊢ iprop(Φ i) := bigSep_elim hi
omit [FloatOps F] in
theorem Ico_sep (Φ : ℕ → sProp 𝕄) {d n : ℕ} (h : d < n) : bigSep (Finset.Ico d n) Φ = iprop(Φ d ∗ bigSep (Finset.Ico (d + 1) n) Φ) := by
  rw [Ico_step h, bigSep_insert (by rw [Finset.mem_Ico]; omega)]; rfl
omit [FloatOps F] in
theorem range_sep (Φ : ℕ → sProp 𝕄) (d : ℕ) : bigSep (Finset.range (d + 1)) Φ = iprop(Φ d ∗ bigSep (Finset.range d) Φ) := by
  rw [Finset.range_add_one, bigSep_insert (by rw [Finset.mem_range]; omega)]; rfl

/-! ## Facts shared by all the devices -/

section Shared

variable (m : Mem0 F)

/-- A cell's invariant, and that its round 0 is reached. -/
def rcd (g : GSem nD τ sig) : sProp 𝕄 := iprop((∃ κ, cellInv ER (sched m) κ g) ∗ reached ER g 0)
instance rcd_persistent (g : GSem nD τ sig) : BI.Persistent (rcd m g) := by unfold rcd; infer_instance

def recs : sProp 𝕄 :=
  iprop(bigSep Finset.univ (fun c : Dev nD => rcd m (bar c)) ∗ bigSep Finset.univ (fun p : Dev nD × Fin 67 => rcd m (dcell p.1 (3 + p.2.val))))
instance recs_persistent : BI.Persistent (recs m) := by unfold recs; infer_instance

/-- Every cell's invariant, and the levels. -/
def pers : sProp 𝕄 := iprop(recs m ∗ levAts L lv)
instance pers_persistent : BI.Persistent (pers m) := by unfold pers; infer_instance

theorem pers_lev : pers m ⊢ (levAts L lv : sProp 𝕄) := by unfold pers; iintro ⟨-, H⟩; iexact H
set_option maxRecDepth 8000 in
theorem pers_wait {P : sProp 𝕄} (h : (levAts L lv : sProp 𝕄) ⊢ P) : pers m ⊢ P := by
  unfold pers; iintro ⟨-, H⟩; iapply h; iexact H
theorem pers_bar (c : Dev nD) : pers m ⊢ rcd m (bar c) := by
  unfold pers recs
  iintro ⟨⟨H, -⟩, -⟩
  iapply (pick (fun c : Dev nD => rcd m (bar c)) (Finset.mem_univ c)) $$ H
theorem pers_dma (c : Dev nD) {n : ℕ} (h3 : 3 ≤ n) (h : n < 70) : pers m ⊢ rcd m (dcell c n) := by
  unfold pers recs
  iintro ⟨⟨-, H⟩, -⟩
  ihave H1 := (pick (fun p : Dev nD × Fin 67 => rcd m (dcell p.1 (3 + p.2.val))) (Finset.mem_univ ((c, ⟨n - 3, by omega⟩) : Dev nD × Fin 67))) $$ H
  rw [show 3 + (n - 3) = n from by omega]
  iexact H1

end Shared

/-! ## Signals and the barrier wait -/

section Steps

variable (m : Mem0 F) {α : Type} {Q : α → sProp (MT nD τ sig Unit (Elt F) ℕ UU ℕ)} {k : PUnit → Prog (TpuEff nD τ sig (Elt F) Λ₀ .tc) α}

/-- What the `d`-th signal takes: its token, and slot `pr c (d + 1)` of `c`'s own gathered array. -/
def sigRes (c : Dev nD) (d : ℕ) : sProp 𝕄 :=
  iprop(dutyTok ER (bar (pr c (d + 1))) 0 c ∗ slotAny c (pr c (d + 1)).val)
/-- Before the `d`-th signal. -/
def SigSt (c : Dev nD) (d : ℕ) : sProp 𝕄 := iprop(ow c (OB c d + OR c 0) ∗ bigSep (Finset.Ico d 31) (sigRes c))

theorem step_signal (c n : Dev nD) {d : ℕ} (hd : d < 31) (hn : n = pr c (d + 1)) :
    iprop(pers m ∗ SigSt c d)
      ⊢ iprop((SigSt c (d + 1) -∗ wpc c (k ⟨⟩) Q) -∗ wpc c (.op (.semSignal (n : Thread nD τ) barS (BitVec.toInt 1#32)) k) Q) := by
  subst hn
  unfold SigSt
  rw [Ico_sep _ hd]
  unfold ow sigRes
  iintro ⟨#HP, ⟨%W, HO⟩, ⟨Htok, Hs⟩, Hrest⟩ Hk
  ihave HR := (pers_bar m (pr c (d + 1))) $$ HP
  unfold rcd
  icases HR with ⟨⟨%κ, #HI⟩, #Hr⟩
  iapply (Rounds.wp_signal 𝒱₀ ER (sched m) (c : Thread nD τ) none (dst := (pr c (d + 1) : Thread nD τ)) (κ := κ)
      (d := c) (r := 0) (k' := 1) (by rw [dut_bar]; exact Finset.mem_erase.mpr ⟨(pr_ne c hd).symm, Finset.mem_univ _⟩) (amt_bar m _ c) () (O₀ := OB c d + OR c 0)
      (OB c (d + 1) + OR c 0) (by rw [OB_step c hd, add_right_comm])) $$ [HO Htok Hs]
  · isplitr; · iexact HI
    isplitl [HO]; · iexact HO
    isplitl [Htok]; · iexact Htok
    isplitl [Hs]; · rw [pay_bar]; iexact Hs
    iexact Hr
  iintro HO
  iapply Hk
  isplitl [HO]
  · iexists W; iexact HO
  iexact Hrest

/-- What the barrier wait brings, seen from the device that waited: the slots it is about to fill, in the order it fills them. -/
def peerSlots (c : Dev nD) : sProp 𝕄 := bigSep (Finset.Ico 0 31) (fun d => slotAny (F := F) (pr c (d + 1)) c.val)

theorem erase_peers (c : Dev nD) (Ψ : Dev nD → sProp 𝕄) :
    bigSep (Finset.univ.erase c) Ψ = bigSep (Finset.Ico 0 31) (fun k => Ψ (pr c (k + 1))) := by
  rw [← peers_image c]
  exact Finset.fold_image (fun x hx y hy h => peers_inj c (Finset.mem_coe.mpr hx) (Finset.mem_coe.mpr hy) h)

theorem step_barrier (c : Dev nD) :
    iprop(pers m ∗ cred (tallyAt (bar c) () 31) ∗ ow c (OR c 0) ∗ atPos ER (bar c) 0 ∅ 0)
      ⊢ iprop(((ow c (OR c 0) ∗ peerSlots c ∗ semVal (bar c) 0) -∗ wpc c (k ⟨⟩) Q)
          -∗ wpc c (.op (.semWait barS (BitVec.toInt 31#32)) k) Q) := by
  unfold ow
  iintro ⟨#HP, Hc, ⟨%W, HO⟩, Hat⟩ Hk
  ihave HR := (pers_bar m c) $$ HP
  unfold rcd
  icases HR with ⟨⟨%κ, #HI⟩, -⟩
  iapply (Rounds.wp_wait_rest_token 𝒱₀ ER (sched m) (c : Thread nD τ) none (κ := κ)
      (k' := 31) (wpE_semWait_eq 𝒱₀ (c : Thread nD τ) none Set.univ) (Set.mem_univ _) () (O := OR c 0) (W := W) (R := 0) (m := 0) (T := ∅)
      (by rw [exp_bar])) $$ [Hc HO Hat]
  · isplitr; · iexact HI
    isplitl [Hc]; · iexact Hc
    isplitl [HO]; · iexact HO
    isplitr; · iapply (pers_wait m (mayWait_bar c 0)); iexact HP
    iexact Hat
  iintro ⟨HO, Hat, -, Hpay⟩
  ihave Hp := (Entails.of_eq ((rest_bar m c).trans (erase_peers c (fun d => slotAny (F := F) d c.val)))) $$ Hpay
  imod (Rounds.cell_close ER (sched m) (Set.mem_univ κ) (fun h => h) (R := 0 + 1) (dut_bar_later m c)) $$ [Hat] with Hz
  · isplitr; · iexact HI
    iexact Hat
  iapply Hk
  isplitl [HO]
  · iexists _; iexact HO
  isplitl [Hp]
  · unfold peerSlots; iexact Hp
  iexact Hz

/-! ## Waits on transfer semaphores -/

/-- What a wait on the transfer cell `n` needs. -/
def waitRes (c : Dev nD) (n : ℕ) : sProp 𝕄 := iprop(cred (tallyAt (dcell c n) () (dmaAmt n)) ∗ atPos ER (dcell c n) 0 ∅ 0)

/-- A wait for the one round of a transfer cell, after which the cell is closed. -/
theorem step_wait (c : Dev nD) {n : ℕ} (h3 : 3 ≤ n) (h : n < 70) (hn : n ≠ 66) {q : DmaSem sig} (hq : q = dq n) {O : CellTallies nD τ sig Unit}
    (hO : (levAts L lv : sProp 𝕄) ⊢ MayWait (c : Thread nD τ) (.dma (dq n)) () O)
    {sp sp' : Space} {s s' : Shape} {e e' : EltTy} {src : Memref sig .tc sp' s' e'} {dst : Memref sig .tc sp s e}
    {hsrc : src.view.WordExact} {hdst : dst.view.WordExact} (hN : dst.view.dmaCredit = dmaAmt n) :
    iprop(pers m ∗ waitRes c n ∗ ow c O)
      ⊢ iprop(((ow c O ∗ dmaPay m c n 0 ∗ semVal (dcell c n) 0) -∗ wpc c (k ⟨⟩) Q)
          -∗ wpc c (.op (.waitDma2 q src dst hsrc hdst) k) Q) := by
  subst hq
  unfold ow waitRes
  iintro ⟨#HP, ⟨Hc, Hat⟩, ⟨%W, HO⟩⟩ Hk
  ihave HR := (pers_dma m c h3 h) $$ HP
  unfold rcd
  icases HR with ⟨⟨%κ, #HI⟩, -⟩
  iapply (Rounds.wp_wait_rest_token 𝒱₀ ER (sched m) (c : Thread nD τ) none (κ := κ)
      (k' := dmaAmt n) (fun K => by rw [← hN]; exact wpE_waitDma2_eq 𝒱₀ (c : Thread nD τ) none Set.univ K) (Set.mem_univ _) () (O := O) (W := W) (R := 0) (m := 0) (T := ∅)
      (by rw [Nat.zero_add, exp_dma m c h3 h])) $$ [Hc HO Hat]
  · isplitr; · iexact HI
    isplitl [Hc]; · iexact Hc
    isplitl [HO]; · iexact HO
    isplitr; · iapply (pers_wait m hO); iexact HP
    iexact Hat
  iintro ⟨HO, Hat, -, Hpay⟩
  ihave Hp := (Entails.of_eq (rest_dma m c h3 h)) $$ Hpay
  imod (Rounds.cell_close ER (sched m) (Set.mem_univ κ) (fun h => h) (R := 0 + 1) (dut_dma_later m c h hn)) $$ [Hat] with Hz
  · isplitr; · iexact HI
    iexact Hat
  iapply Hk
  isplitl [HO]
  · iexists _; iexact HO
  isplitl [Hp]
  · iexact Hp
  iexact Hz

theorem mayWait_nothing (c : Dev nD) (sm : SemLoc sig) : (levAts L lv : sProp 𝕄) ⊢ MayWait (c : Thread nD τ) sm () 0 := by
  rw [MayWait_zero]; iintro -; iempintro

/-- The first of the two waits on `w` semaphore 0. -/
theorem step_wait_w0 (c : Dev nD) {q : DmaSem sig} (hq : q = dq 66)
    {sp sp' : Space} {s s' : Shape} {e e' : EltTy} {src : Memref sig .tc sp' s' e'} {dst : Memref sig .tc sp s e}
    {hsrc : src.view.WordExact} {hdst : dst.view.WordExact} (hN : dst.view.dmaCredit = dmaAmt 66) :
    iprop(pers m ∗ waitRes c 66 ∗ ow c 0)
      ⊢ iprop(((ow c 0 ∗ wPay m c 0 0 ∗ atPos ER (dcell c 66) 1 ∅ 0 ∗ reached ER (dcell c 66) 1) -∗ wpc c (k ⟨⟩) Q)
          -∗ wpc c (.op (.waitDma2 q src dst hsrc hdst) k) Q) := by
  subst hq
  unfold ow waitRes
  iintro ⟨#HP, ⟨Hc, Hat⟩, ⟨%W, HO⟩⟩ Hk
  ihave HR := (pers_dma m c (n := 66) (by decide) (by decide)) $$ HP
  unfold rcd
  icases HR with ⟨⟨%κ, #HI⟩, -⟩
  iapply (Rounds.wp_wait_rest_token 𝒱₀ ER (sched m) (c : Thread nD τ) none (κ := κ)
      (k' := dmaAmt 66) (fun K => by rw [← hN]; exact wpE_waitDma2_eq 𝒱₀ (c : Thread nD τ) none Set.univ K) (Set.mem_univ _) () (O := 0) (W := W) (R := 0) (m := 0) (T := ∅)
      (by rw [Nat.zero_add, exp_dma m c (n := 66) (by decide) (by decide)])) $$ [Hc HO Hat]
  · isplitr; · iexact HI
    isplitl [Hc]; · iexact Hc
    isplitl [HO]; · iexact HO
    isplitr; · rw [MayWait_zero]; iempintro
    iexact Hat
  iintro ⟨HO, Hat, Hr, Hpay⟩
  ihave Hp := (Entails.of_eq ((rest_dma m c (n := 66) (by decide) (by decide)).trans (dmaPay_w m c (s := 0) (by decide) 0))) $$ Hpay
  iapply Hk
  isplitl [HO]
  · iexists _; iexact HO
  isplitl [Hp]
  · iexact Hp
  isplitl [Hat]
  · iexact Hat
  iexact Hr

/-- The second wait on `w` semaphore 0, after which the cell is closed. -/
theorem step_wait_w0' (c : Dev nD) {q : DmaSem sig} (hq : q = dq 66)
    {sp sp' : Space} {s s' : Shape} {e e' : EltTy} {src : Memref sig .tc sp' s' e'} {dst : Memref sig .tc sp s e}
    {hsrc : src.view.WordExact} {hdst : dst.view.WordExact} (hN : dst.view.dmaCredit = NW) :
    iprop(pers m ∗ cred (tallyAt (dcell c 66) () NW) ∗ atPos ER (dcell c 66) 1 ∅ 0 ∗ ow c 0)
      ⊢ iprop(((ow c 0 ∗ wPay m c 0 2 ∗ semVal (dcell c 66) 0) -∗ wpc c (k ⟨⟩) Q)
          -∗ wpc c (.op (.waitDma2 q src dst hsrc hdst) k) Q) := by
  subst hq
  unfold ow
  iintro ⟨#HP, Hc, Hat, ⟨%W, HO⟩⟩ Hk
  ihave HR := (pers_dma m c (n := 66) (by decide) (by decide)) $$ HP
  unfold rcd
  icases HR with ⟨⟨%κ, #HI⟩, -⟩
  iapply (Rounds.wp_wait_rest_token 𝒱₀ ER (sched m) (c : Thread nD τ) none (κ := κ)
      (k' := NW) (fun K => by rw [← hN]; exact wpE_waitDma2_eq 𝒱₀ (c : Thread nD τ) none Set.univ K) (Set.mem_univ _) () (O := 0) (W := W) (R := 1) (m := 0) (T := ∅)
      (by rw [Nat.zero_add, exp_w0 m c])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq ((rest_w0 m c).trans (dmaPay_w m c (s := 0) (by decide) 1))) $$ Hpay
  imod (Rounds.cell_close ER (sched m) (Set.mem_univ κ) (fun h => h) (R := 1 + 1) (dut_w0_later m c)) $$ [Hat] with Hz
  · isplitr; · iexact HI
    iexact Hat
  iapply Hk
  isplitl [HO]
  · iexists _; iexact HO
  isplitl [Hp]
  · iexact Hp
  iexact Hz

/-! ## Copies within the device -/

/-- The copy of `x` into its staging buffer. -/
theorem step_xcopy (c : Dev nD) {q : DmaSem sig} (hq : q = dq 69) {hsrc : xM.view.WordExact} {hdst : xfM.view.WordExact}
    {hsem : DmaTarget.Typed .hbm (.dma q) (DmaTarget.here xfM : DmaTarget nD τ sig .tc .vmem S4096x128 .f32)}
    (fd : Buf (Elt F) ((c : Thread nD τ).loc cc0_scratch0)) :
    iprop(pers m ∗ (((c : Thread nD τ).loc main_arg0) ↦{fullShare} m ((c : Thread nD τ).loc main_arg0)) ∗ (((c : Thread nD τ).loc cc0_scratch0) ↦{fullShare} fd)
        ∗ dutyTok ER (dcell c 69) 0 0)
      ⊢ iprop((cred (tallyAt (dcell c 69) () (dmaAmt 69)) -∗ wpc c (k ⟨⟩) Q)
          -∗ wpc c (.op (.enqueueDma xM (.here xfM) (.dma q) hsrc hdst hsem) k) Q) := by
  subst hq
  iintro ⟨#HP, Hx, Hd, Htok⟩ Hk
  ihave HR := (pers_dma m c (n := 69) (by decide) (by decide)) $$ HP
  unfold rcd
  icases HR with ⟨⟨%κ, #HI⟩, #Hr⟩
  iapply (Rounds.wp_copy_pointsTo 𝒱₀ ER (sched m) (c : Thread nD τ) none (src := xM) (dst := xfM) (κ := κ) (r := 0) (d := 0)
      (fs := m ((c : Thread nD τ).loc main_arg0)) (fd := fd) (q := fullShare)
      (by rw [dut_dma m c (by decide) (by decide)]; exact Finset.mem_singleton_self _) () (dmaAmt 69)
      (by rw [dmaAmt_x]; exact credit_NX _ _) (amt_dma m c (by decide) 0 0)
      (by
        rw [pay_dma m c (by decide), dmaPay_x, x_landing, View.set_whole, View.set_whole]
        exact BI.Entails.refl _)) $$ [Hx Hd Htok]
  · rw [View.set_whole, View.set_whole]
    isplitr; · iexact HI
    isplitl [Hx]; · iexact Hx
    isplitl [Hd]; · iexact Hd
    isplitl [Htok]; · iexact Htok
    iexact Hr
  iexact Hk

/-- The copy of a quarter of `w` into a staging slot. -/
theorem step_wcopy (c : Dev nD) (s : Fin 3) (t r : ℕ) (hst : wStep s.val t = r) (hdut : (sched m).duties (dcell c (66 + s.val)) t = {0})
    {q : DmaSem sig} (hq : q = dq (66 + s.val))
    {off1 : Fin 2 → ℕ} {h1 : ∀ a, off1 a + S1024x2048.size a ≤ S4096x2048.size a} (ho1 : off1 = ![1024 * quarter c r, 0])
    {off8 : Fin 3 → ℕ} {h8 : ∀ a, off8 a + S1x1024x2048.size a ≤ S3x1024x2048.size a} (ho8 : off8 = ![s.val, 0, 0])
    {hsrc : (chunkM off1 h1).view.WordExact} {hdst : (wslotM off8 h8).view.WordExact}
    {hsem : DmaTarget.Typed .hbm (.dma q) (DmaTarget.here (wslotM off8 h8) : DmaTarget nD τ sig .tc .vmem S1024x2048 .f32)} (fd : Buf (Elt F) (wbLoc c)) :
    iprop(pers m ∗ chunkPts c (quarter c r) (m (wLoc c)) ∗ wslotPts c s.val fd ∗ dutyTok ER (dcell c (66 + s.val)) t 0 ∗ reached ER (dcell c (66 + s.val)) t)
      ⊢ iprop((cred (tallyAt (dcell c (66 + s.val)) () (dmaAmt (66 + s.val))) -∗ wpc c (k ⟨⟩) Q)
          -∗ wpc c (.op (.enqueueDma (chunkM off1 h1) (.here (wslotM off8 h8)) (.dma q) hsrc hdst hsem) k) Q) := by
  subst hq
  have hs := s.isLt
  unfold chunkPts wslotPts
  iintro ⟨#HP, Hx, Hd, Htok, Hr⟩ Hk
  ihave HR := (pers_dma m c (n := 66 + s.val) (by omega) (by omega)) $$ HP
  unfold rcd
  icases HR with ⟨⟨%κ, #HI⟩, -⟩
  iapply (Rounds.wp_copy_pointsTo 𝒱₀ ER (sched m) (c : Thread nD τ) none (src := chunkM off1 h1) (dst := wslotM off8 h8) (κ := κ) (r := t) (d := 0)
      (fs := m (wLoc c)) (fd := fd) (q := fullShare)
      (by rw [hdut]; exact Finset.mem_singleton_self _) () (dmaAmt (66 + s.val))
      (by rw [dmaAmt_w hs]; exact credit_NW _ _) (amt_dma m c (by omega) t 0)
      (by
        rw [pay_dma m c (by omega), dmaPay_w m c hs, hst]
        unfold wPay wslotPts chunkPts
        rw [wslot_set ho8 h8, chunk_set ho1 h1]
        refine BIClass.sep_mono (Entails.of_eq (pointsTo_congr (fun i hi => ?_))) (BI.Entails.refl _)
        exact wslot_landing (j := s) ho8 ho1 h8 h1 fd (m (wLoc c)) (WB m c (qr c r))
          (fun x y kk hk => by unfold WB; congr 1; exact congrArg₂ _ (Fin.ext hk.symm) rfl) i hi)) $$ [Hx Hd Htok Hr]
  · rw [wslot_set ho8 h8, chunk_set ho1 h1]
    isplitr; · iexact HI
    isplitl [Hx]; · iexact Hx
    isplitl [Hd]; · iexact Hd
    isplitl [Htok]; · iexact Htok
    iexact Hr
  iexact Hk

/-- The local copy of the device's own block into its own slot. -/
theorem step_own (c : Dev nD) {q : DmaSem sig} (hq : q = dq (34 + c.val))
    {off4 : Fin 2 → ℕ} {h4 : ∀ a, off4 a + S128x128.size a ≤ S4096x128.size a} (ho4 : off4 = ![128 * c.val, 0])
    {off3 : Fin 3 → ℕ} {h3 : ∀ a, off3 a + S1x128x128.size a ≤ S32x128x128.size a} (ho3 : off3 = ![c.val, 0, 0])
    {hsrc : (rowM off4 h4).view.WordExact} {hdst : (slotM off3 h3).view.WordExact}
    {hsem : DmaTarget.Typed .vmem (.dma q) (DmaTarget.here (slotM off3 h3) : DmaTarget nD τ sig .tc .vmem S128x128 .fp8e5m2)} :
    iprop(pers m ∗ rowPts c c.val (X8 m c) ∗ slotAny c c.val ∗ dutyTok ER (dcell c (34 + c.val)) 0 0)
      ⊢ iprop((cred (tallyAt (dcell c (34 + c.val)) () NT) -∗ wpc c (k ⟨⟩) Q)
          -∗ wpc c (.op (.enqueueDma (rowM off4 h4) (.here (slotM off3 h3)) (.dma q) hsrc hdst hsem) k) Q) := by
  subst hq
  have hc : c.val < 32 := c.isLt
  unfold slotAny rowPts slotPts
  iintro ⟨#HP, Hx, ⟨%fd, Hd⟩, Htok⟩ Hk
  ihave HR := (pers_dma m c (n := 34 + c.val) (by omega) (by omega)) $$ HP
  unfold rcd
  icases HR with ⟨⟨%κ, #HI⟩, #Hr⟩
  iapply (Rounds.wp_copy_pointsTo 𝒱₀ ER (sched m) (c : Thread nD τ) none (src := rowM off4 h4) (dst := slotM off3 h3) (κ := κ) (r := 0) (d := 0)
      (fs := X8 m c) (fd := fd) (q := fullShare)
      (by rw [dut_dma m c (by omega) (by omega)]; exact Finset.mem_singleton_self _) () NT
      (by exact credit_NT _ _) ((amt_dma m c (by omega) 0 0).trans (dmaAmt_recv hc))
      (by
        rw [pay_dma m c (by omega), dmaPay_recv m c hc]
        unfold recvPay rowPts slotPts
        rw [if_pos rfl, slot_set ho3 h3, row_set ho4 h4]
        refine BIClass.sep_mono (Entails.of_eq (pointsTo_congr (fun i hi => ?_))) (BI.Entails.refl _)
        exact slot_landing (j := ⟨c.val, hc⟩) ho3 ho4 h3 h4 fd (X8 m c) (XG m c)
          (fun x y kk hk => by unfold XG; congr 1; exact congrArg₂ _ (Fin.ext hk.symm) rfl) i hi)) $$ [Hx Hd Htok]
  · rw [slot_set ho3 h3, row_set ho4 h4]
    isplitr; · iexact HI
    isplitl [Hx]; · iexact Hx
    isplitl [Hd]; · iexact Hd
    isplitl [Htok]; · iexact Htok
    iexact Hr
  iexact Hk

/-! ## Transfers to the peers -/

/-- What the `d`-th transfer takes besides the slot it fills. -/
def sendRes (c : Dev nD) (d : ℕ) : sProp 𝕄 :=
  iprop(rowPts c (pr c (d + 1)).val (X8 m c) ∗ slotAny (pr c (d + 1)) c.val
    ∗ dutyTok ER (dcell c (3 + d)) 0 0 ∗ dutyTok ER (dcell (pr c (d + 1)) (34 + c.val)) 0 0)
/-- What it leaves. -/
def sentRes (c : Dev nD) (d : ℕ) : sProp 𝕄 := cred (tallyAt (dcell c (3 + d)) () (dmaAmt (3 + d)))
/-- Before the `d`-th transfer. -/
def SendSt (c : Dev nD) (d : ℕ) : sProp 𝕄 :=
  iprop(ow c (OR c d) ∗ bigSep (Finset.Ico d 31) (sendRes m c) ∗ bigSep (Finset.range d) (sentRes c))

theorem step_send (c n : Dev nD) {d : ℕ} (hd : d < 31) (hn : n = pr c (d + 1)) {qs qr' : DmaSem sig} (hqs : qs = dq (3 + d)) (hqr : qr' = dq (34 + c.val))
    {off5 : Fin 2 → ℕ} {h5 : ∀ a, off5 a + S128x128.size a ≤ S4096x128.size a} (ho5 : off5 = ![128 * (pr c (d + 1)).val, 0])
    {off3 : Fin 3 → ℕ} {h3 : ∀ a, off3 a + S1x128x128.size a ≤ S32x128x128.size a} (ho3 : off3 = ![c.val, 0, 0])
    {hsc : (slotM off3 h3 : Memref sig (Dev.tc n : Thread nD τ).2.kind .vmem S128x128 .fp8e5m2).view.ref.isScScratch = false}
    {hsrc : (rowM off5 h5).view.WordExact} {hdst : (slotM off3 h3).view.WordExact}
    {hsem : DmaTarget.Typed .vmem (.dma qr') (.remote (Dev.tc n : Thread nD τ) (slotM off3 h3) (.dma qs) hsc)} :
    iprop(pers m ∗ SendSt m c d)
      ⊢ iprop((SendSt m c (d + 1) -∗ wpc c (k ⟨⟩) Q)
          -∗ wpc c (.op (.enqueueDma (rowM off5 h5) (.remote (Dev.tc n : Thread nD τ) (slotM off3 h3) (.dma qs) hsc) (.dma qr') hsrc hdst hsem) k) Q) := by
  subst hn hqs hqr
  have hc : c.val < 32 := c.isLt
  unfold SendSt
  rw [Ico_sep _ hd, range_sep]
  unfold ow
  iintro ⟨#HP, ⟨%W, HO⟩, ⟨Hres, Hrest⟩, Hsent⟩ Hk
  ihave Hres' := (Entails.of_eq (show sendRes m c d = _ from by unfold sendRes slotAny rowPts slotPts; rfl)) $$ Hres
  icases Hres' with ⟨Hx, ⟨%fd, Hd⟩, Ht1, Ht2⟩
  ihave HR := (pers_dma m c (n := 3 + d) (by omega) (by omega)) $$ HP
  ihave HR' := (pers_dma m (pr c (d + 1)) (n := 34 + c.val) (by omega) (by omega)) $$ HP
  unfold rcd
  icases HR with ⟨⟨%κ, #HI⟩, #Hr⟩
  icases HR' with ⟨⟨%κ', #HI'⟩, #Hr'⟩
  iapply (Rounds.wp_send_pointsTo 𝒱₀ ER (sched m) (c : Thread nD τ) none (c' := Dev.tc (pr c (d + 1))) (src := rowM off5 h5) (κ₁ := κ) (κ₂ := κ')
      (r₁ := 0) (r₂ := 0) (d₁ := 0) (d₂ := 0) (fs := X8 m c) (fd := fd) (q := fullShare)
      (by rw [dut_dma m c (by omega) (by omega)]; exact Finset.mem_singleton_self _) (by rw [dut_dma m _ (by omega) (by omega)]; exact Finset.mem_singleton_self _)
      () () NT (by exact credit_NT _ _) ((amt_dma m c (by omega) 0 0).trans (dmaAmt_send hd)) ((amt_dma m _ (by omega) 0 0).trans (dmaAmt_recv hc))
      (OR c (d + 1)) (OR_step c hd) (W := W)
      (by
        rw [pay_dma m c (by omega), dmaPay_send m c hd]
        unfold sendPay rowPts
        rw [row_set ho5 h5])
      (by
        rw [pay_dma m _ (by omega), dmaPay_recv m _ hc]
        unfold recvPay slotPts
        rw [if_neg (fun h => pr_ne c hd (Fin.ext h.symm)), slot_set ho3 h3]
        refine (Entails.of_eq (pointsTo_congr (fun i hi => ?_))).trans (sep_emp (PROP := sProp 𝕄)).2
        exact slot_landing (j := ⟨c.val, hc⟩) ho3 ho5 h3 h5 fd (X8 m c) (XG m (pr c (d + 1)))
          (fun x y kk hk => by unfold XG; congr 1; exact congrArg₂ _ (Fin.ext hk.symm) rfl) i hi)) $$ [Hx Hd HO Ht1 Ht2]
  · rw [slot_set ho3 h3, row_set ho5 h5]
    isplitr; · iexact HI
    isplitr; · iexact HI'
    isplitl [Hx]; · iexact Hx
    isplitl [Hd]; · iexact Hd
    isplitl [HO]; · iexact HO
    isplitl [Ht1]; · iexact Ht1
    isplitr; · iexact Hr
    isplitl [Ht2]; · iexact Ht2
    iexact Hr'
  iintro ⟨Hc, HO⟩
  iapply Hk
  isplitl [HO]
  · iexists W; iexact HO
  isplitl [Hrest]
  · iexact Hrest
  isplitl [Hc]
  · unfold sentRes; rw [dmaAmt_send hd]; iexact Hc
  iexact Hsent

end Steps

end Cert.AllToAll

end
-- ==== Proof.BodySignals.lean ====
/-
# The barrier signals

The first thirteen pieces of the kernel signal the 31 peers' barrier semaphores, one after another.
-/
module

public import proofs.«01_k».proof.Proof.Steps

@[expose] public section

noncomputable section

namespace Cert.AllToAll

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A piece of the kernel at the buffers and semaphores it is called with. -/
abbrev atArgs {β : Type 1} (f : (arg0 : Memref sig .tc .hbm S4096x128 .f32) → arg0.IsWhole →
    (arg1 : Memref sig .tc .hbm S4096x2048 .f32) → arg1.IsWhole →
    (arg2 : Memref sig .tc .smem S1 .f32) → arg2.IsWhole →
    (arg3 : Memref sig .tc .smem S1 .f32) → arg3.IsWhole →
    (arg4 : Memref sig .tc .vmem S128x2048 .f32) → arg4.IsWhole →
    (arg5 : Memref sig .tc .vmem S4096x128 .f32) → arg5.IsWhole →
    (arg6 : Memref sig .tc .vmem S4096x128 .fp8e5m2) → arg6.IsWhole →
    (arg7 : Memref sig .tc .vmem S32x128x128 .fp8e5m2) → arg7.IsWhole →
    (arg8 : Memref sig .tc .vmem S3x1024x2048 .f32) → arg8.IsWhole →
    (arg9 : Memref sig .tc .vmem S2x1024x2048 .fp8e5m2) → arg9.IsWhole →
    DmaSems sig S31 → DmaSems sig S32 → DmaSems sig S3 → DmaSems sig S_ → β) : β :=
  f (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8

/-- The barrier semaphore, as an array of one. -/
abbrev barA : Sems sig S_ := SemArray.scalar (sig.barrier 0 rfl)

section Signals

variable (m : Mem0 F) {α : Type} {Q : α → sProp (MT nD τ sig Unit (Elt F) ℕ UU ℕ)}

theorem wpc_ret (c : Dev nD) (v : α) (Q : α → sProp (MT nD τ sig Unit (Elt F) ℕ UU ℕ)) : Q v ⊢ wpc c (.ret v) Q := by
  show Q v ⊢ wp _ _ _ (Prog.ret v) Q
  rw [wp_ret]; iintro H; imodintro; iexact H

theorem wpc_bind {γ : Type} (c : Dev nD) (p : Prog (TpuEff nD τ sig (Elt F) Λ₀ .tc) γ) (k : γ → Prog (TpuEff nD τ sig (Elt F) Λ₀ .tc) α)
    (Q : α → sProp (MT nD τ sig Unit (Elt F) ℕ UU ℕ)) :
    wpc c (p >>= k) Q = wpc c p (fun a => wpc c (k a) Q) := by
  show wp _ _ _ (p >>= k) Q = _
  rw [wp_bind]

theorem one_signal (c n : Dev nD) {d : ℕ} (hd : d < 31) (hn : n = pr c (d + 1)) {v : α} :
    iprop(pers m ∗ SigSt c d ∗ (SigSt c (d + 1) -∗ Q v))
      ⊢ wpc c (do semSignalWord n barA.sem 1#32; pure v) Q := by
  simp only [semSignalWord, Prog.bind_op, Prog.bind_ret, Prog.pure_eq_ret]
  iintro ⟨#HP, HS, Hk⟩
  iapply (step_signal m c n hd hn) $$ [HS]
  · isplitr; · iexact HP
    iexact HS
  iintro HS
  iapply wpc_ret
  iapply Hk; iexact HS

/-- Two signals, then the piece's result. -/
theorem two_signals (c n₁ n₂ : Dev nD) {d : ℕ} (hd : d + 1 < 31) (h₁ : n₁ = pr c (d + 1)) (h₂ : n₂ = pr c (d + 2)) {v : α} :
    iprop(pers m ∗ SigSt c d ∗ (∀ x, SigSt c (d + 2) -∗ Q x))
      ⊢ wpc c (do semSignalWord n₁ barA.sem 1#32; semSignalWord n₂ barA.sem 1#32; pure v) Q := by
  simp only [semSignalWord, Prog.bind_op, Prog.bind_ret, Prog.pure_eq_ret]
  iintro ⟨#HP, HS, Hk⟩
  iapply (step_signal m c n₁ (Nat.lt_of_succ_lt hd) h₁) $$ [HS]
  · isplitr; · iexact HP
    iexact HS
  iintro HS
  iapply (step_signal m c n₂ hd h₂) $$ [HS]
  · isplitr; · iexact HP
    iexact HS
  iintro HS
  iapply wpc_ret
  iapply Hk; iexact HS

/-- Three signals, then the rest of the piece. -/
theorem three_signals (c n₁ n₂ n₃ : Dev nD) {d : ℕ} (hd : d + 2 < 31) (h₁ : n₁ = pr c (d + 1)) (h₂ : n₂ = pr c (d + 2)) (h₃ : n₃ = pr c (d + 3))
    {k : Prog (TpuEff nD τ sig (Elt F) Λ₀ .tc) α} :
    iprop(pers m ∗ SigSt c d ∗ (SigSt c (d + 3) -∗ wpc c k Q))
      ⊢ wpc c (do semSignalWord n₁ barA.sem 1#32; semSignalWord n₂ barA.sem 1#32; semSignalWord n₃ barA.sem 1#32; k) Q := by
  simp only [semSignalWord, Prog.bind_op, Prog.bind_ret, Prog.pure_eq_ret]
  iintro ⟨#HP, HS, Hk⟩
  iapply (step_signal m c n₁ (by omega) h₁) $$ [HS]
  · isplitr; · iexact HP
    iexact HS
  iintro HS
  iapply (step_signal m c n₂ (by omega) h₂) $$ [HS]
  · isplitr; · iexact HP
    iexact HS
  iintro HS
  iapply (step_signal m c n₃ hd h₃) $$ [HS]
  · isplitr; · iexact HP
    iexact HS
  iintro HS
  iapply Hk; iexact HS

theorem three_signals_ret (c n₁ n₂ n₃ : Dev nD) {d : ℕ} (hd : d + 2 < 31) (h₁ : n₁ = pr c (d + 1)) (h₂ : n₂ = pr c (d + 2)) (h₃ : n₃ = pr c (d + 3)) {v : α} :
    iprop(pers m ∗ SigSt c d ∗ (∀ x, SigSt c (d + 3) -∗ Q x))
      ⊢ wpc c (do semSignalWord n₁ barA.sem 1#32; semSignalWord n₂ barA.sem 1#32; semSignalWord n₃ barA.sem 1#32; pure v) Q := by
  iintro ⟨#HP, HS, Hk⟩
  iapply (three_signals m c n₁ n₂ n₃ hd h₁ h₂ h₃)
  isplitr; · iexact HP
  isplitl [HS]; · iexact HS
  iintro HS
  rw [Prog.pure_eq_ret]; iapply wpc_ret
  iapply Hk; iexact HS

end Signals

section Parts

variable (m : Mem0 F) (c : Dev nD)

theorem part1 {Q : (Σ' (d0 : Dev nD) (v2 : BitVec 32) (v19 : BitVec 32) (v20 : Sems sig S_) (v34 : BitVec 32) (c32_i32_15 : BitVec 32), BitVec 1) → sProp 𝕄} :
    iprop(pers m ∗ SigSt c 0 ∗ (∀ a b e f g, SigSt c 1 -∗ Q ⟨c, a, b, barA, e, f, g⟩)) ⊢ wpc c (atArgs (k0_part1 (F := F))) Q := by
  rw [k0_part1_eq_skeleton]; unfold k0_part1_skel atArgs
  simp only [Prog.lift, Prog.bind_op, Prog.bind_ret, wpc, wp_deviceId]
  iintro ⟨#HP, HS, Hk⟩
  iapply (one_signal m c _ (d := 0) (by decide) (Fin.ext (signal_devs c).1))
  isplitr; · iexact HP
  isplitl [HS]; · iexact HS
  iintro HS
  iapply Hk; iexact HS

theorem part2 (v2 : BitVec 32) (v34 : BitVec 32) (c32_i32_15 : BitVec 32) (v35 : BitVec 1) {Q : (Σ' (v63 : BitVec 32) (v68 : BitVec 1), BitVec 32) → sProp 𝕄} :
    iprop(pers m ∗ SigSt c 1 ∗ (∀ x, SigSt c 3 -∗ Q x)) ⊢ wpc c (atArgs (k0_part2 (F := F)) c v2 barA v34 c32_i32_15 v35) Q := by
  rw [k0_part2_eq_skeleton]
  exact two_signals m c _ _ (d := 1) (by decide) (Fin.ext (signal_devs c).2.1) (Fin.ext (signal_devs c).2.2.1)

theorem part3 (v2 : BitVec 32) (v63 : BitVec 32) (v68 : BitVec 1) (v69 : BitVec 32) {Q : (Σ' (v99 : BitVec 32) (c32_i32_60 : BitVec 32), BitVec 1) → sProp 𝕄} :
    iprop(pers m ∗ SigSt c 3 ∗ (∀ x, SigSt c 6 -∗ Q x)) ⊢ wpc c (atArgs (k0_part3 (F := F)) c v2 barA v63 v68 v69) Q := by
  rw [k0_part3_eq_skeleton]
  exact three_signals_ret m c _ _ _ (d := 3) (by decide) (Fin.ext (signal_devs c).2.2.2.1) (Fin.ext (signal_devs c).2.2.2.2.1) (Fin.ext (signal_devs c).2.2.2.2.2.1)

theorem part4 (v2 : BitVec 32) (v99 : BitVec 32) (c32_i32_60 : BitVec 32) (v100 : BitVec 1) {Q : (Σ' (v128 : BitVec 32) (v133 : BitVec 1), BitVec 32) → sProp 𝕄} :
    iprop(pers m ∗ SigSt c 6 ∗ (∀ x, SigSt c 8 -∗ Q x)) ⊢ wpc c (atArgs (k0_part4 (F := F)) c v2 barA v99 c32_i32_60 v100) Q := by
  rw [k0_part4_eq_skeleton]
  exact two_signals m c _ _ (d := 6) (by decide) (Fin.ext (signal_devs c).2.2.2.2.2.2.1) (Fin.ext (signal_devs c).2.2.2.2.2.2.2.1)

theorem part5 (v2 : BitVec 32) (v128 : BitVec 32) (v133 : BitVec 1) (v134 : BitVec 32) {Q : (Σ' (v164 : BitVec 32) (c32_i32_106 : BitVec 32), BitVec 1) → sProp 𝕄} :
    iprop(pers m ∗ SigSt c 8 ∗ (∀ x, SigSt c 11 -∗ Q x)) ⊢ wpc c (atArgs (k0_part5 (F := F)) c v2 barA v128 v133 v134) Q := by
  rw [k0_part5_eq_skeleton]
  exact three_signals_ret m c _ _ _ (d := 8) (by decide) (Fin.ext (signal_devs c).2.2.2.2.2.2.2.2.1) (Fin.ext (signal_devs c).2.2.2.2.2.2.2.2.2.1) (Fin.ext (signal_devs c).2.2.2.2.2.2.2.2.2.2.1)

theorem part6 (v2 : BitVec 32) (v164 : BitVec 32) (c32_i32_106 : BitVec 32) (v165 : BitVec 1) {Q : (Σ' (v193 : BitVec 32) (v198 : BitVec 1), BitVec 32) → sProp 𝕄} :
    iprop(pers m ∗ SigSt c 11 ∗ (∀ x, SigSt c 13 -∗ Q x)) ⊢ wpc c (atArgs (k0_part6 (F := F)) c v2 barA v164 c32_i32_106 v165) Q := by
  rw [k0_part6_eq_skeleton]
  exact two_signals m c _ _ (d := 11) (by decide) (Fin.ext (signal_devs c).2.2.2.2.2.2.2.2.2.2.2.1) (Fin.ext (signal_devs c).2.2.2.2.2.2.2.2.2.2.2.2.1)

theorem part7 (v2 : BitVec 32) (v193 : BitVec 32) (v198 : BitVec 1) (v199 : BitVec 32) {Q : (Σ' (v229 : BitVec 32) (c32_i32_151 : BitVec 32), BitVec 1) → sProp 𝕄} :
    iprop(pers m ∗ SigSt c 13 ∗ (∀ x, SigSt c 16 -∗ Q x)) ⊢ wpc c (atArgs (k0_part7 (F := F)) c v2 barA v193 v198 v199) Q := by
  rw [k0_part7_eq_skeleton]
  exact three_signals_ret m c _ _ _ (d := 13) (by decide) (Fin.ext (signal_devs c).2.2.2.2.2.2.2.2.2.2.2.2.2.1) (Fin.ext (signal_devs c).2.2.2.2.2.2.2.2.2.2.2.2.2.2.1) (Fin.ext (signal_devs c).2.2.2.2.2.2.2.2.2.2.2.2.2.2.2.1)

theorem part8 (v2 : BitVec 32) (v229 : BitVec 32) (c32_i32_151 : BitVec 32) (v230 : BitVec 1) {Q : (Σ' (v258 : BitVec 32) (v263 : BitVec 1), BitVec 32) → sProp 𝕄} :
    iprop(pers m ∗ SigSt c 16 ∗ (∀ x, SigSt c 18 -∗ Q x)) ⊢ wpc c (atArgs (k0_part8 (F := F)) c v2 barA v229 c32_i32_151 v230) Q := by
  rw [k0_part8_eq_skeleton]
  exact two_signals m c _ _ (d := 16) (by decide) (Fin.ext (signal_devs c).2.2.2.2.2.2.2.2.2.2.2.2.2.2.2.2.1) (Fin.ext (signal_devs c).2.2.2.2.2.2.2.2.2.2.2.2.2.2.2.2.2.1)

theorem part9 (v2 : BitVec 32) (v258 : BitVec 32) (v263 : BitVec 1) (v264 : BitVec 32) {Q : (Σ' (v294 : BitVec 32) (c32_i32_196 : BitVec 32), BitVec 1) → sProp 𝕄} :
    iprop(pers m ∗ SigSt c 18 ∗ (∀ x, SigSt c 21 -∗ Q x)) ⊢ wpc c (atArgs (k0_part9 (F := F)) c v2 barA v258 v263 v264) Q := by
  rw [k0_part9_eq_skeleton]
  exact three_signals_ret m c _ _ _ (d := 18) (by decide) (Fin.ext (signal_devs c).2.2.2.2.2.2.2.2.2.2.2.2.2.2.2.2.2.2.1) (Fin.ext (signal_devs c).2.2.2.2.2.2.2.2.2.2.2.2.2.2.2.2.2.2.2.1) (Fin.ext (signal_devs c).2.2.2.2.2.2.2.2.2.2.2.2.2.2.2.2.2.2.2.2.1)

theorem part10 (v2 : BitVec 32) (v294 : BitVec 32) (c32_i32_196 : BitVec 32) (v295 : BitVec 1) {Q : (Σ' (v323 : BitVec 32) (v328 : BitVec 1), BitVec 32) → sProp 𝕄} :
    iprop(pers m ∗ SigSt c 21 ∗ (∀ x, SigSt c 23 -∗ Q x)) ⊢ wpc c (atArgs (k0_part10 (F := F)) c v2 barA v294 c32_i32_196 v295) Q := by
  rw [k0_part10_eq_skeleton]
  exact two_signals m c _ _ (d := 21) (by decide) (Fin.ext (signal_devs c).2.2.2.2.2.2.2.2.2.2.2.2.2.2.2.2.2.2.2.2.2.1) (Fin.ext (signal_devs c).2.2.2.2.2.2.2.2.2.2.2.2.2.2.2.2.2.2.2.2.2.2.1)

theorem part11 (v2 : BitVec 32) (v323 : BitVec 32) (v328 : BitVec 1) (v329 : BitVec 32) {Q : (Σ' (v359 : BitVec 32) (c32_i32_241 : BitVec 32), BitVec 1) → sProp 𝕄} :
    iprop(pers m ∗ SigSt c 23 ∗ (∀ x, SigSt c 26 -∗ Q x)) ⊢ wpc c (atArgs (k0_part11 (F := F)) c v2 barA v323 v328 v329) Q := by
  rw [k0_part11_eq_skeleton]
  exact three_signals_ret m c _ _ _ (d := 23) (by decide) (Fin.ext (signal_devs c).2.2.2.2.2.2.2.2.2.2.2.2.2.2.2.2.2.2.2.2.2.2.2.1) (Fin.ext (signal_devs c).2.2.2.2.2.2.2.2.2.2.2.2.2.2.2.2.2.2.2.2.2.2.2.2.1) (Fin.ext (signal_devs c).2.2.2.2.2.2.2.2.2.2.2.2.2.2.2.2.2.2.2.2.2.2.2.2.2.1)

theorem part12 (v2 : BitVec 32) (v359 : BitVec 32) (c32_i32_241 : BitVec 32) (v360 : BitVec 1) {Q : (Σ' (v388 : BitVec 32) (v393 : BitVec 1), BitVec 32) → sProp 𝕄} :
    iprop(pers m ∗ SigSt c 26 ∗ (∀ x, SigSt c 28 -∗ Q x)) ⊢ wpc c (atArgs (k0_part12 (F := F)) c v2 barA v359 c32_i32_241 v360) Q := by
  rw [k0_part12_eq_skeleton]
  exact two_signals m c _ _ (d := 26) (by decide) (Fin.ext (signal_devs c).2.2.2.2.2.2.2.2.2.2.2.2.2.2.2.2.2.2.2.2.2.2.2.2.2.2.1) (Fin.ext (signal_devs c).2.2.2.2.2.2.2.2.2.2.2.2.2.2.2.2.2.2.2.2.2.2.2.2.2.2.2.1)

end Parts

end Cert.AllToAll

end
-- ==== Proof.BodySends.lean ====
/-
# The transfers

The pieces of the kernel that start the local copies, wait for the block of `x` and for the barrier, and send
the 31 remote transfers.
-/
module

public import proofs.«01_k».proof.Proof.BodySignals

@[expose] public section

noncomputable section

namespace Cert.AllToAll

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The receive semaphore a kernel names by an offset is the one of that number. -/
theorem recv_sem {j : ℕ} (hj : j < 32) {off : Fin 1 → ℕ} (h : ∀ a, off a + S1.size a ≤ S32.size a) (ho : off = ![j]) :
    ((cc0_scratch6.slice (Rect.unit (s := S32) off S1.size h)).squeeze S_ squeezes_S1_S_).sem = dq (34 + j) := by
  subst ho
  apply Fin.ext
  have h1 : 34 + j < 70 := by omega
  rw [dq_val h1]
  show 34 + (S32.rowMajor ((Rect.unit (s := S32) ![j] S1.size h).emb (Shape.reshapeEquiv _ _))).val = 34 + j
  rw [Shape.rowMajor_val_one]
  show 34 + (j + 1 * _) = 34 + j
  rw [Nat.one_mul, show ∀ y : S1.Idx, (y 0).val = 0 from fun y => Nat.lt_one_iff.mp (y 0).isLt, Nat.add_zero]

section Combinators

variable (m : Mem0 F) {α : Type} {Q : α → sProp (MT nD τ sig Unit (Elt F) ℕ UU ℕ)} {R : sProp (MT nD τ sig Unit (Elt F) ℕ UU ℕ)}

/-- A piece ends by handing its result on. -/
theorem ret_all {P : sProp 𝕄} (c : Dev nD) (v : α) : iprop(pers m ∗ P ∗ (∀ x, P -∗ Q x)) ⊢ wpc c (pure v) Q := by
  iintro ⟨-, HP, Hk⟩
  rw [Prog.pure_eq_ret]; iapply wpc_ret
  iapply Hk; iexact HP

/-- The `d`-th remote transfer, then the rest. -/
theorem send_then (c n : Dev nD) (d : ℕ) (hd : d < 31) (hn : n = pr c (d + 1)) {qs qr' : DmaSem sig} (hqs : qs = dq (3 + d)) (hqr : qr' = dq (34 + c.val))
    {off5 : Fin 2 → ℕ} {h5 : ∀ a, off5 a + S128x128.size a ≤ S4096x128.size a} (ho5 : off5 = ![128 * (pr c (d + 1)).val, 0])
    {h3 : ∀ a, k0_off3 c a + S1x128x128.size a ≤ S32x128x128.size a}
    {hsc : (slotM (k0_off3 c) h3 : Memref sig (Dev.tc n : Thread nD τ).2.kind .vmem S128x128 .fp8e5m2).view.ref.isScScratch = false}
    {hsrc : (rowM off5 h5).view.WordExact} {hdst : (slotM (k0_off3 c) h3).view.WordExact}
    {hsem : DmaTarget.Typed .vmem (.dma qr') (.remote (Dev.tc n : Thread nD τ) (slotM (k0_off3 c) h3) (.dma qs) hsc)}
    {k : PUnit → Prog (TpuEff nD τ sig (Elt F) Λ₀ .tc) α} (hk : iprop(pers m ∗ SendSt m c (d + 1) ∗ R) ⊢ wpc c (k ⟨⟩) Q) :
    iprop(pers m ∗ SendSt m c d ∗ R)
      ⊢ wpc c (Prog.lift (.enqueueDma (rowM off5 h5) (.remote (Dev.tc n : Thread nD τ) (slotM (k0_off3 c) h3) (.dma qs) hsc) (.dma qr') hsrc hdst hsem) >>= k) Q := by
  simp only [Prog.lift, Prog.bind_op, Prog.bind_ret]
  iintro ⟨#HP, HS, HR⟩
  iapply (step_send m c n hd hn hqs hqr ho5 (k0_off3_eq c)) $$ [HS]
  · isplitr; · iexact HP
    iexact HS
  iintro HS
  iapply hk
  isplitr; · iexact HP
  isplitl [HS]; · iexact HS
  iexact HR

end Combinators

section Parts

variable (m : Mem0 F) (c : Dev nD)

/-- What a copy of a quarter of `w` into slot `s` takes. -/
def wcopyRes (s : ℕ) (r : ℕ) : sProp 𝕄 :=
  iprop(chunkPts c (quarter c r) (m (wLoc c)) ∗ (∃ f, wslotPts (F := F) c s f) ∗ dutyTok ER (dcell c (66 + s)) 0 0)

/-- What the copy of the block of `x` takes. -/
def xcopyRes : sProp 𝕄 :=
  iprop((((c : Thread nD τ).loc main_arg0) ↦{fullShare} m ((c : Thread nD τ).loc main_arg0)) ∗ (∃ f, ((c : Thread nD τ).loc cc0_scratch0) ↦{fullShare} f)
    ∗ dutyTok ER (dcell c 69) 0 0)

theorem part13 (v2 : BitVec 32) (v19 : BitVec 32) (v388 : BitVec 32) (v393 : BitVec 1) (v394 : BitVec 32) {Q : (Σ' (v424 : BitVec 32) (c4_i32_287 : BitVec 32), BitVec 32) → sProp 𝕄} :
    iprop(pers m ∗ SigSt c 28 ∗ xcopyRes m c ∗ (∀ x, SigSt c 31 -∗ cred (tallyAt (dcell c 69) () (dmaAmt 69)) -∗ Q x))
      ⊢ wpc c (atArgs (k0_part13 (F := F)) c v2 v19 barA v388 v393 v394) Q := by
  rw [k0_part13_eq_skeleton]
  iintro ⟨#HP, HS, HX, Hk⟩
  iapply (three_signals m c _ _ _ (d := 28) (by decide) (Fin.ext (signal_devs c).2.2.2.2.2.2.2.2.2.2.2.2.2.2.2.2.2.2.2.2.2.2.2.2.2.2.2.2.1) (Fin.ext (signal_devs c).2.2.2.2.2.2.2.2.2.2.2.2.2.2.2.2.2.2.2.2.2.2.2.2.2.2.2.2.2.1) (Fin.ext (signal_devs c).2.2.2.2.2.2.2.2.2.2.2.2.2.2.2.2.2.2.2.2.2.2.2.2.2.2.2.2.2.2))
  isplitr; · iexact HP
  isplitl [HS]; · iexact HS
  iintro HS
  simp only [Prog.lift, Prog.bind_op, Prog.bind_ret, Prog.pure_eq_ret]
  unfold xcopyRes
  icases HX with ⟨Hx, ⟨%f, Hf⟩, Ht⟩
  iapply (step_xcopy m c rfl f) $$ [Hx Hf Ht]
  · isplitr; · iexact HP
    isplitl [Hx]; · iexact Hx
    isplitl [Hf]; · iexact Hf
    iexact Ht
  iintro Hc
  iapply wpc_ret
  iapply Hk $$ HS Hc

/-- A copy of a quarter of `w`, as a step. -/
theorem wcopy_first {α : Type} {Q : α → sProp 𝕄} (s : Fin 3) (r : ℕ) (hst : wStep s.val 0 = r)
    {q : DmaSem sig} (hq : q = dq (66 + s.val))
    {off1 : Fin 2 → ℕ} {h1 : ∀ a, off1 a + S1024x2048.size a ≤ S4096x2048.size a} (ho1 : off1 = ![1024 * quarter c r, 0])
    {off8 : Fin 3 → ℕ} {h8 : ∀ a, off8 a + S1x1024x2048.size a ≤ S3x1024x2048.size a} (ho8 : off8 = ![s.val, 0, 0])
    {hsrc : (chunkM off1 h1).view.WordExact} {hdst : (wslotM off8 h8).view.WordExact}
    {hsem : DmaTarget.Typed .hbm (.dma q) (DmaTarget.here (wslotM off8 h8) : DmaTarget nD τ sig .tc .vmem S1024x2048 .f32)}
    {k : PUnit → Prog (TpuEff nD τ sig (Elt F) Λ₀ .tc) α} :
    iprop(pers m ∗ wcopyRes m c s.val r)
      ⊢ iprop((cred (tallyAt (dcell c (66 + s.val)) () (dmaAmt (66 + s.val))) -∗ wpc c (k ⟨⟩) Q)
          -∗ wpc c (.op (.enqueueDma (chunkM off1 h1) (.here (wslotM off8 h8)) (.dma q) hsrc hdst hsem) k) Q) := by
  have hs := s.isLt
  unfold wcopyRes
  iintro ⟨#HP, Hx, ⟨%f, Hf⟩, Ht⟩
  ihave HR := (pers_dma m c (n := 66 + s.val) (by omega) (by omega)) $$ HP
  unfold rcd
  icases HR with ⟨-, #Hr⟩
  iapply (step_wcopy m c s 0 r hst (dut_dma m c (by omega) (by omega)) hq ho1 ho8 f)
  isplitr; · iexact HP
  isplitl [Hx]; · iexact Hx
  isplitl [Hf]; · iexact Hf
  isplitl [Ht]; · iexact Ht
  iexact Hr

theorem part14 (v19 : BitVec 32) (v424 : BitVec 32) (c4_i32_287 : BitVec 32) (c0_i32_288 : BitVec 32) {Q : (BitVec 32) → sProp 𝕄} :
    iprop(pers m ∗ wcopyRes m c 0 0 ∗ wcopyRes m c 1 1
        ∗ (∀ x, cred (tallyAt (dcell c 66) () (dmaAmt 66)) -∗ cred (tallyAt (dcell c 67) () (dmaAmt 67)) -∗ Q x))
      ⊢ wpc c (atArgs (k0_part14 (F := F)) c v19 v424 c4_i32_287 c0_i32_288) Q := by
  rw [k0_part14_eq_skeleton]; unfold k0_part14_skel atArgs
  simp only [Prog.lift, Prog.bind_op, Prog.bind_ret, Prog.pure_eq_ret]
  iintro ⟨#HP, HA, HB, Hk⟩
  iapply (wcopy_first m c 0 0 rfl rfl (off1_eq c 0) rfl) $$ [HA]
  · isplitr; · iexact HP
    iexact HA
  iintro Ha
  iapply (wcopy_first m c 1 1 rfl rfl (off1_eq c 1) rfl) $$ [HB]
  · isplitr; · iexact HP
    iexact HB
  iintro Hb
  iapply wpc_ret
  iapply Hk $$ Ha Hb

/-- What the piece that ends with the barrier's wait takes, -/
def gateIn : sProp 𝕄 :=
  iprop(wcopyRes m c 2 3 ∗ waitRes c 69 ∗ ow c (OR c 0) ∗ (∃ f, x8Loc c ↦{fullShare} f) ∗ slotAny (F := F) c c.val
    ∗ dutyTok ER (dcell c (34 + c.val)) 0 0 ∗ cred (tallyAt (bar c) () 31) ∗ atPos ER (bar c) 0 ∅ 0)
/-- and what it leaves. -/
def gateOut : sProp 𝕄 :=
  iprop(cred (tallyAt (dcell c 68) () (dmaAmt 68)) ∗ xPay m c ∗ semVal (dcell c 69) 0 ∗ ow c (OR c 0)
    ∗ bigSep (Finset.Ico 0 31) (fun d => rowPts c (pr c (d + 1)).val (X8 m c))
    ∗ cred (tallyAt (dcell c (34 + c.val)) () NT) ∗ peerSlots (F := F) c ∗ semVal (bar c) 0)

/-- The copy in float8 of the block of `x`, by blocks of 128 rows: the device's own and the 31 others. -/
theorem rows_split (f : Buf (Elt F) (x8Loc c)) :
    (x8Loc c ↦{fullShare} f : sProp 𝕄) = iprop(rowPts c c.val f ∗ bigSep (Finset.Ico 0 31) (fun d => rowPts c (pr c (d + 1)).val f)) := by
  have hc := erase_peers (F := F) c (fun d => rowPts c d.val f)
  rw [← hc]
  have h1 : (x8Loc c ↦{fullShare} f : sProp 𝕄) = bigSep (Finset.univ : Finset (Dev nD)) (fun d => rowPts c d.val f) := by
    rw [show (Finset.univ : Finset (Idx (x8Loc c))) = (Finset.univ : Finset (Dev nD)).biUnion (fun d => rowSet d.val) from ?_]
    · exact pointsTo_biUnion _ _ (fun a _ b _ hab => Finset.disjoint_left.mpr fun i hi hj => hab (Fin.ext ((mem_rowSet.mp hi).symm.trans (mem_rowSet.mp hj))))
    · ext i
      have hi : (i 0).val < 4096 := (i 0).isLt
      simp only [Finset.mem_univ, Finset.mem_biUnion, true_and, true_iff]
      exact ⟨⟨(i 0).val / 128, by show _ < 32; omega⟩, mem_rowSet.mpr rfl⟩
  rw [h1, bigSep_erase (Finset.mem_univ c)]
  rfl

theorem xPay_eq : xPay m c = iprop((((c : Thread nD τ).loc cc0_scratch0) ↦{fullShare} m ((c : Thread nD τ).loc main_arg0))
    ∗ (((c : Thread nD τ).loc main_arg0) ↦{fullShare} m ((c : Thread nD τ).loc main_arg0))) := rfl

set_option maxHeartbeats 1000000 in
theorem part15 (v2 : BitVec 32) (v458 : BitVec 32) {Q : (Σ' (v486 : BitVec 32) (c32_i32_332 : BitVec 32) (v487 : BitVec 1), BitVec 32) → sProp 𝕄} :
    iprop(pers m ∗ gateIn m c ∗ (∀ x, gateOut m c -∗ Q x)) ⊢ wpc c (atArgs (k0_part15 (F := F)) c v2 barA v458) Q := by
  have hc : c.val < 32 := c.isLt
  rw [k0_part15_eq_skeleton]; unfold k0_part15_skel atArgs gateIn
  simp only [Prog.lift, Prog.bind_op, Prog.bind_ret, Prog.pure_eq_ret, semWaitWord]
  iintro ⟨#HP, ⟨HW, HX, HO, ⟨%f8, H8⟩, Hsl, Ht, Hb, Hat⟩, Hk⟩
  iapply (wcopy_first m c 2 3 rfl rfl (off1_eq c 3) rfl) $$ [HW]
  · isplitr; · iexact HP
    iexact HW
  iintro Hw
  iapply (step_wait m c (n := 69) (by decide) (by decide) (by decide) rfl (O := OB c 31 + OR c 0) (mayWait_low c (dq 69) (by decide) 31 0) (by rw [dmaAmt_x]; exact credit_NX _ _)) $$ [HX HO]
  · isplitr; · iexact HP
    isplitl [HX]; · iexact HX
    rw [OB_last, zero_add]; iexact HO
  iintro ⟨HO, HX, Hz⟩
  ihave HX := (Entails.of_eq ((dmaPay_x m c 0).trans (xPay_eq m c))) $$ HX
  icases HX with ⟨Hxf, Hx⟩
  iapply (wp_load 𝒱₀ (c : Thread nD τ) none Set.univ (m := xfM) (Finset.subset_univ _)) $$ Hxf; iintro Hxf
  rw [xf_load]
  iapply (wp_load 𝒱₀ (c : Thread nD τ) none Set.univ (m := x8M) (Finset.subset_univ _)) $$ H8; iintro H8
  iapply (wp_store 𝒱₀ (c : Thread nD τ) none Set.univ (m := x8M) (r := Rect.unit (s := S4096x128) ![0, 0] S4096x128.size inb_S4096x128_S4096x128_0_0) (Mk := Finset.univ) (Finset.subset_univ _)) $$ H8; iintro H8
  rw [x8_store]
  ihave H8 := (Entails.of_eq (rows_split c _)) $$ H8
  icases H8 with ⟨Hown, Hrows⟩
  iapply (step_own m c (recv_sem hc _ (k0_off2_eq c)) (k0_off4_eq c) (k0_off3_eq c)) $$ [Hown Hsl Ht]
  · isplitr; · iexact HP
    isplitl [Hown]; · iexact Hown
    isplitl [Hsl]; · iexact Hsl
    iexact Ht
  iintro Hcr
  iapply (step_barrier m c) $$ [Hb HO Hat]
  · isplitr; · iexact HP
    isplitl [Hb]; · iexact Hb
    isplitl [HO]; · rw [OB_last, zero_add]; iexact HO
    iexact Hat
  iintro ⟨HO, Hps, Hbv⟩
  iapply wpc_ret
  iapply Hk
  unfold gateOut
  isplitl [Hw]; · iexact Hw
  isplitl [Hxf Hx]
  · iapply (Entails.of_eq (xPay_eq m c).symm)
    isplitl [Hxf]; · iexact Hxf
    iexact Hx
  isplitl [Hz]; · iexact Hz
  isplitl [HO]; · iexact HO
  isplitl [Hrows]; · iexact Hrows
  isplitl [Hcr]; · iexact Hcr
  isplitl [Hps]; · iexact Hps
  iexact Hbv

theorem part16 (v2 : BitVec 32) (v486 : BitVec 32) (c32_i32_332 : BitVec 32) (v487 : BitVec 1) (c1_i32_334 : BitVec 32) {Q : (PUnit) → sProp 𝕄} :
    iprop(pers m ∗ SendSt m c 0 ∗ (∀ x, SendSt m c 1 -∗ Q x)) ⊢ wpc c (atArgs (k0_part16 (F := F)) c v2 v486 c32_i32_332 v487 c1_i32_334) Q := by
  rw [k0_part16_eq_skeleton]
  exact send_then m c _ 0 (by decide) (Fin.ext (send_devs c).1) rfl (recv_sem c.isLt _ (k0_off2_eq c)) (off5_eq c 1)
    (ret_all m c _)

theorem part17 (v2 : BitVec 32) {Q : (BitVec 32) → sProp 𝕄} :
    iprop(pers m ∗ SendSt m c 1 ∗ (∀ x, SendSt m c 3 -∗ Q x)) ⊢ wpc c (atArgs (k0_part17 (F := F)) c v2) Q := by
  rw [k0_part17_eq_skeleton]
  exact send_then m c _ 1 (by decide) (Fin.ext (send_devs c).2.1) rfl (recv_sem c.isLt _ (k0_off2_eq c)) (off5_eq c 2)
    (send_then m c _ 2 (by decide) (Fin.ext (send_devs c).2.2.1) rfl (recv_sem c.isLt _ (k0_off2_eq c)) (off5_eq c 3)
    (ret_all m c _))

theorem part18 (v2 : BitVec 32) (v559 : BitVec 32) {Q : (Σ' (v591 : BitVec 32) (c32_i32_402 : BitVec 32) (v592 : BitVec 1), BitVec 32) → sProp 𝕄} :
    iprop(pers m ∗ SendSt m c 3 ∗ (∀ x, SendSt m c 5 -∗ Q x)) ⊢ wpc c (atArgs (k0_part18 (F := F)) c v2 v559) Q := by
  rw [k0_part18_eq_skeleton]
  exact send_then m c _ 3 (by decide) (Fin.ext (send_devs c).2.2.2.1) rfl (recv_sem c.isLt _ (k0_off2_eq c)) (off5_eq c 4)
    (send_then m c _ 4 (by decide) (Fin.ext (send_devs c).2.2.2.2.1) rfl (recv_sem c.isLt _ (k0_off2_eq c)) (off5_eq c 5)
    (ret_all m c _))

theorem part19 (v2 : BitVec 32) (v591 : BitVec 32) (c32_i32_402 : BitVec 32) (v592 : BitVec 1) (c1_i32_404 : BitVec 32) {Q : (PUnit) → sProp 𝕄} :
    iprop(pers m ∗ SendSt m c 5 ∗ (∀ x, SendSt m c 6 -∗ Q x)) ⊢ wpc c (atArgs (k0_part19 (F := F)) c v2 v591 c32_i32_402 v592 c1_i32_404) Q := by
  rw [k0_part19_eq_skeleton]
  exact send_then m c _ 5 (by decide) (Fin.ext (send_devs c).2.2.2.2.2.1) rfl (recv_sem c.isLt _ (k0_off2_eq c)) (off5_eq c 6)
    (ret_all m c _)

theorem part20 (v2 : BitVec 32) {Q : (BitVec 32) → sProp 𝕄} :
    iprop(pers m ∗ SendSt m c 6 ∗ (∀ x, SendSt m c 8 -∗ Q x)) ⊢ wpc c (atArgs (k0_part20 (F := F)) c v2) Q := by
  rw [k0_part20_eq_skeleton]
  exact send_then m c _ 6 (by decide) (Fin.ext (send_devs c).2.2.2.2.2.2.1) rfl (recv_sem c.isLt _ (k0_off2_eq c)) (off5_eq c 7)
    (send_then m c _ 7 (by decide) (Fin.ext (send_devs c).2.2.2.2.2.2.2.1) rfl (recv_sem c.isLt _ (k0_off2_eq c)) (off5_eq c 8)
    (ret_all m c _))

theorem part21 (v2 : BitVec 32) (v664 : BitVec 32) {Q : (Σ' (v696 : BitVec 32) (c32_i32_472 : BitVec 32) (v697 : BitVec 1), BitVec 32) → sProp 𝕄} :
    iprop(pers m ∗ SendSt m c 8 ∗ (∀ x, SendSt m c 10 -∗ Q x)) ⊢ wpc c (atArgs (k0_part21 (F := F)) c v2 v664) Q := by
  rw [k0_part21_eq_skeleton]
  exact send_then m c _ 8 (by decide) (Fin.ext (send_devs c).2.2.2.2.2.2.2.2.1) rfl (recv_sem c.isLt _ (k0_off2_eq c)) (off5_eq c 9)
    (send_then m c _ 9 (by decide) (Fin.ext (send_devs c).2.2.2.2.2.2.2.2.2.1) rfl (recv_sem c.isLt _ (k0_off2_eq c)) (off5_eq c 10)
    (ret_all m c _))

theorem part22 (v2 : BitVec 32) (v696 : BitVec 32) (c32_i32_472 : BitVec 32) (v697 : BitVec 1) (c1_i32_474 : BitVec 32) {Q : (PUnit) → sProp 𝕄} :
    iprop(pers m ∗ SendSt m c 10 ∗ (∀ x, SendSt m c 11 -∗ Q x)) ⊢ wpc c (atArgs (k0_part22 (F := F)) c v2 v696 c32_i32_472 v697 c1_i32_474) Q := by
  rw [k0_part22_eq_skeleton]
  exact send_then m c _ 10 (by decide) (Fin.ext (send_devs c).2.2.2.2.2.2.2.2.2.2.1) rfl (recv_sem c.isLt _ (k0_off2_eq c)) (off5_eq c 11)
    (ret_all m c _)

theorem part23 (v2 : BitVec 32) {Q : (BitVec 32) → sProp 𝕄} :
    iprop(pers m ∗ SendSt m c 11 ∗ (∀ x, SendSt m c 13 -∗ Q x)) ⊢ wpc c (atArgs (k0_part23 (F := F)) c v2) Q := by
  rw [k0_part23_eq_skeleton]
  exact send_then m c _ 11 (by decide) (Fin.ext (send_devs c).2.2.2.2.2.2.2.2.2.2.2.1) rfl (recv_sem c.isLt _ (k0_off2_eq c)) (off5_eq c 12)
    (send_then m c _ 12 (by decide) (Fin.ext (send_devs c).2.2.2.2.2.2.2.2.2.2.2.2.1) rfl (recv_sem c.isLt _ (k0_off2_eq c)) (off5_eq c 13)
    (ret_all m c _))

theorem part24 (v2 : BitVec 32) (v769 : BitVec 32) {Q : (Σ' (v801 : BitVec 32) (c32_i32_542 : BitVec 32) (v802 : BitVec 1), BitVec 32) → sProp 𝕄} :
    iprop(pers m ∗ SendSt m c 13 ∗ (∀ x, SendSt m c 15 -∗ Q x)) ⊢ wpc c (atArgs (k0_part24 (F := F)) c v2 v769) Q := by
  rw [k0_part24_eq_skeleton]
  exact send_then m c _ 13 (by decide) (Fin.ext (send_devs c).2.2.2.2.2.2.2.2.2.2.2.2.2.1) rfl (recv_sem c.isLt _ (k0_off2_eq c)) (off5_eq c 14)
    (send_then m c _ 14 (by decide) (Fin.ext (send_devs c).2.2.2.2.2.2.2.2.2.2.2.2.2.2.1) rfl (recv_sem c.isLt _ (k0_off2_eq c)) (off5_eq c 15)
    (ret_all m c _))

theorem part25 (v2 : BitVec 32) (v801 : BitVec 32) (c32_i32_542 : BitVec 32) (v802 : BitVec 1) (c1_i32_544 : BitVec 32) {Q : (PUnit) → sProp 𝕄} :
    iprop(pers m ∗ SendSt m c 15 ∗ (∀ x, SendSt m c 16 -∗ Q x)) ⊢ wpc c (atArgs (k0_part25 (F := F)) c v2 v801 c32_i32_542 v802 c1_i32_544) Q := by
  rw [k0_part25_eq_skeleton]
  exact send_then m c _ 15 (by decide) (Fin.ext (send_devs c).2.2.2.2.2.2.2.2.2.2.2.2.2.2.2.1) rfl (recv_sem c.isLt _ (k0_off2_eq c)) (off5_eq c 16)
    (ret_all m c _)

theorem part26 (v2 : BitVec 32) {Q : (BitVec 32) → sProp 𝕄} :
    iprop(pers m ∗ SendSt m c 16 ∗ (∀ x, SendSt m c 18 -∗ Q x)) ⊢ wpc c (atArgs (k0_part26 (F := F)) c v2) Q := by
  rw [k0_part26_eq_skeleton]
  exact send_then m c _ 16 (by decide) (Fin.ext (send_devs c).2.2.2.2.2.2.2.2.2.2.2.2.2.2.2.2.1) rfl (recv_sem c.isLt _ (k0_off2_eq c)) (off5_eq c 17)
    (send_then m c _ 17 (by decide) (Fin.ext (send_devs c).2.2.2.2.2.2.2.2.2.2.2.2.2.2.2.2.2.1) rfl (recv_sem c.isLt _ (k0_off2_eq c)) (off5_eq c 18)
    (ret_all m c _))

theorem part27 (v2 : BitVec 32) (v874 : BitVec 32) {Q : (Σ' (v906 : BitVec 32) (c32_i32_612 : BitVec 32) (v907 : BitVec 1), BitVec 32) → sProp 𝕄} :
    iprop(pers m ∗ SendSt m c 18 ∗ (∀ x, SendSt m c 20 -∗ Q x)) ⊢ wpc c (atArgs (k0_part27 (F := F)) c v2 v874) Q := by
  rw [k0_part27_eq_skeleton]
  exact send_then m c _ 18 (by decide) (Fin.ext (send_devs c).2.2.2.2.2.2.2.2.2.2.2.2.2.2.2.2.2.2.1) rfl (recv_sem c.isLt _ (k0_off2_eq c)) (off5_eq c 19)
    (send_then m c _ 19 (by decide) (Fin.ext (send_devs c).2.2.2.2.2.2.2.2.2.2.2.2.2.2.2.2.2.2.2.1) rfl (recv_sem c.isLt _ (k0_off2_eq c)) (off5_eq c 20)
    (ret_all m c _))

theorem part28 (v2 : BitVec 32) (v906 : BitVec 32) (c32_i32_612 : BitVec 32) (v907 : BitVec 1) (c1_i32_614 : BitVec 32) {Q : (PUnit) → sProp 𝕄} :
    iprop(pers m ∗ SendSt m c 20 ∗ (∀ x, SendSt m c 21 -∗ Q x)) ⊢ wpc c (atArgs (k0_part28 (F := F)) c v2 v906 c32_i32_612 v907 c1_i32_614) Q := by
  rw [k0_part28_eq_skeleton]
  exact send_then m c _ 20 (by decide) (Fin.ext (send_devs c).2.2.2.2.2.2.2.2.2.2.2.2.2.2.2.2.2.2.2.2.1) rfl (recv_sem c.isLt _ (k0_off2_eq c)) (off5_eq c 21)
    (ret_all m c _)

theorem part29 (v2 : BitVec 32) {Q : (BitVec 32) → sProp 𝕄} :
    iprop(pers m ∗ SendSt m c 21 ∗ (∀ x, SendSt m c 23 -∗ Q x)) ⊢ wpc c (atArgs (k0_part29 (F := F)) c v2) Q := by
  rw [k0_part29_eq_skeleton]
  exact send_then m c _ 21 (by decide) (Fin.ext (send_devs c).2.2.2.2.2.2.2.2.2.2.2.2.2.2.2.2.2.2.2.2.2.1) rfl (recv_sem c.isLt _ (k0_off2_eq c)) (off5_eq c 22)
    (send_then m c _ 22 (by decide) (Fin.ext (send_devs c).2.2.2.2.2.2.2.2.2.2.2.2.2.2.2.2.2.2.2.2.2.2.1) rfl (recv_sem c.isLt _ (k0_off2_eq c)) (off5_eq c 23)
    (ret_all m c _))

theorem part30 (v2 : BitVec 32) (v979 : BitVec 32) {Q : (Σ' (v1011 : BitVec 32) (c32_i32_682 : BitVec 32) (v1012 : BitVec 1), BitVec 32) → sProp 𝕄} :
    iprop(pers m ∗ SendSt m c 23 ∗ (∀ x, SendSt m c 25 -∗ Q x)) ⊢ wpc c (atArgs (k0_part30 (F := F)) c v2 v979) Q := by
  rw [k0_part30_eq_skeleton]
  exact send_then m c _ 23 (by decide) (Fin.ext (send_devs c).2.2.2.2.2.2.2.2.2.2.2.2.2.2.2.2.2.2.2.2.2.2.2.1) rfl (recv_sem c.isLt _ (k0_off2_eq c)) (off5_eq c 24)
    (send_then m c _ 24 (by decide) (Fin.ext (send_devs c).2.2.2.2.2.2.2.2.2.2.2.2.2.2.2.2.2.2.2.2.2.2.2.2.1) rfl (recv_sem c.isLt _ (k0_off2_eq c)) (off5_eq c 25)
    (ret_all m c _))

theorem part31 (v2 : BitVec 32) (v1011 : BitVec 32) (c32_i32_682 : BitVec 32) (v1012 : BitVec 1) (c1_i32_684 : BitVec 32) {Q : (PUnit) → sProp 𝕄} :
    iprop(pers m ∗ SendSt m c 25 ∗ (∀ x, SendSt m c 26 -∗ Q x)) ⊢ wpc c (atArgs (k0_part31 (F := F)) c v2 v1011 c32_i32_682 v1012 c1_i32_684) Q := by
  rw [k0_part31_eq_skeleton]
  exact send_then m c _ 25 (by decide) (Fin.ext (send_devs c).2.2.2.2.2.2.2.2.2.2.2.2.2.2.2.2.2.2.2.2.2.2.2.2.2.1) rfl (recv_sem c.isLt _ (k0_off2_eq c)) (off5_eq c 26)
    (ret_all m c _)

theorem part32 (v2 : BitVec 32) {Q : (BitVec 32) → sProp 𝕄} :
    iprop(pers m ∗ SendSt m c 26 ∗ (∀ x, SendSt m c 28 -∗ Q x)) ⊢ wpc c (atArgs (k0_part32 (F := F)) c v2) Q := by
  rw [k0_part32_eq_skeleton]
  exact send_then m c _ 26 (by decide) (Fin.ext (send_devs c).2.2.2.2.2.2.2.2.2.2.2.2.2.2.2.2.2.2.2.2.2.2.2.2.2.2.1) rfl (recv_sem c.isLt _ (k0_off2_eq c)) (off5_eq c 27)
    (send_then m c _ 27 (by decide) (Fin.ext (send_devs c).2.2.2.2.2.2.2.2.2.2.2.2.2.2.2.2.2.2.2.2.2.2.2.2.2.2.2.1) rfl (recv_sem c.isLt _ (k0_off2_eq c)) (off5_eq c 28)
    (ret_all m c _))

theorem part33 (v2 : BitVec 32) (v1084 : BitVec 32) {Q : (Σ' (v1116 : BitVec 32) (c32_i32_752 : BitVec 32) (v1117 : BitVec 1), BitVec 32) → sProp 𝕄} :
    iprop(pers m ∗ SendSt m c 28 ∗ (∀ x, SendSt m c 30 -∗ Q x)) ⊢ wpc c (atArgs (k0_part33 (F := F)) c v2 v1084) Q := by
  rw [k0_part33_eq_skeleton]
  exact send_then m c _ 28 (by decide) (Fin.ext (send_devs c).2.2.2.2.2.2.2.2.2.2.2.2.2.2.2.2.2.2.2.2.2.2.2.2.2.2.2.2.1) rfl (recv_sem c.isLt _ (k0_off2_eq c)) (off5_eq c 29)
    (send_then m c _ 29 (by decide) (Fin.ext (send_devs c).2.2.2.2.2.2.2.2.2.2.2.2.2.2.2.2.2.2.2.2.2.2.2.2.2.2.2.2.2.1) rfl (recv_sem c.isLt _ (k0_off2_eq c)) (off5_eq c 30)
    (ret_all m c _))

/-- The two scales, read. -/
abbrev scale (s₁ : Buf (Elt F) ((c : Thread nD τ).loc cc0_stg0_0)) (s₂ : Buf (Elt F) ((c : Thread nD τ).loc cc0_stg1_0)) : F .f32 :=
  k0_pay2 (F := F) (s₁ (ix1 0 : S1.Idx)) (s₂ (ix1 0 : S1.Idx))

theorem idx_one (i j : S1.Idx) : i = j := by
  funext a
  apply Fin.ext
  have hi : (i a).val < S1.size a := (i a).isLt
  have hj : (j a).val < S1.size a := (j a).isLt
  have h1 : S1.size a = 1 := by match a with | ⟨0, _⟩ => rfl
  omega

theorem read_scale0 (f : Buf (Elt F) ((c : Thread nD τ).loc cc0_stg0_0)) (x : S1.Idx) :
    (Memref.whole cc0_stg0_0).view.readAt (Elt F) (Rect.unit (s := S1) ![0] S1.size inb_S1_S1_0).toLoadRect f x = f (ix1 0 : S1.Idx) :=
  congrArg f (idx_one _ _)
theorem read_scale1 (f : Buf (Elt F) ((c : Thread nD τ).loc cc0_stg1_0)) (x : S1.Idx) :
    (Memref.whole cc0_stg1_0).view.readAt (Elt F) (Rect.unit (s := S1) ![0] S1.size inb_S1_S1_0).toLoadRect f x = f (ix1 0 : S1.Idx) :=
  congrArg f (idx_one _ _)

theorem part34 (v19 : BitVec 32) (v1116 : BitVec 32) (c32_i32_752 : BitVec 32) (v1117 : BitVec 1) (c1_i32_754 : BitVec 32) (s₁ : Buf (Elt F) ((c : Thread nD τ).loc cc0_stg0_0)) (s₂ : Buf (Elt F) ((c : Thread nD τ).loc cc0_stg1_0)) {Q : (Σ' (v1139 : F .f32), BitVec 32) → sProp 𝕄} :
    iprop(pers m ∗ SendSt m c 30 ∗ (((c : Thread nD τ).loc cc0_stg0_0) ↦{fullShare} s₁) ∗ (((c : Thread nD τ).loc cc0_stg1_0) ↦{fullShare} s₂)
        ∗ (∀ v, SendSt m c 31 -∗ (((c : Thread nD τ).loc cc0_stg0_0) ↦{fullShare} s₁) -∗ (((c : Thread nD τ).loc cc0_stg1_0) ↦{fullShare} s₂)
            -∗ Q ⟨scale c s₁ s₂, v⟩))
      ⊢ wpc c (atArgs (k0_part34 (F := F)) c v19 v1116 c32_i32_752 v1117 c1_i32_754) Q := by
  rw [k0_part34_eq_skeleton]
  refine send_then m c _ 30 (by decide) (Fin.ext (send_devs c).2.2.2.2.2.2.2.2.2.2.2.2.2.2.2.2.2.2.2.2.2.2.2.2.2.2.2.2.2.2) rfl (recv_sem c.isLt _ (k0_off2_eq c)) (off5_eq c 31) ?_
  simp only [smemLoad, smemLoadElt, Prog.lift, Prog.bind_op, Prog.bind_ret, Prog.pure_eq_ret]
  iintro ⟨-, HS, H1, H2, Hk⟩
  iapply (wp_load 𝒱₀ (c : Thread nD τ) none Set.univ (m := Memref.whole cc0_stg0_0) (Finset.subset_univ _)) $$ H1; iintro H1
  iapply (wp_load 𝒱₀ (c : Thread nD τ) none Set.univ (m := Memref.whole cc0_stg1_0) (Finset.subset_univ _)) $$ H2; iintro H2
  iapply wpc_ret
  irw [read_scale0, read_scale1]
  iapply Hk $$ HS H1 H2

end Parts

end Cert.AllToAll

end
-- ==== Proof.Consume.lean ====
/-
# The steps of the product

What the pieces of the kernel that wait for the gathered blocks and multiply do, one step at a time: a wait for a
gathered block or for a sent one, a load of a block, the rounding of a quarter of `w`, a load and a store of the
result.
-/
module

public import proofs.«01_k».proof.Proof.BodySends

@[expose] public section

noncomputable section

namespace Cert.AllToAll

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev wcLoc (c : Dev nD) : Loc nD τ sig := (c : Thread nD τ).loc cc0_scratch4
abbrev oLoc (c : Dev nD) : Loc nD τ sig := (c : Thread nD τ).loc cc0_stg2_0

/-- A slot of the buffer of rounded quarters of `w`. -/
abbrev wcR (off : Fin 3 → ℕ) (h : ∀ a, off a + S1x1024x2048.size a ≤ S2x1024x2048.size a) : Rect S2x1024x2048 :=
  Rect.unit (s := S2x1024x2048) off S1x1024x2048.size h
/-- The whole of the result's buffer. -/
abbrev oR (h : ∀ a, (![0, 0] : Fin 2 → ℕ) a + S128x2048.size a ≤ S128x2048.size a) : Rect S128x2048 :=
  Rect.unit (s := S128x2048) ![0, 0] S128x2048.size h

section Steps

variable (m : Mem0 F) {α : Type} {Q : α → sProp (MT nD τ sig Unit (Elt F) ℕ UU ℕ)} {R : sProp (MT nD τ sig Unit (Elt F) ℕ UU ℕ)}

/-- The buffer of rounded quarters, whatever it holds, -/
def wcAny (c : Dev nD) : sProp 𝕄 := iprop(∃ f, wcLoc c ↦{fullShare} (f : Buf (Elt F) (wcLoc c)))
/-- and with a known slot. -/
def wcHas (c : Dev nD) (r : Rect S2x1024x2048) (v : r.shape.Idx → Elt F .fp8e5m2) : sProp 𝕄 :=
  iprop(∃ f, (wcLoc c ↦{fullShare} (f : Buf (Elt F) (wcLoc c))) ∗ ⌜wcM.view.readAt (Elt F) r.toLoadRect f = v⌝)

theorem wcHas_any (c : Dev nD) (r : Rect S2x1024x2048) (v : r.shape.Idx → Elt F .fp8e5m2) : wcHas c r v ⊢ wcAny c := by
  unfold wcHas wcAny
  iintro ⟨%f, H, -⟩
  iexists f
  iexact H

/-- A member of a family, taken out. -/
theorem lookup {I : Type} [DecidableEq I] (Φ : I → sProp 𝕄) {s : Finset I} {i : I} (hi : i ∈ s) :
    bigSep s Φ = iprop(Φ i ∗ bigSep (s.erase i) Φ) := by
  rw [bigSep_erase hi]; rfl

/-- A piece ends by handing on a result of which part is known. -/
theorem ret_at {β : Type} {P : sProp 𝕄} (c : Dev nD) (g : β → α) (x : β) :
    iprop(pers m ∗ P ∗ (∀ x, P -∗ Q (g x))) ⊢ wpc c (pure (g x)) Q := by
  iintro ⟨-, HP, Hk⟩
  rw [Prog.pure_eq_ret]; iapply wpc_ret
  iapply Hk; iexact HP

/-- A piece ends by handing on a known result. -/
theorem ret_val {P : sProp 𝕄} (c : Dev nD) (v : α) :
    iprop(pers m ∗ P ∗ (P -∗ Q v)) ⊢ wpc c (pure v) Q := by
  iintro ⟨-, HP, Hk⟩
  rw [Prog.pure_eq_ret]; iapply wpc_ret
  iapply Hk; iexact HP

/-! ## Waits for the gathered blocks -/

/-- What the wait for block `i` of the group `r` quarters on brings. -/
def gotRes (c : Dev nD) (r i : ℕ) : sProp 𝕄 := iprop(dmaPay m c (34 + member c r i) 0 ∗ semVal (dcell c (34 + member c r i)) 0)
/-- The waits of a group, `k` of them done. -/
def Grp (c : Dev nD) (r k : ℕ) : sProp 𝕄 :=
  iprop(bigSep (Finset.Ico k 8) (fun i => waitRes (F := F) c (34 + member c r i)) ∗ bigSep (Finset.range k) (gotRes m c r))
/-- The same, with what the device owes: nothing. -/
def GrpSt (c : Dev nD) (r k : ℕ) : sProp 𝕄 := iprop(ow c 0 ∗ Grp m c r k)

theorem recv_then (c : Dev nD) (r i : ℕ) (hi : i < 8) {sp' : Space} {s' : Shape} {e' : EltTy} {src : Memref sig .tc sp' s' e'}
    {off6 : Fin 1 → ℕ} {h6 : ∀ a, off6 a + S1.size a ≤ S32.size a} (ho6 : off6 = ![member c r i])
    {off7 : Fin 3 → ℕ} {h7 : ∀ a, off7 a + S1x128x128.size a ≤ S32x128x128.size a}
    {hsrc : src.view.WordExact} {hdst : (slotM off7 h7).view.WordExact}
    {k : PUnit → Prog (TpuEff nD τ sig (Elt F) Λ₀ .tc) α} (hk : iprop(pers m ∗ GrpSt m c r (i + 1) ∗ R) ⊢ wpc c (k ⟨⟩) Q) :
    iprop(pers m ∗ GrpSt m c r i ∗ R)
      ⊢ wpc c (Prog.lift (.waitDma2 ((cc0_scratch6.slice (Rect.unit (s := S32) off6 S1.size h6)).squeeze S_ squeezes_S1_S_).sem src (slotM off7 h7) hsrc hdst) >>= k) Q := by
  have hm := member_lt c r hi
  simp only [Prog.lift, Prog.bind_op, Prog.bind_ret]
  unfold GrpSt Grp at hk ⊢
  rw [Ico_sep _ hi]
  rw [range_sep] at hk
  unfold gotRes at hk ⊢
  iintro ⟨#HP, ⟨HO, ⟨Hw, Hws⟩, Hg⟩, HR⟩
  iapply (step_wait m c (n := 34 + member c r i) (by omega) (by omega) (by omega) (recv_sem hm h6 ho6) (O := 0) (mayWait_nothing c _)
    (by rw [dmaAmt_recv hm]; exact credit_NT _ _)) $$ [Hw HO]
  · isplitr; · iexact HP
    isplitl [Hw]; · iexact Hw
    iexact HO
  iintro ⟨HO, Hp, Hz⟩
  iapply hk
  isplitr; · iexact HP
  isplitl [HO Hws Hg Hp Hz]
  · isplitl [HO]; · iexact HO
    isplitl [Hws]; · iexact Hws
    isplitl [Hp Hz]
    · isplitl [Hp]; · iexact Hp
      iexact Hz
    iexact Hg
  iexact HR

/-- The block of the gathered array that the `i`-th load of group `r` reads. -/
def blk (c : Dev nD) (r : ℕ) (i : Fin 8) : Vec F S1x128x128 .fp8e5m2 :=
  fun y => XG m c (ix3 (⟨member c r i.val, member_lt c r i.isLt⟩ : Fin 32) (y 1) (y 2) : S32x128x128.Idx)

theorem load_then (c : Dev nD) (r : ℕ) (i : Fin 8)
    {off8 : Fin 3 → ℕ} {h8 : ∀ a, off8 a + S1x128x128.size a ≤ S32x128x128.size a} (ho8 : off8 = ![member c r i.val, 0, 0])
    {hl : xgM.view.LoadsAt (Rect.unit (s := S32x128x128) off8 S1x128x128.size h8).toLoadRect}
    {k : Vec F S1x128x128 .fp8e5m2 → Prog (TpuEff nD τ sig (Elt F) Λ₀ .tc) α} (hk : iprop(pers m ∗ GrpSt m c r 8 ∗ R) ⊢ wpc c (k (blk m c r i)) Q) :
    iprop(pers m ∗ GrpSt m c r 8 ∗ R)
      ⊢ wpc c (Prog.lift (.load xgM (Rect.unit (s := S32x128x128) off8 S1x128x128.size h8).toLoadRect hl) >>= k) Q := by
  have hm := member_lt c r i.isLt
  simp only [Prog.lift, Prog.bind_op, Prog.bind_ret]
  have hmem : i.val ∈ Finset.range 8 := Finset.mem_range.mpr i.isLt
  have e : iprop(GrpSt m c r 8) = iprop(ow c 0 ∗ bigSep (Finset.Ico 8 8) (fun i => waitRes (F := F) c (34 + member c r i))
      ∗ ((slotPts c (member c r i.val) (XG m c) ∗ (if member c r i.val = c.val then rowPts c c.val (X8 m c) else iprop(emp))) ∗ semVal (dcell c (34 + member c r i.val)) 0)
      ∗ bigSep ((Finset.range 8).erase i.val) (gotRes m c r)) := by
    unfold GrpSt Grp
    rw [lookup (gotRes m c r) hmem]
    unfold gotRes
    rw [dmaPay_recv m c hm]
    rfl
  rw [e]
  rw [e] at hk
  unfold slotPts at hk ⊢
  iintro ⟨#HP, ⟨HO, Hws, ⟨⟨Hs, Hi⟩, Hz⟩, Hg⟩, HR⟩
  iapply (wp_load 𝒱₀ (c : Thread nD τ) none Set.univ (m := xgM) (S := slotSet (member c r i.val)) (slot_load_sub ho8 h8)) $$ Hs
  iintro Hs
  irw [slot_load (j := (⟨member c r i.val, hm⟩ : Fin 32)) ho8 h8]
  iapply hk
  isplitr; · iexact HP
  isplitl [HO Hws Hs Hi Hz Hg]
  · isplitl [HO]; · iexact HO
    isplitl [Hws]; · iexact Hws
    isplitl [Hs Hi Hz]
    · isplitl [Hs Hi]
      · isplitl [Hs]; · iexact Hs
        iexact Hi
      iexact Hz
    iexact Hg
  iexact HR

/-- A load of the rounded quarter. -/
theorem wc_then {P : sProp 𝕄} (c : Dev nD) {off : Fin 3 → ℕ} {h : ∀ a, off a + S1x1024x2048.size a ≤ S2x1024x2048.size a} (v : Vec F S1x1024x2048 .fp8e5m2)
    {hl : wcM.view.LoadsAt (wcR off h).toLoadRect} {k : Vec F S1x1024x2048 .fp8e5m2 → Prog (TpuEff nD τ sig (Elt F) Λ₀ .tc) α}
    (hk : iprop(pers m ∗ P ∗ wcHas c (wcR off h) v ∗ R) ⊢ wpc c (k v) Q) :
    iprop(pers m ∗ P ∗ wcHas c (wcR off h) v ∗ R) ⊢ wpc c (Prog.lift (.load wcM (wcR off h).toLoadRect hl) >>= k) Q := by
  simp only [Prog.lift, Prog.bind_op, Prog.bind_ret]
  unfold wcHas at hk ⊢
  iintro ⟨#HP, HS, ⟨%f, Hf, %hf⟩, HR⟩
  iapply (wp_load 𝒱₀ (c : Thread nD τ) none Set.univ (m := wcM) (Finset.subset_univ _)) $$ Hf
  iintro Hf
  irw [hf]
  iapply hk
  isplitr; · iexact HP
  isplitl [HS]; · iexact HS
  isplitl [Hf]
  · iexists f
    isplitl [Hf]; · iexact Hf
    ipureintro; exact hf
  iexact HR

/-! ## The rounding of a quarter of `w`, and the result's buffer -/

/-- The quarter of `w` that arrives in step `r`, as the kernel loads it. -/
def wblk (c : Dev nD) (r : ℕ) : Vec F S1x1024x2048 .f32 :=
  fun y => WB m c (qr c r) (ix3 (0 : Fin 3) (y 1) (y 2) : S3x1024x2048.Idx)

/-- Load the quarter that has arrived in slot `s`, round it and store it. -/
theorem step_round (c : Dev nD) (s : Fin 3) (r : ℕ)
    {off8 : Fin 3 → ℕ} {h8 : ∀ a, off8 a + S1x1024x2048.size a ≤ S3x1024x2048.size a} (ho8 : off8 = ![s.val, 0, 0])
    {hl : wbM.view.LoadsAt (Rect.unit (s := S3x1024x2048) off8 S1x1024x2048.size h8).toLoadRect}
    {off : Fin 3 → ℕ} {h : ∀ a, off a + S1x1024x2048.size a ≤ S2x1024x2048.size a}
    {hl' : wcM.view.LoadsAt (wcR off h).toLoadRect} (g : Vec F S1x1024x2048 .f32 → Vec F S1x1024x2048 .fp8e5m2)
    {hx : (wcM.access (wcR off h)).Stores Finset.univ} {hm} {k : PUnit → Prog (TpuEff nD τ sig (Elt F) Λ₀ .tc) α} :
    iprop(wslotPts c s.val (WB m c (qr c r)) ∗ wcAny (F := F) c)
      ⊢ iprop(((wslotPts c s.val (WB m c (qr c r)) ∗ wcHas c (wcR off h) (g (wblk m c r))) -∗ wpc c (k ⟨⟩) Q)
          -∗ wpc c (.op (.load wbM (Rect.unit (s := S3x1024x2048) off8 S1x1024x2048.size h8).toLoadRect hl) fun a =>
              .op (.load wcM (wcR off h).toLoadRect hl') fun _ => .op (.store wcM (wcR off h) (g a) Finset.univ hx hm) k) Q) := by
  unfold wslotPts wcAny wcHas
  iintro ⟨Hs, %f, Hf⟩
  iintro Hk
  iapply (wp_load 𝒱₀ (c : Thread nD τ) none Set.univ (m := wbM) (S := wSet s.val) (wslot_load_sub ho8 h8)) $$ Hs
  iintro Hs
  irw [show wbM.view.readAt (Elt F) (Rect.unit (s := S3x1024x2048) off8 S1x1024x2048.size h8).toLoadRect (WB m c (qr c r)) = wblk m c r from
    wslot_load ho8 h8 _]
  iapply (wp_load 𝒱₀ (c : Thread nD τ) none Set.univ (m := wcM) (Finset.subset_univ _)) $$ Hf
  iintro Hf
  iapply (wp_store 𝒱₀ (c : Thread nD τ) none Set.univ (m := wcM) (r := wcR off h) (Mk := Finset.univ) (Finset.subset_univ _)) $$ Hf
  iintro Hf
  iapply Hk
  isplitl [Hs]; · iexact Hs
  iexists _
  isplitl [Hf]; · iexact Hf
  ipureintro
  exact wc_load_store _ _ _

/-- Load the result, then store a function of it. -/
theorem step_acc (c : Dev nD) (f : Buf (Elt F) (oLoc c)) {h : ∀ a, (![0, 0] : Fin 2 → ℕ) a + S128x2048.size a ≤ S128x2048.size a}
    {hl hl' : oM.view.LoadsAt (oR h).toLoadRect} (g : Vec F S128x2048 .f32 → Vec F S128x2048 .f32)
    {hx : (oM.access (oR h)).Stores Finset.univ} {hm} {k : PUnit → Prog (TpuEff nD τ sig (Elt F) Λ₀ .tc) α} :
    (oLoc c ↦{fullShare} f)
      ⊢ iprop(((oLoc c ↦{fullShare} (g f : Vec F S128x2048 .f32)) -∗ wpc c (k ⟨⟩) Q)
          -∗ wpc c (.op (.load oM (oR h).toLoadRect hl) fun a => .op (.load oM (oR h).toLoadRect hl') fun _ =>
              .op (.store oM (oR h) (g a) Finset.univ hx hm) k) Q) := by
  iintro Hf
  iintro Hk
  iapply (wp_load 𝒱₀ (c : Thread nD τ) none Set.univ (m := oM) (Finset.subset_univ _)) $$ Hf
  iintro Hf
  irw [out_load h f]
  iapply (wp_load 𝒱₀ (c : Thread nD τ) none Set.univ (m := oM) (Finset.subset_univ _)) $$ Hf
  iintro Hf
  iapply (wp_store 𝒱₀ (c : Thread nD τ) none Set.univ (m := oM) (r := oR h) (Mk := Finset.univ) (Finset.subset_univ _)) $$ Hf
  iintro Hf
  ihave Hf := (Entails.of_eq (congrArg (fun x => (oLoc c ↦{fullShare} x : sProp 𝕄)) (out_store h f (g f)))) $$ Hf
  iapply Hk
  iexact Hf

/-- Store the result, after a load whose value is not used. -/
theorem step_set (c : Dev nD) (f : Buf (Elt F) (oLoc c)) {h : ∀ a, (![0, 0] : Fin 2 → ℕ) a + S128x2048.size a ≤ S128x2048.size a}
    {hl : oM.view.LoadsAt (oR h).toLoadRect} (v : Vec F S128x2048 .f32)
    {hx : (oM.access (oR h)).Stores Finset.univ} {hm} {k : PUnit → Prog (TpuEff nD τ sig (Elt F) Λ₀ .tc) α} :
    (oLoc c ↦{fullShare} f)
      ⊢ iprop(((oLoc c ↦{fullShare} (v : Vec F S128x2048 .f32)) -∗ wpc c (k ⟨⟩) Q)
          -∗ wpc c (.op (.load oM (oR h).toLoadRect hl) fun _ => .op (.store oM (oR h) v Finset.univ hx hm) k) Q) := by
  iintro Hf
  iintro Hk
  iapply (wp_load 𝒱₀ (c : Thread nD τ) none Set.univ (m := oM) (Finset.subset_univ _)) $$ Hf
  iintro Hf
  iapply (wp_store 𝒱₀ (c : Thread nD τ) none Set.univ (m := oM) (r := oR h) (Mk := Finset.univ) (Finset.subset_univ _)) $$ Hf
  iintro Hf
  ihave Hf := (Entails.of_eq (congrArg (fun x => (oLoc c ↦{fullShare} x : sProp 𝕄)) (out_store h f v))) $$ Hf
  iapply Hk
  iexact Hf

/-! ## Waits for the sent blocks -/

/-- The waits for the sends, `k` of them done. -/
def SentSt (c : Dev nD) (k : ℕ) : sProp 𝕄 :=
  iprop(ow c 0 ∗ bigSep (Finset.Ico k 31) (fun d => waitRes (F := F) c (3 + d))
    ∗ bigSep (Finset.range k) (fun d => iprop(dmaPay m c (3 + d) 0 ∗ semVal (dcell c (3 + d)) 0)))

theorem sent_then (c : Dev nD) (d : ℕ) (hd : d < 31) {q : DmaSem sig} (hq : q = dq (3 + d))
    {sp' : Space} {s' : Shape} {e' : EltTy} {src : Memref sig .tc sp' s' e'}
    {off5 : Fin 2 → ℕ} {h5 : ∀ a, off5 a + S128x128.size a ≤ S4096x128.size a}
    {hsrc : src.view.WordExact} {hdst : (rowM off5 h5).view.WordExact}
    {k : PUnit → Prog (TpuEff nD τ sig (Elt F) Λ₀ .tc) α} (hk : iprop(pers m ∗ SentSt m c (d + 1) ∗ R) ⊢ wpc c (k ⟨⟩) Q) :
    iprop(pers m ∗ SentSt m c d ∗ R) ⊢ wpc c (Prog.lift (.waitDma2 q src (rowM off5 h5) hsrc hdst) >>= k) Q := by
  simp only [Prog.lift, Prog.bind_op, Prog.bind_ret]
  unfold SentSt at hk ⊢
  rw [Ico_sep _ hd]
  rw [range_sep] at hk
  iintro ⟨#HP, ⟨HO, ⟨Hw, Hws⟩, Hg⟩, HR⟩
  iapply (step_wait m c (n := 3 + d) (by omega) (by omega) (by omega) hq (O := 0) (mayWait_nothing c _)
    (by rw [dmaAmt_send hd]; exact credit_NT _ _)) $$ [Hw HO]
  · isplitr; · iexact HP
    isplitl [Hw]; · iexact Hw
    iexact HO
  iintro ⟨HO, Hp, Hz⟩
  iapply hk
  isplitr; · iexact HP
  isplitl [HO Hws Hg Hp Hz]
  · isplitl [HO]; · iexact HO
    isplitl [Hws]; · iexact Hws
    isplitl [Hp Hz]
    · isplitl [Hp]; · iexact Hp
      iexact Hz
    iexact Hg
  iexact HR

end Steps

end Cert.AllToAll

end
-- ==== Proof.BodyMain.lean ====
/-
# The product

The pieces of the kernel that wait for the gathered blocks, multiply, and wait for the sends.
-/
module

public import proofs.«01_k».proof.Proof.Consume

@[expose] public section

noncomputable section

namespace Cert.AllToAll

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts

variable (m : Mem0 F) (c : Dev nD)

/-- The first quarter of `w` is awaited and rounded, and the copy of the last one started. -/
theorem part35 (v19 : BitVec 32) (v1150 : BitVec 32) {Q : (PUnit) → sProp 𝕄} :
    iprop(pers m ∗ (waitRes c 66 ∗ dutyTok ER (dcell c 66) 1 0 ∗ wcAny c ∗ ow c 0 ∗ chunkPts c (quarter c 2) (m (wLoc c)))
        ∗ (∀ x, ow c 0 -∗ chunkPts c (quarter c 0) (m (wLoc c)) -∗ atPos ER (dcell c 66) 1 ∅ 0 -∗ cred (tallyAt (dcell c 66) () NW)
            -∗ wcHas c (wcR ![0, 0, 0] inb_S2x1024x2048_S1x1024x2048_0_0_0) (k0_pay3 (wblk m c 0)) -∗ Q x))
      ⊢ wpc c (atArgs (k0_part35 (F := F)) c v19 v1150) Q := by
  rw [k0_part35_eq_skeleton]; unfold k0_part35_skel atArgs
  simp only [Prog.lift, Prog.bind_op, Prog.bind_ret, Prog.pure_eq_ret]
  iintro ⟨#HP, ⟨Hw, Ht, Hwc, HO, Hch⟩, Hk⟩
  iapply (step_wait_w0 m c rfl (by rw [dmaAmt_w0]; exact credit_NW _ _)) $$ [Hw HO]
  · isplitr; · iexact HP
    isplitl [Hw]; · iexact Hw
    iexact HO
  unfold wPay
  iintro ⟨HO, ⟨Hs, Hc0⟩, Hat, #Hr⟩
  iapply (step_round m c 0 0 rfl (k0_pay3 (F := F))) $$ [Hs Hwc]
  · isplitl [Hs]; · iexact Hs
    iexact Hwc
  iintro ⟨Hs, Hwc⟩
  iapply (step_wcopy m c 0 1 2 rfl (dut_w0 m c) rfl (off1_eq c 2) rfl (WB m c (qr c 0))) $$ [Hch Hs Ht]
  · isplitr; · iexact HP
    isplitl [Hch]; · iexact Hch
    isplitl [Hs]; · iexact Hs
    isplitl [Ht]; · iexact Ht
    iexact Hr
  iintro Hcr
  iapply wpc_ret
  iapply Hk $$ HO Hc0 Hat [Hcr] Hwc
  iapply (Entails.of_eq (congrArg (fun n => (cred (tallyAt (dcell c 66) () n) : sProp 𝕄)) dmaAmt_w0)) $$ Hcr

theorem part36 (v1150 : BitVec 32) {Q : (BitVec 32) → sProp 𝕄} :
    iprop(pers m ∗ GrpSt m c 0 0 ∗ (∀ x, GrpSt m c 0 5 -∗ Q x)) ⊢ wpc c (atArgs (k0_part36 (F := F)) c v1150) Q := by
  rw [k0_part36_eq_skeleton]
  exact recv_then m c 0 0 (by decide) (off6_eq c 0 0)
    (recv_then m c 0 1 (by decide) (off6_eq c 0 1)
    (recv_then m c 0 2 (by decide) (off6_eq c 0 2)
    (recv_then m c 0 3 (by decide) (off6_eq c 0 3)
    (recv_then m c 0 4 (by decide) (off6_eq c 0 4)
    (ret_all m c _)))))

theorem part37 (v1150 : BitVec 32) (v1214 : BitVec 32) {Q : (Σ' (v1239 : FVec F S128x128 .fp8e5m2) (v1244 : FVec F S128x128 .fp8e5m2), BitVec 32) → sProp 𝕄} :
    iprop(pers m ∗ GrpSt m c 0 5 ∗ (∀ x, GrpSt m c 0 8 -∗ Q ⟨k0_pay4 (blk m c 0 0), k0_pay5 (blk m c 0 1), x⟩)) ⊢ wpc c (atArgs (k0_part37 (F := F)) c v1150 v1214) Q := by
  rw [k0_part37_eq_skeleton]
  exact recv_then m c 0 5 (by decide) (off6_eq c 0 5)
    (recv_then m c 0 6 (by decide) (off6_eq c 0 6)
    (recv_then m c 0 7 (by decide) (off6_eq c 0 7)
    (load_then m c 0 0 (off8_eq c 0 0)
    (load_then m c 0 1 (off8_eq c 0 1)
    (ret_at m c (fun x => (⟨k0_pay4 (blk m c 0 0), k0_pay5 (blk m c 0 1), x⟩ : (Σ' (v1239 : FVec F S128x128 .fp8e5m2) (v1244 : FVec F S128x128 .fp8e5m2), BitVec 32))) _)))))

theorem part38 (v1150 : BitVec 32) (v1239 : FVec F S128x128 .fp8e5m2) (v1244 : FVec F S128x128 .fp8e5m2) (v1245 : BitVec 32) (v : Vec F S1x1024x2048 .fp8e5m2) {Q : (FVec F S128x2048 .f32) → sProp 𝕄} :
    iprop(pers m ∗ GrpSt m c 0 8 ∗ wcHas c (wcR ![0, 0, 0] inb_S2x1024x2048_S1x1024x2048_0_0_0) v ∗ (GrpSt m c 0 8 -∗ wcHas c (wcR ![0, 0, 0] inb_S2x1024x2048_S1x1024x2048_0_0_0) v -∗ Q (k0_pay6 v1239 v1244 (blk m c 0 2) (blk m c 0 3) (blk m c 0 4) (blk m c 0 5) (blk m c 0 6) (blk m c 0 7) v)))
      ⊢ wpc c (atArgs (k0_part38 (F := F)) c v1150 v1239 v1244 v1245) Q := by
  rw [k0_part38_eq_skeleton]
  refine load_then m c 0 2 (off8_eq c 0 2)
    (load_then m c 0 3 (off8_eq c 0 3)
    (load_then m c 0 4 (off8_eq c 0 4)
    (load_then m c 0 5 (off8_eq c 0 5)
    (load_then m c 0 6 (off8_eq c 0 6)
    (load_then m c 0 7 (off8_eq c 0 7)
    (wc_then m c v ?_))))))
  iintro ⟨-, HG, Hw, Hk⟩
  rw [Prog.pure_eq_ret]; iapply wpc_ret
  iapply Hk $$ HG Hw

theorem recv_last {α : Type} {Q : α → sProp 𝕄} (r i : ℕ) (hi : i < 8) {sp' : Space} {s' : Shape} {e' : EltTy} {src : Memref sig .tc sp' s' e'}
    {off6 : Fin 1 → ℕ} {h6 : ∀ a, off6 a + S1.size a ≤ S32.size a} (ho6 : off6 = ![member c r i])
    {off7 : Fin 3 → ℕ} {h7 : ∀ a, off7 a + S1x128x128.size a ≤ S32x128x128.size a}
    {hsrc : src.view.WordExact} {hdst : (slotM off7 h7).view.WordExact} (v : α) :
    iprop(pers m ∗ GrpSt m c r i ∗ (GrpSt m c r (i + 1) -∗ Q v))
      ⊢ wpc c (.op (.waitDma2 ((cc0_scratch6.slice (Rect.unit (s := S32) off6 S1.size h6)).squeeze S_ squeezes_S1_S_).sem src (slotM off7 h7) hsrc hdst) fun _ => .ret v) Q :=
  recv_then m c r i hi ho6 (k := fun _ => .ret v) (ret_val m c v)

theorem part39 (v19 : BitVec 32) (v1278 : FVec F S128x2048 .f32) (f : Buf (Elt F) (oLoc c)) {Q : (BitVec 32) → sProp 𝕄} :
    iprop(pers m ∗ GrpSt m c 1 0 ∗ (oLoc c ↦{fullShare} f) ∗ waitRes c 67 ∗ wcAny c
        ∗ (∀ x, GrpSt m c 1 1 -∗ (oLoc c ↦{fullShare} (v1278 : Vec F S128x2048 .f32)) -∗ wslotPts c 1 (WB m c (qr c 1)) -∗ chunkPts c (quarter c 1) (m (wLoc c))
            -∗ semVal (dcell c 67) 0 -∗ wcHas c (wcR ![1, 0, 0] inb_S2x1024x2048_S1x1024x2048_1_0_0) (k0_pay7 (wblk m c 1)) -∗ Q x))
      ⊢ wpc c (atArgs (k0_part39 (F := F)) c v19 v1278) Q := by
  rw [k0_part39_eq_skeleton]; unfold k0_part39_skel atArgs
  simp only [Prog.lift, Prog.bind_op, Prog.bind_ret, Prog.pure_eq_ret]
  iintro ⟨#HP, HG, Ho, Hw, Hwc, Hk⟩
  iapply (step_set c f v1278) $$ Ho
  iintro Ho
  ihave HG := (Entails.of_eq (show GrpSt m c 1 0 = iprop(ow c 0 ∗ Grp m c 1 0) from rfl)) $$ HG
  icases HG with ⟨HO, HG⟩
  iapply (step_wait m c (n := 67) (by decide) (by decide) (by decide) rfl (O := 0) (mayWait_nothing c _) (by rw [dmaAmt_w (s := 1) (by decide)]; exact credit_NW _ _)) $$ [Hw HO]
  · isplitr; · iexact HP
    isplitl [Hw]; · iexact Hw
    iexact HO
  iintro ⟨HO, Hp, Hz⟩
  ihave Hp := (Entails.of_eq (show dmaPay m c 67 0 = wPay m c 1 1 from dmaPay_w m c (s := 1) (by decide) 0)) $$ Hp
  unfold wPay
  icases Hp with ⟨Hs, Hc0⟩
  iapply (step_round m c 1 1 rfl (k0_pay7 (F := F))) $$ [Hs Hwc]
  · isplitl [Hs]; · iexact Hs
    iexact Hwc
  iintro ⟨Hs, Hwc⟩
  ihave Hs := (Entails.of_eq (show wslotPts c (1 : Fin 3).val (WB m c (qr c 1)) = wslotPts c 1 (WB m c (qr c 1)) from rfl)) $$ Hs
  iapply (recv_last m c 1 0 (by decide) (off6_eq c 1 0))
  isplitr; · iexact HP
  isplitl [HO HG]
  · iapply (Entails.of_eq (show iprop(ow c 0 ∗ Grp m c 1 0) = GrpSt m c 1 0 from rfl))
    isplitl [HO]; · iexact HO
    iexact HG
  iintro HG
  iapply Hk $$ HG Ho Hs Hc0 Hz Hwc

theorem part40 (v1290 : BitVec 32) {Q : (PUnit) → sProp 𝕄} :
    iprop(pers m ∗ GrpSt m c 1 1 ∗ (∀ x, GrpSt m c 1 5 -∗ Q x)) ⊢ wpc c (atArgs (k0_part40 (F := F)) c v1290) Q := by
  rw [k0_part40_eq_skeleton]
  exact recv_then m c 1 1 (by decide) (off6_eq c 1 1)
    (recv_then m c 1 2 (by decide) (off6_eq c 1 2)
    (recv_then m c 1 3 (by decide) (off6_eq c 1 3)
    (recv_then m c 1 4 (by decide) (off6_eq c 1 4)
    (ret_all m c _))))

theorem part41 (v1290 : BitVec 32) {Q : (Σ' (v1362 : FVec F S128x128 .fp8e5m2) (v1367 : FVec F S128x128 .fp8e5m2), BitVec 32) → sProp 𝕄} :
    iprop(pers m ∗ GrpSt m c 1 5 ∗ (∀ x, GrpSt m c 1 8 -∗ Q ⟨k0_pay8 (blk m c 1 0), k0_pay9 (blk m c 1 1), x⟩)) ⊢ wpc c (atArgs (k0_part41 (F := F)) c v1290) Q := by
  rw [k0_part41_eq_skeleton]
  exact recv_then m c 1 5 (by decide) (off6_eq c 1 5)
    (recv_then m c 1 6 (by decide) (off6_eq c 1 6)
    (recv_then m c 1 7 (by decide) (off6_eq c 1 7)
    (load_then m c 1 0 (off8_eq c 1 0)
    (load_then m c 1 1 (off8_eq c 1 1)
    (ret_at m c (fun x => (⟨k0_pay8 (blk m c 1 0), k0_pay9 (blk m c 1 1), x⟩ : (Σ' (v1362 : FVec F S128x128 .fp8e5m2) (v1367 : FVec F S128x128 .fp8e5m2), BitVec 32))) _)))))

theorem part42 (v1290 : BitVec 32) (v1362 : FVec F S128x128 .fp8e5m2) (v1367 : FVec F S128x128 .fp8e5m2) (v1369 : BitVec 32) (v : Vec F S1x1024x2048 .fp8e5m2) {Q : (FVec F S128x2048 .f32) → sProp 𝕄} :
    iprop(pers m ∗ GrpSt m c 1 8 ∗ wcHas c (wcR ![1, 0, 0] inb_S2x1024x2048_S1x1024x2048_1_0_0) v ∗ (GrpSt m c 1 8 -∗ wcHas c (wcR ![1, 0, 0] inb_S2x1024x2048_S1x1024x2048_1_0_0) v -∗ Q (k0_pay10 v1362 v1367 (blk m c 1 2) (blk m c 1 3) (blk m c 1 4) (blk m c 1 5) (blk m c 1 6) (blk m c 1 7) v)))
      ⊢ wpc c (atArgs (k0_part42 (F := F)) c v1290 v1362 v1367 v1369) Q := by
  rw [k0_part42_eq_skeleton]
  refine load_then m c 1 2 (off8_eq c 1 2)
    (load_then m c 1 3 (off8_eq c 1 3)
    (load_then m c 1 4 (off8_eq c 1 4)
    (load_then m c 1 5 (off8_eq c 1 5)
    (load_then m c 1 6 (off8_eq c 1 6)
    (load_then m c 1 7 (off8_eq c 1 7)
    (wc_then m c v ?_))))))
  iintro ⟨-, HG, Hw, Hk⟩
  rw [Prog.pure_eq_ret]; iapply wpc_ret
  iapply Hk $$ HG Hw

theorem part43 (v19 : BitVec 32) (v1401 : FVec F S128x2048 .f32) (f : Buf (Elt F) (oLoc c)) {Q : (BitVec 32) → sProp 𝕄} :
    iprop(pers m ∗ ow c 0 ∗ (oLoc c ↦{fullShare} f) ∗ (waitRes c 68) ∗ wcAny c
        ∗ (∀ x, ow c 0 -∗ (oLoc c ↦{fullShare} (k0_pay11 v1401 f : Vec F S128x2048 .f32)) -∗ wslotPts c 2 (WB m c (qr c 3)) -∗ chunkPts c (quarter c 3) (m (wLoc c))
            -∗ semVal (dcell c 68) 0 -∗ wcHas c (wcR ![0, 0, 0] inb_S2x1024x2048_S1x1024x2048_0_0_0) (k0_pay12 (wblk m c 3)) -∗ Q x))
      ⊢ wpc c (atArgs (k0_part43 (F := F)) c v19 v1401) Q := by
  rw [k0_part43_eq_skeleton]; unfold k0_part43_skel atArgs
  simp only [Prog.lift, Prog.bind_op, Prog.bind_ret, Prog.pure_eq_ret]
  iintro ⟨#HP, HO, Ho, Hw, Hwc, Hk⟩
  iapply (step_acc c f (k0_pay11 v1401)) $$ Ho
  iintro Ho
  iapply (step_wait m c (n := 68) (by decide) (by decide) (by decide) rfl (O := 0) (mayWait_nothing c _) (by rw [dmaAmt_w (s := 2) (by decide)]; exact credit_NW _ _)) $$ [Hw HO]
  · isplitr; · iexact HP
    isplitl [Hw]; · iexact Hw
    iexact HO
  iintro ⟨HO, Hp, Hz⟩
  ihave Hp := (Entails.of_eq (show dmaPay m c 68 0 = wPay m c 2 3 from dmaPay_w m c (s := 2) (by decide) 0)) $$ Hp
  unfold wPay
  icases Hp with ⟨Hs, Hc0⟩
  iapply (step_round m c 2 3 rfl (k0_pay12 (F := F))) $$ [Hs Hwc]
  · isplitl [Hs]; · iexact Hs
    iexact Hwc
  iintro ⟨Hs, Hwc⟩
  ihave Hs := (Entails.of_eq (show wslotPts c (2 : Fin 3).val (WB m c (qr c 3)) = wslotPts c 2 (WB m c (qr c 3)) from rfl)) $$ Hs
  iapply wpc_ret
  iapply Hk $$ HO Ho Hs Hc0 Hz Hwc

theorem part44 (v1416 : BitVec 32) {Q : (BitVec 32) → sProp 𝕄} :
    iprop(pers m ∗ GrpSt m c 3 0 ∗ (∀ x, GrpSt m c 3 5 -∗ Q x)) ⊢ wpc c (atArgs (k0_part44 (F := F)) c v1416) Q := by
  rw [k0_part44_eq_skeleton]
  exact recv_then m c 3 0 (by decide) (off6_eq c 3 0)
    (recv_then m c 3 1 (by decide) (off6_eq c 3 1)
    (recv_then m c 3 2 (by decide) (off6_eq c 3 2)
    (recv_then m c 3 3 (by decide) (off6_eq c 3 3)
    (recv_then m c 3 4 (by decide) (off6_eq c 3 4)
    (ret_all m c _)))))

theorem part45 (v1416 : BitVec 32) (c8_i32_1035 : BitVec 32) {Q : (Σ' (v1488 : FVec F S128x128 .fp8e5m2) (v1493 : FVec F S128x128 .fp8e5m2), BitVec 32) → sProp 𝕄} :
    iprop(pers m ∗ GrpSt m c 3 5 ∗ (∀ x, GrpSt m c 3 8 -∗ Q ⟨k0_pay13 (blk m c 3 0), k0_pay14 (blk m c 3 1), x⟩)) ⊢ wpc c (atArgs (k0_part45 (F := F)) c v1416 c8_i32_1035) Q := by
  rw [k0_part45_eq_skeleton]
  exact recv_then m c 3 5 (by decide) (off6_eq c 3 5)
    (recv_then m c 3 6 (by decide) (off6_eq c 3 6)
    (recv_then m c 3 7 (by decide) (off6_eq c 3 7)
    (load_then m c 3 0 (off8_eq c 3 0)
    (load_then m c 3 1 (off8_eq c 3 1)
    (ret_at m c (fun x => (⟨k0_pay13 (blk m c 3 0), k0_pay14 (blk m c 3 1), x⟩ : (Σ' (v1488 : FVec F S128x128 .fp8e5m2) (v1493 : FVec F S128x128 .fp8e5m2), BitVec 32))) _)))))

theorem part46 (v1416 : BitVec 32) (v1488 : FVec F S128x128 .fp8e5m2) (v1493 : FVec F S128x128 .fp8e5m2) (c8_i32_1061 : BitVec 32) (v : Vec F S1x1024x2048 .fp8e5m2) {Q : (Σ' (v1524 : FVec F S128x1024 .fp8e5m2) (v1526 : FVec F S1024x2048 .fp8e5m2), FVec F S128x2048 .f32) → sProp 𝕄} :
    iprop(pers m ∗ GrpSt m c 3 8 ∗ wcHas c (wcR ![0, 0, 0] inb_S2x1024x2048_S1x1024x2048_0_0_0) v ∗ (GrpSt m c 3 8 -∗ wcHas c (wcR ![0, 0, 0] inb_S2x1024x2048_S1x1024x2048_0_0_0) v -∗ Q ⟨k0_pay15 v1488 v1493 (blk m c 3 2) (blk m c 3 3) (blk m c 3 4) (blk m c 3 5) (blk m c 3 6) (blk m c 3 7), k0_pay16 v, constant S128x2048 .f32 0x00000000#32⟩))
      ⊢ wpc c (atArgs (k0_part46 (F := F)) c v1416 v1488 v1493 c8_i32_1061) Q := by
  rw [k0_part46_eq_skeleton]
  refine load_then m c 3 2 (off8_eq c 3 2)
    (load_then m c 3 3 (off8_eq c 3 3)
    (load_then m c 3 4 (off8_eq c 3 4)
    (load_then m c 3 5 (off8_eq c 3 5)
    (load_then m c 3 6 (off8_eq c 3 6)
    (load_then m c 3 7 (off8_eq c 3 7)
    (wc_then m c v ?_))))))
  iintro ⟨-, HG, Hw, Hk⟩
  rw [Prog.pure_eq_ret]; iapply wpc_ret
  iapply Hk $$ HG Hw

theorem part47 (v19 : BitVec 32) (v1524 : FVec F S128x1024 .fp8e5m2) (v1526 : FVec F S1024x2048 .fp8e5m2) (cst_1088 : FVec F S128x2048 .f32) (f : Buf (Elt F) (oLoc c)) {Q : (BitVec 32) → sProp 𝕄} :
    iprop(pers m ∗ ow c 0 ∗ (oLoc c ↦{fullShare} f) ∗ (cred (tallyAt (dcell c 66) () NW) ∗ atPos ER (dcell c 66) 1 ∅ 0) ∗ wcAny c
        ∗ (∀ x, ow c 0 -∗ (oLoc c ↦{fullShare} (k0_pay17 v1524 v1526 cst_1088 f : Vec F S128x2048 .f32)) -∗ wslotPts c 0 (WB m c (qr c 2)) -∗ chunkPts c (quarter c 2) (m (wLoc c))
            -∗ semVal (dcell c 66) 0 -∗ wcHas c (wcR ![1, 0, 0] inb_S2x1024x2048_S1x1024x2048_1_0_0) (k0_pay18 (wblk m c 2)) -∗ Q x))
      ⊢ wpc c (atArgs (k0_part47 (F := F)) c v19 v1524 v1526 cst_1088) Q := by
  rw [k0_part47_eq_skeleton]; unfold k0_part47_skel atArgs
  simp only [Prog.lift, Prog.bind_op, Prog.bind_ret, Prog.pure_eq_ret]
  iintro ⟨#HP, HO, Ho, Hw, Hwc, Hk⟩
  iapply (step_acc c f (k0_pay17 v1524 v1526 cst_1088)) $$ Ho
  iintro Ho
  icases Hw with ⟨Hcr, Hat⟩
  iapply (step_wait_w0' m c rfl (by exact credit_NW _ _)) $$ [Hcr Hat HO]
  · isplitr; · iexact HP
    isplitl [Hcr]; · iexact Hcr
    isplitl [Hat]; · iexact Hat
    iexact HO
  unfold wPay
  iintro ⟨HO, ⟨Hs, Hc0⟩, Hz⟩
  iapply (step_round m c 0 2 rfl (k0_pay18 (F := F))) $$ [Hs Hwc]
  · isplitl [Hs]; · iexact Hs
    iexact Hwc
  iintro ⟨Hs, Hwc⟩
  ihave Hs := (Entails.of_eq (show wslotPts c (0 : Fin 3).val (WB m c (qr c 2)) = wslotPts c 0 (WB m c (qr c 2)) from rfl)) $$ Hs
  iapply wpc_ret
  iapply Hk $$ HO Ho Hs Hc0 Hz Hwc

theorem part48 (v1542 : BitVec 32) {Q : (PUnit) → sProp 𝕄} :
    iprop(pers m ∗ GrpSt m c 2 0 ∗ (∀ x, GrpSt m c 2 4 -∗ Q x)) ⊢ wpc c (atArgs (k0_part48 (F := F)) c v1542) Q := by
  rw [k0_part48_eq_skeleton]
  exact recv_then m c 2 0 (by decide) (off6_eq c 2 0)
    (recv_then m c 2 1 (by decide) (off6_eq c 2 1)
    (recv_then m c 2 2 (by decide) (off6_eq c 2 2)
    (recv_then m c 2 3 (by decide) (off6_eq c 2 3)
    (ret_all m c _))))

theorem part49 (v1542 : BitVec 32) {Q : (FVec F S128x128 .fp8e5m2) → sProp 𝕄} :
    iprop(pers m ∗ GrpSt m c 2 4 ∗ (GrpSt m c 2 8 -∗ Q (k0_pay19 (blk m c 2 0)))) ⊢ wpc c (atArgs (k0_part49 (F := F)) c v1542) Q := by
  rw [k0_part49_eq_skeleton]
  exact recv_then m c 2 4 (by decide) (off6_eq c 2 4)
    (recv_then m c 2 5 (by decide) (off6_eq c 2 5)
    (recv_then m c 2 6 (by decide) (off6_eq c 2 6)
    (recv_then m c 2 7 (by decide) (off6_eq c 2 7)
    (load_then m c 2 0 (off8_eq c 2 0)
    (ret_val m c _)))))

theorem part50 (v1542 : BitVec 32) (v1614 : FVec F S128x128 .fp8e5m2) {Q : (FVec F S128x1024 .fp8e5m2) → sProp 𝕄} :
    iprop(pers m ∗ GrpSt m c 2 8 ∗ (GrpSt m c 2 8 -∗ Q (k0_pay20 v1614 (blk m c 2 1) (blk m c 2 2) (blk m c 2 3) (blk m c 2 4) (blk m c 2 5) (blk m c 2 6) (blk m c 2 7)))) ⊢ wpc c (atArgs (k0_part50 (F := F)) c v1542 v1614) Q := by
  rw [k0_part50_eq_skeleton]
  exact load_then m c 2 1 (off8_eq c 2 1)
    (load_then m c 2 2 (off8_eq c 2 2)
    (load_then m c 2 3 (off8_eq c 2 3)
    (load_then m c 2 4 (off8_eq c 2 4)
    (load_then m c 2 5 (off8_eq c 2 5)
    (load_then m c 2 6 (off8_eq c 2 6)
    (load_then m c 2 7 (off8_eq c 2 7)
    (ret_val m c _)))))))

theorem part51 (v1139 : F .f32) (v1650 : FVec F S128x1024 .fp8e5m2) (f : Buf (Elt F) (oLoc c)) (v : Vec F S1x1024x2048 .fp8e5m2) {Q : (PUnit) → sProp 𝕄} :
    iprop(pers m ∗ SentSt m c 0 ∗ wcHas c (wcR ![1, 0, 0] inb_S2x1024x2048_S1x1024x2048_1_0_0) v ∗ (oLoc c ↦{fullShare} f)
        ∗ (∀ x, SentSt m c 3 -∗ wcHas c (wcR ![1, 0, 0] inb_S2x1024x2048_S1x1024x2048_1_0_0) v -∗ (oLoc c ↦{fullShare} (k0_pay22 v1139 (k0_pay21 v1650 v f) : Vec F S128x2048 .f32)) -∗ Q x))
      ⊢ wpc c (atArgs (k0_part51 (F := F)) c v1139 v1650) Q := by
  rw [k0_part51_eq_skeleton]
  refine wc_then m c v ?_
  simp only [Prog.lift, Prog.bind_op, Prog.bind_ret, Prog.pure_eq_ret]
  iintro ⟨#HP, HS, Hwc, Ho, Hk⟩
  iapply (step_acc c f (k0_pay21 v1650 v)) $$ Ho
  iintro Ho
  iapply (step_acc c (k0_pay21 v1650 v f) (k0_pay22 v1139)) $$ Ho
  iintro Ho
  iapply (show iprop(pers m ∗ SentSt m c 0 ∗ (∀ x, SentSt m c 3 -∗ Q x)) ⊢ _ from
    sent_then m c 0 (by decide) rfl
    (sent_then m c 1 (by decide) rfl
    (sent_then m c 2 (by decide) rfl
    (ret_all m c _))))
  isplitr; · iexact HP
  isplitl [HS]; · iexact HS
  iintro %x HS
  iapply Hk $$ HS Hwc Ho

theorem part52  {Q : (PUnit) → sProp 𝕄} :
    iprop(pers m ∗ SentSt m c 3 ∗ (∀ x, SentSt m c 8 -∗ Q x)) ⊢ wpc c (atArgs (k0_part52 (F := F)) c) Q := by
  rw [k0_part52_eq_skeleton]
  exact sent_then m c 3 (by decide) rfl
    (sent_then m c 4 (by decide) rfl
    (sent_then m c 5 (by decide) rfl
    (sent_then m c 6 (by decide) rfl
    (sent_then m c 7 (by decide) rfl
    (ret_all m c _)))))

theorem part53  {Q : (PUnit) → sProp 𝕄} :
    iprop(pers m ∗ SentSt m c 8 ∗ (∀ x, SentSt m c 14 -∗ Q x)) ⊢ wpc c (atArgs (k0_part53 (F := F)) c) Q := by
  rw [k0_part53_eq_skeleton]
  exact sent_then m c 8 (by decide) rfl
    (sent_then m c 9 (by decide) rfl
    (sent_then m c 10 (by decide) rfl
    (sent_then m c 11 (by decide) rfl
    (sent_then m c 12 (by decide) rfl
    (sent_then m c 13 (by decide) rfl
    (ret_all m c _))))))

theorem part54  {Q : (PUnit) → sProp 𝕄} :
    iprop(pers m ∗ SentSt m c 14 ∗ (∀ x, SentSt m c 19 -∗ Q x)) ⊢ wpc c (atArgs (k0_part54 (F := F)) c) Q := by
  rw [k0_part54_eq_skeleton]
  exact sent_then m c 14 (by decide) rfl
    (sent_then m c 15 (by decide) rfl
    (sent_then m c 16 (by decide) rfl
    (sent_then m c 17 (by decide) rfl
    (sent_then m c 18 (by decide) rfl
    (ret_all m c _)))))

theorem part55  {Q : (PUnit) → sProp 𝕄} :
    iprop(pers m ∗ SentSt m c 19 ∗ (∀ x, SentSt m c 24 -∗ Q x)) ⊢ wpc c (atArgs (k0_part55 (F := F)) c) Q := by
  rw [k0_part55_eq_skeleton]
  exact sent_then m c 19 (by decide) rfl
    (sent_then m c 20 (by decide) rfl
    (sent_then m c 21 (by decide) rfl
    (sent_then m c 22 (by decide) rfl
    (sent_then m c 23 (by decide) rfl
    (ret_all m c _)))))

theorem part56  {Q : (PUnit) → sProp 𝕄} :
    iprop(pers m ∗ SentSt m c 24 ∗ (∀ x, SentSt m c 30 -∗ Q x)) ⊢ wpc c (atArgs (k0_part56 (F := F)) c) Q := by
  rw [k0_part56_eq_skeleton]
  exact sent_then m c 24 (by decide) rfl
    (sent_then m c 25 (by decide) rfl
    (sent_then m c 26 (by decide) rfl
    (sent_then m c 27 (by decide) rfl
    (sent_then m c 28 (by decide) rfl
    (sent_then m c 29 (by decide) rfl
    (ret_all m c _))))))

end Parts

end Cert.AllToAll

end
-- ==== Proof.Body.lean ====
/-
# The whole kernel on one device

The pieces one after another: what the kernel starts from, what it leaves, and the value it leaves in its output.
-/
module

public import proofs.«01_k».proof.Proof.BodyMain

@[expose] public section

noncomputable section

namespace Cert.AllToAll

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The value -/

section Value

variable (m : Mem0 F) (c : Dev nD)

/-- The output after the first quarter. -/
def acc1 : FVec F S128x2048 .f32 :=
  k0_pay6 (k0_pay4 (blk m c 0 0)) (k0_pay5 (blk m c 0 1)) (blk m c 0 2) (blk m c 0 3) (blk m c 0 4) (blk m c 0 5) (blk m c 0 6) (blk m c 0 7) (k0_pay3 (wblk m c 0))

/-- The output after the second quarter. -/
def acc2 : FVec F S128x2048 .f32 :=
  k0_pay11 (k0_pay10 (k0_pay8 (blk m c 1 0)) (k0_pay9 (blk m c 1 1)) (blk m c 1 2) (blk m c 1 3) (blk m c 1 4) (blk m c 1 5) (blk m c 1 6) (blk m c 1 7) (k0_pay7 (wblk m c 1))) (acc1 m c)

/-- The output after the last quarter, which is taken third. -/
def acc3 : FVec F S128x2048 .f32 :=
  k0_pay17 (k0_pay15 (k0_pay13 (blk m c 3 0)) (k0_pay14 (blk m c 3 1)) (blk m c 3 2) (blk m c 3 3) (blk m c 3 4) (blk m c 3 5) (blk m c 3 6) (blk m c 3 7)) (k0_pay16 (k0_pay12 (wblk m c 3)))
    (constant S128x2048 .f32 0x00000000#32) (acc2 m c)

/-- The output after all four quarters. -/
def acc4 : FVec F S128x2048 .f32 :=
  k0_pay21 (k0_pay20 (k0_pay19 (blk m c 2 0)) (blk m c 2 1) (blk m c 2 2) (blk m c 2 3) (blk m c 2 4) (blk m c 2 5) (blk m c 2 6) (blk m c 2 7)) (k0_pay18 (wblk m c 2)) (acc3 m c)

variable (s₁ : Buf (Elt F) ((c : Thread nD τ).loc cc0_stg0_0)) (s₂ : Buf (Elt F) ((c : Thread nD τ).loc cc0_stg1_0))

/-- The output at the end: the sum scaled and clamped at zero. -/
def outV : FVec F S128x2048 .f32 := k0_pay22 (scale c s₁ s₂) (acc4 m c)

end Value

/-! ## Regrouping -/

/-- A family over pairs, first component by first component. -/
theorem grid (n : ℕ) (t : Finset ℕ) (Φ : ℕ × ℕ → sProp 𝕄) :
    bigSep (Finset.range n ×ˢ t) Φ = bigSep (Finset.range n) fun i => bigSep t fun j => Φ (i, j) := by
  induction n with
  | zero => rfl
  | succ n ih =>
    have h : Finset.range (n + 1) ×ˢ t = t.image (Prod.mk n) ∪ Finset.range n ×ˢ t := by
      rw [Finset.range_add_one]
      ext ⟨i, j⟩
      simp only [Finset.mem_product, Finset.mem_insert, Finset.mem_union, Finset.mem_image, Prod.mk.injEq]
      exact ⟨fun ⟨a, b⟩ => a.elim (fun e => .inl ⟨j, b, e.symm, rfl⟩) (fun e => .inr ⟨e, b⟩),
        fun a => a.elim (fun ⟨_, h, e, e'⟩ => ⟨.inl e.symm, e' ▸ h⟩) (fun ⟨e, b⟩ => ⟨.inr e, b⟩)⟩
    rw [h, Finset.range_add_one, bigSep_insert Finset.notMem_range_self, ← ih,
      ← bigSep_image_of_injOn (f := Prod.mk n) (fun _ _ _ _ h => (Prod.mk.inj h).2) Φ]
    refine bigSep_union (Finset.disjoint_left.mpr fun p hp hq => ?_)
    obtain ⟨j, -, rfl⟩ := Finset.mem_image.mp hp
    exact Finset.notMem_range_self (Finset.mem_product.mp hq).1

/-- A family over the devices, taken as four groups of eight. -/
theorem four_groups (c : Dev nD) (Φ : ℕ → sProp 𝕄) :
    bigSep Finset.univ (fun j : Dev nD => Φ j.val)
      = iprop(bigSep (Finset.range 8) (fun i => Φ (member c 0 i)) ∗ bigSep (Finset.range 8) (fun i => Φ (member c 1 i))
          ∗ bigSep (Finset.range 8) (fun i => Φ (member c 2 i)) ∗ bigSep (Finset.range 8) (fun i => Φ (member c 3 i))) := by
  have h : bigSep Finset.univ (fun j : Dev nD => Φ j.val) = bigSep (Finset.range nD) Φ :=
    by rw [← Nat.Iio_eq_range, ← Fin.map_valEmbedding_univ, bigSep_map]; rfl
  rw [h, Finset.range_eq_Ico, ← members_image c, bigSep_image_of_injOn (members_inj c), grid]
  rw [show Finset.range 4 = {0, 1, 2, 3} from by decide, bigSep_insert (by decide), bigSep_insert (by decide), bigSep_insert (by decide), bigSep_singleton]
  rfl

/-! ## The chain -/

section Chain

variable (m : Mem0 F) (c : Dev nD) {α γ : Type} {Q : α → sProp (MT nD τ sig Unit (Elt F) ℕ UU ℕ)}

/-- One piece, then the rest of the program. -/
theorem chain {A B R : sProp 𝕄} {p : Prog (TpuEff nD τ sig (Elt F) Λ₀ .tc) γ} {k : γ → Prog (TpuEff nD τ sig (Elt F) Λ₀ .tc) α}
    (hp : ∀ Q' : γ → sProp (MT nD τ sig Unit (Elt F) ℕ UU ℕ), iprop(pers m ∗ A ∗ (∀ x, B -∗ Q' x)) ⊢ wpc c p Q')
    (hk : ∀ x, iprop(pers m ∗ B ∗ R) ⊢ wpc c (k x) Q) :
    iprop(pers m ∗ A ∗ R) ⊢ wpc c (p >>= k) Q := by
  rw [wpc_bind]
  iintro ⟨#HP, HA, HR⟩
  iapply (hp _)
  isplitr; · iexact HP
  isplitl [HA]; · iexact HA
  iintro %x HB
  iapply (hk x)
  isplitr; · iexact HP
  isplitl [HB]; · iexact HB
  iexact HR

/-- A program by its first piece. -/
theorem first (p : Prog (TpuEff nD τ sig (Elt F) Λ₀ .tc) γ) (k : γ → Prog (TpuEff nD τ sig (Elt F) Λ₀ .tc) α) :
    wpc c p (fun a => wpc c (k a) Q) ⊢ wpc c (p >>= k) Q := by
  rw [wpc_bind]

end Chain

section Body

variable (m : Mem0 F) (c : Dev nD)
  (s₁ : Buf (Elt F) ((c : Thread nD τ).loc cc0_stg0_0)) (s₂ : Buf (Elt F) ((c : Thread nD τ).loc cc0_stg1_0))

/-- What is not touched before the sends are all started. -/
def later : sProp 𝕄 :=
  iprop(chunkPts c (quarter c 2) (m (wLoc c)) ∗ dutyTok ER (dcell c 66) 1 0
    ∗ (atPos ER (dcell c 66) 0 ∅ 0 ∗ atPos ER (dcell c 67) 0 ∅ 0 ∗ atPos ER (dcell c 68) 0 ∅ 0)
    ∗ bigSep (Finset.Ico 0 31) (fun d => atPos ER (dcell c (3 + d)) 0 ∅ 0)
    ∗ (((c : Thread nD τ).loc cc0_stg0_0) ↦{fullShare} s₁) ∗ (((c : Thread nD τ).loc cc0_stg1_0) ↦{fullShare} s₂)
    ∗ (∃ f, oLoc c ↦{fullShare} f) ∗ wcAny c)

/-- What is used first when the barrier is waited for. -/
def gate : sProp 𝕄 :=
  iprop(atPos ER (dcell c 69) 0 ∅ 0 ∗ (∃ f, x8Loc c ↦{fullShare} f) ∗ slotAny c c.val ∗ dutyTok ER (dcell c (34 + c.val)) 0 0
    ∗ cred (tallyAt (bar c) () 31) ∗ atPos ER (bar c) 0 ∅ 0
    ∗ bigSep (Finset.Ico 0 31) (fun d => iprop(dutyTok ER (dcell c (3 + d)) 0 0 ∗ dutyTok ER (dcell (pr c (d + 1)) (34 + c.val)) 0 0))
    ∗ atPos ER (dcell c (34 + c.val)) 0 ∅ 0 ∗ bigSep (Finset.univ.erase c) (fun j : Dev nD => waitRes c (34 + j.val)))

/-- What the kernel starts from. -/
def start : sProp 𝕄 :=
  iprop(SigSt c 0 ∗ xcopyRes m c ∗ wcopyRes m c 0 0 ∗ wcopyRes m c 1 1 ∗ wcopyRes m c 2 3
    ∗ gate c
    ∗ later m c s₁ s₂)

/-- What is left alone during the sends. -/
def aside : sProp 𝕄 :=
  iprop(cred (tallyAt (dcell c 66) () (dmaAmt 66)) ∗ cred (tallyAt (dcell c 67) () (dmaAmt 67)) ∗ cred (tallyAt (dcell c 68) () (dmaAmt 68))
    ∗ (xPay m c ∗ semVal (dcell c 69) 0 ∗ semVal (bar c) 0) ∗ bigSep Finset.univ (fun j : Dev nD => waitRes c (34 + j.val)) ∗ later m c s₁ s₂)

/-- What the kernel leaves beside the sends it has waited for. -/
def rest : sProp 𝕄 :=
  iprop((xPay m c ∗ semVal (dcell c 69) 0 ∗ semVal (bar c) 0)
    ∗ ((((c : Thread nD τ).loc cc0_stg0_0) ↦{fullShare} s₁) ∗ (((c : Thread nD τ).loc cc0_stg1_0) ↦{fullShare} s₂)
      ∗ (oLoc c ↦{fullShare} outV m c s₁ s₂) ∗ wcAny c)
    ∗ (chunkPts c (quarter c 0) (m (wLoc c)) ∗ chunkPts c (quarter c 1) (m (wLoc c)) ∗ chunkPts c (quarter c 2) (m (wLoc c)) ∗ chunkPts c (quarter c 3) (m (wLoc c)))
    ∗ (wslotPts c 0 (WB m c (qr c 2)) ∗ wslotPts c 1 (WB m c (qr c 1)) ∗ wslotPts c 2 (WB m c (qr c 3)))
    ∗ (semVal (dcell c 66) 0 ∗ semVal (dcell c 67) 0 ∗ semVal (dcell c 68) 0)
    ∗ bigSep Finset.univ (fun j : Dev nD => iprop(dmaPay m c (34 + j.val) 0 ∗ semVal (dcell c (34 + j.val)) 0)))

/-- The waits for the gathered blocks, group by group. -/
theorem groups_start : bigSep Finset.univ (fun j : Dev nD => waitRes (F := F) c (34 + j.val))
    = iprop(Grp m c 0 0 ∗ Grp m c 1 0 ∗ Grp m c 2 0 ∗ Grp m c 3 0) := by
  have e : ∀ r, Grp m c r 0 = bigSep (Finset.range 8) (fun i => waitRes (F := F) c (34 + member c r i)) := fun r => by
    unfold Grp
    rw [Finset.range_zero, bigSep_empty, Finset.range_eq_Ico]
    exact BI.equiv_iff.mp BI.sep_emp
  rw [e, e, e, e]
  exact four_groups c (fun n => waitRes c (34 + n))

/-- The gathered blocks, once all groups are waited for. -/
theorem groups_end : bigSep Finset.univ (fun j : Dev nD => iprop(dmaPay m c (34 + j.val) 0 ∗ semVal (dcell c (34 + j.val)) 0))
    = iprop(Grp m c 0 8 ∗ Grp m c 1 8 ∗ Grp m c 2 8 ∗ Grp m c 3 8) := by
  have e : ∀ r, Grp m c r 8 = bigSep (Finset.range 8) (fun i => gotRes m c r i) := fun r => by
    unfold Grp
    rw [Finset.Ico_self, bigSep_empty]
    exact BI.equiv_iff.mp BI.emp_sep
  rw [e, e, e, e]
  exact four_groups c (fun n => iprop(dmaPay m c (34 + n) 0 ∗ semVal (dcell c (34 + n)) 0))

/-- What the sends start from. -/
theorem sends_start : iprop(ow c (OR c 0) ∗ bigSep (Finset.Ico 0 31) (fun d => rowPts c (pr c (d + 1)).val (X8 m c)) ∗ peerSlots c
      ∗ bigSep (Finset.Ico 0 31) (fun d => iprop(dutyTok ER (dcell c (3 + d)) 0 0 ∗ dutyTok ER (dcell (pr c (d + 1)) (34 + c.val)) 0 0)))
    ⊢ SendSt m c 0 := by
  have e : bigSep (Finset.Ico 0 31) (sendRes m c) = iprop(bigSep (Finset.Ico 0 31) (fun d => rowPts c (pr c (d + 1)).val (X8 m c)) ∗ peerSlots (F := F) c
      ∗ bigSep (Finset.Ico 0 31) (fun d => iprop(dutyTok ER (dcell c (3 + d)) 0 0 ∗ dutyTok ER (dcell (pr c (d + 1)) (34 + c.val)) 0 0))) :=
    (bigSep_sep _ _ _).trans (congrArg (BI.sep _) (bigSep_sep _ _ _))
  unfold SendSt
  rw [e, Finset.range_zero, bigSep_empty]
  iintro ⟨HO, HR, HS, HT⟩
  isplitl [HO]; · iexact HO
  isplitl [HR HS HT]
  · isplitl [HR]; · iexact HR
    isplitl [HS]; · iexact HS
    iexact HT
  iempintro

/-- Waiting for the sends starts where starting them ends. -/
theorem sent_start : iprop(SendSt m c 31 ∗ bigSep (Finset.Ico 0 31) (fun d => atPos ER (dcell c (3 + d)) 0 ∅ 0))
    ⊢ iprop(ow c 0 ∗ bigSep (Finset.Ico 0 31) (fun d => waitRes (F := F) c (3 + d))) := by
  have e : bigSep (Finset.Ico 0 31) (fun d => waitRes (F := F) c (3 + d))
      = iprop(bigSep (Finset.range 31) (sentRes (F := F) c) ∗ bigSep (Finset.Ico 0 31) (fun d => atPos ER (dcell c (3 + d)) 0 ∅ 0)) := by
    rw [Finset.range_eq_Ico]
    exact bigSep_sep _ _ _
  rw [e]
  unfold SendSt
  rw [OR_last]
  iintro ⟨⟨HO, -, HC⟩, HA⟩
  isplitl [HO]; · iexact HO
  isplitl [HC]; · iexact HC
  iexact HA

theorem grp_join (r k : ℕ) : iprop(ow c 0 ∗ Grp m c r k) = GrpSt m c r k := rfl

theorem waits_split : bigSep Finset.univ (fun j : Dev nD => waitRes (F := F) c (34 + j.val))
    = iprop(waitRes c (34 + c.val) ∗ bigSep (Finset.univ.erase c) (fun j : Dev nD => waitRes c (34 + j.val))) :=
  bigSep_erase (Finset.mem_univ c)

/-- After the last signal only the receives are owed. -/
theorem gate_ow : SigSt (F := F) c 31 ⊢ ow c (OR c 0) := by
  unfold SigSt
  rw [OB_last, zero_add]
  iintro ⟨HO, -⟩; iexact HO

theorem sent_join : iprop(ow c 0 ∗ bigSep (Finset.Ico 0 31) (fun d => waitRes (F := F) c (3 + d))) = SentSt m c 0 := by
  unfold SentSt
  rw [Finset.range_zero, bigSep_empty]
  exact congrArg (BI.sep (ow c 0)) (BI.equiv_iff.mp BI.sep_emp).symm

/-- The pieces up to the last wait. -/
theorem part57 {Q : Dev nD → sProp 𝕄} :
    iprop(pers m ∗ start m c s₁ s₂ ∗ (SentSt m c 30 -∗ rest m c s₁ s₂ -∗ Q c)) ⊢ wpc c (atArgs (k0_part57 (F := F))) Q := by
  rw [k0_part57_eq_skeleton]; unfold k0_part57_skel start
  iintro ⟨#HP, ⟨HS, HX, HW0, HW1, HW2, HG, HL⟩, Hk⟩
  iapply (first c _ _); iapply (part1 m c)
  isplitr; · iexact HP
  isplitl [HS]; · iexact HS
  iintro %v2 %v19 %v34 %a1 %a2 HS
  iapply (chain m c (R := iprop(xcopyRes m c ∗ wcopyRes m c 0 0 ∗ wcopyRes m c 1 1 ∗ wcopyRes m c 2 3 ∗ gate c ∗ later m c s₁ s₂ ∗ (SentSt m c 30 -∗ rest m c s₁ s₂ -∗ Q c))) (fun _ => part2 m c _ _ _ _) ?sig)
  case sig =>
    rintro ⟨_, _, _⟩
    refine chain m c (fun _ => part3 m c _ _ _ _) ?_; rintro ⟨_, _, _⟩
    refine chain m c (fun _ => part4 m c _ _ _ _) ?_; rintro ⟨_, _, _⟩
    refine chain m c (fun _ => part5 m c _ _ _ _) ?_; rintro ⟨_, _, _⟩
    refine chain m c (fun _ => part6 m c _ _ _ _) ?_; rintro ⟨_, _, _⟩
    refine chain m c (fun _ => part7 m c _ _ _ _) ?_; rintro ⟨_, _, _⟩
    refine chain m c (fun _ => part8 m c _ _ _ _) ?_; rintro ⟨_, _, _⟩
    refine chain m c (fun _ => part9 m c _ _ _ _) ?_; rintro ⟨_, _, _⟩
    refine chain m c (fun _ => part10 m c _ _ _ _) ?_; rintro ⟨_, _, _⟩
    refine chain m c (fun _ => part11 m c _ _ _ _) ?_; rintro ⟨_, _, _⟩
    refine chain m c (fun _ => part12 m c _ _ _ _) ?_; rintro ⟨_, _, _⟩
    iintro ⟨#HP, HS, HX, HW0, HW1, HW2, HG, HL, Hk⟩
    iapply (first c _ _); iapply (part13 m c _ _ _ _ _)
    isplitr; · iexact HP
    isplitl [HS]; · iexact HS
    isplitl [HX]; · iexact HX
    iintro %x HS Hc69
    iapply (first c _ _); iapply (part14 m c _ _ _ _)
    isplitr; · iexact HP
    isplitl [HW0]; · iexact HW0
    isplitl [HW1]; · iexact HW1
    iintro %x Hc66 Hc67
    unfold gate
    icases HG with ⟨Ha69, H8, Hsl, Ht, Hb, Hab, Htk, Har, Hrw⟩
    ihave HO := (gate_ow c) $$ HS
    iapply (first c _ _); iapply (part15 m c _ _)
    isplitr; · iexact HP
    isplitl [HW2 Hc69 Ha69 HO H8 Hsl Ht Hb Hab]
    · unfold gateIn waitRes
      isplitl [HW2]; · iexact HW2
      isplitl [Hc69 Ha69]
      · isplitl [Hc69]; · iexact Hc69
        iexact Ha69
      isplitl [HO]; · iexact HO
      isplitl [H8]; · iexact H8
      isplitl [Hsl]; · iexact Hsl
      isplitl [Ht]; · iexact Ht
      isplitl [Hb]; · iexact Hb
      iexact Hab
    iintro %x HG
    unfold gateOut
    icases HG with ⟨Hc68, Hx, Hz69, HO, Hrows, Hcr, Hpeer, Hzb⟩
    iapply (chain m c (R := iprop(aside m c s₁ s₂ ∗ (SentSt m c 30 -∗ rest m c s₁ s₂ -∗ Q c))) (fun _ => part16 m c _ _ _ _ _) ?sends)
    case sends =>
      rintro _
      refine chain m c (fun _ => part17 m c _) ?_; rintro _
      refine chain m c (fun _ => part18 m c _ _) ?_; rintro ⟨_, _, _, _⟩
      refine chain m c (fun _ => part19 m c _ _ _ _ _) ?_; rintro _
      refine chain m c (fun _ => part20 m c _) ?_; rintro _
      refine chain m c (fun _ => part21 m c _ _) ?_; rintro ⟨_, _, _, _⟩
      refine chain m c (fun _ => part22 m c _ _ _ _ _) ?_; rintro _
      refine chain m c (fun _ => part23 m c _) ?_; rintro _
      refine chain m c (fun _ => part24 m c _ _) ?_; rintro ⟨_, _, _, _⟩
      refine chain m c (fun _ => part25 m c _ _ _ _ _) ?_; rintro _
      refine chain m c (fun _ => part26 m c _) ?_; rintro _
      refine chain m c (fun _ => part27 m c _ _) ?_; rintro ⟨_, _, _, _⟩
      refine chain m c (fun _ => part28 m c _ _ _ _ _) ?_; rintro _
      refine chain m c (fun _ => part29 m c _) ?_; rintro _
      refine chain m c (fun _ => part30 m c _ _) ?_; rintro ⟨_, _, _, _⟩
      refine chain m c (fun _ => part31 m c _ _ _ _ _) ?_; rintro _
      refine chain m c (fun _ => part32 m c _) ?_; rintro _
      refine chain m c (fun _ => part33 m c _ _) ?_; rintro ⟨_, _, _, _⟩
      iintro ⟨#HP, HS, HR, Hk⟩
      unfold aside later
      icases HR with ⟨Hc66, Hc67, Hc68, HX, HG, Hch2, Ht66, ⟨Ha66, Ha67, Ha68⟩, Has, H1, H2, ⟨%f, Ho⟩, Hwc⟩
      iapply (first c _ _); iapply (part34 m c _ _ _ _ _ s₁ s₂)
      isplitr; · iexact HP
      isplitl [HS]; · iexact HS
      isplitl [H1]; · iexact H1
      isplitl [H2]; · iexact H2
      iintro %x HS H1 H2
      ihave HS := (sent_start m c) $$ [HS Has]
      · isplitl [HS]; · iexact HS
        iexact Has
      icases HS with ⟨HO, Hsw⟩
      ihave HG := (Entails.of_eq (groups_start m c)) $$ HG
      icases HG with ⟨HG0, HG1, HG2, HG3⟩
      iapply (first c _ _); iapply (part35 m c _ _)
      isplitr; · iexact HP
      isplitl [Hc66 Ha66 Ht66 Hwc HO Hch2]
      · isplitl [Hc66 Ha66]
        · unfold waitRes
          isplitl [Hc66]; · iexact Hc66
          iexact Ha66
        isplitl [Ht66]; · iexact Ht66
        isplitl [Hwc]; · iexact Hwc
        isplitl [HO]; · iexact HO
        iexact Hch2
      iintro %x HO Hch0 Ha66 Hc66 Hwc
      ihave HG0 := (Entails.of_eq (grp_join m c 0 0)) $$ [HO HG0]
      · isplitl [HO]; · iexact HO
        iexact HG0
      iapply (first c _ _); iapply (part36 m c _)
      isplitr; · iexact HP
      isplitl [HG0]; · iexact HG0
      iintro %x HG0
      iapply (first c _ _); iapply (part37 m c _ _)
      isplitr; · iexact HP
      isplitl [HG0]; · iexact HG0
      iintro %x HG0
      iapply (first c _ _); iapply (part38 m c _ _ _ _ _)
      isplitr; · iexact HP
      isplitl [HG0]; · iexact HG0
      isplitl [Hwc]; · iexact Hwc
      iintro HG0 Hwc
      ihave HG0 := (Entails.of_eq (grp_join m c 0 8).symm) $$ HG0
      icases HG0 with ⟨HO, HG0⟩
      ihave Hwc := (wcHas_any c _ _) $$ Hwc
      ihave HG1 := (Entails.of_eq (grp_join m c 1 0)) $$ [HO HG1]
      · isplitl [HO]; · iexact HO
        iexact HG1
      iapply (first c _ _); iapply (part39 m c _ _ _)
      isplitr; · iexact HP
      isplitl [HG1]; · iexact HG1
      isplitl [Ho]; · iexact Ho
      isplitl [Hc67 Ha67]
      · unfold waitRes
        isplitl [Hc67]; · iexact Hc67
        iexact Ha67
      isplitl [Hwc]; · iexact Hwc
      iintro %x HG1 Ho Hs1 Hch1 Hz67 Hwc
      iapply (first c _ _); iapply (part40 m c _)
      isplitr; · iexact HP
      isplitl [HG1]; · iexact HG1
      iintro %x HG1
      iapply (first c _ _); iapply (part41 m c _)
      isplitr; · iexact HP
      isplitl [HG1]; · iexact HG1
      iintro %x HG1
      iapply (first c _ _); iapply (part42 m c _ _ _ _ _)
      isplitr; · iexact HP
      isplitl [HG1]; · iexact HG1
      isplitl [Hwc]; · iexact Hwc
      iintro HG1 Hwc
      ihave HG1 := (Entails.of_eq (grp_join m c 1 8).symm) $$ HG1
      icases HG1 with ⟨HO, HG1⟩
      ihave Hwc := (wcHas_any c _ _) $$ Hwc
      iapply (first c _ _); iapply (part43 m c _ _ _)
      isplitr; · iexact HP
      isplitl [HO]; · iexact HO
      isplitl [Ho]; · iexact Ho
      isplitl [Hc68 Ha68]
      · unfold waitRes
        isplitl [Hc68]; · iexact Hc68
        iexact Ha68
      isplitl [Hwc]; · iexact Hwc
      iintro %x HO Ho Hs2 Hch3 Hz68 Hwc
      ihave HG3 := (Entails.of_eq (grp_join m c 3 0)) $$ [HO HG3]
      · isplitl [HO]; · iexact HO
        iexact HG3
      iapply (first c _ _); iapply (part44 m c _)
      isplitr; · iexact HP
      isplitl [HG3]; · iexact HG3
      iintro %x HG3
      iapply (first c _ _); iapply (part45 m c _ _)
      isplitr; · iexact HP
      isplitl [HG3]; · iexact HG3
      iintro %x HG3
      iapply (first c _ _); iapply (part46 m c _ _ _ _ _)
      isplitr; · iexact HP
      isplitl [HG3]; · iexact HG3
      isplitl [Hwc]; · iexact Hwc
      iintro HG3 Hwc
      ihave HG3 := (Entails.of_eq (grp_join m c 3 8).symm) $$ HG3
      icases HG3 with ⟨HO, HG3⟩
      ihave Hwc := (wcHas_any c _ _) $$ Hwc
      iapply (first c _ _); iapply (part47 m c _ _ _ _ _)
      isplitr; · iexact HP
      isplitl [HO]; · iexact HO
      isplitl [Ho]; · iexact Ho
      isplitl [Hc66 Ha66]
      · isplitl [Hc66]; · iexact Hc66
        iexact Ha66
      isplitl [Hwc]; · iexact Hwc
      iintro %x HO Ho Hs0 Hch2 Hz66 Hwc
      ihave HG2 := (Entails.of_eq (grp_join m c 2 0)) $$ [HO HG2]
      · isplitl [HO]; · iexact HO
        iexact HG2
      iapply (first c _ _); iapply (part48 m c _)
      isplitr; · iexact HP
      isplitl [HG2]; · iexact HG2
      iintro %x HG2
      iapply (first c _ _); iapply (part49 m c _)
      isplitr; · iexact HP
      isplitl [HG2]; · iexact HG2
      iintro HG2
      iapply (first c _ _); iapply (part50 m c _ _)
      isplitr; · iexact HP
      isplitl [HG2]; · iexact HG2
      iintro HG2
      ihave HG2 := (Entails.of_eq (grp_join m c 2 8).symm) $$ HG2
      icases HG2 with ⟨HO, HG2⟩
      ihave HS := (Entails.of_eq (sent_join m c)) $$ [HO Hsw]
      · isplitl [HO]; · iexact HO
        iexact Hsw
      iapply (first c _ _); iapply (part51 m c _ _ _ _)
      isplitr; · iexact HP
      isplitl [HS]; · iexact HS
      isplitl [Hwc]; · iexact Hwc
      isplitl [Ho]; · iexact Ho
      iintro %x HS Hwc Ho
      iapply (first c _ _); iapply (part52 m c)
      isplitr; · iexact HP
      isplitl [HS]; · iexact HS
      iintro %x HS
      iapply (first c _ _); iapply (part53 m c)
      isplitr; · iexact HP
      isplitl [HS]; · iexact HS
      iintro %x HS
      iapply (first c _ _); iapply (part54 m c)
      isplitr; · iexact HP
      isplitl [HS]; · iexact HS
      iintro %x HS
      iapply (first c _ _); iapply (part55 m c)
      isplitr; · iexact HP
      isplitl [HS]; · iexact HS
      iintro %x HS
      iapply (first c _ _); iapply (part56 m c)
      isplitr; · iexact HP
      isplitl [HS]; · iexact HS
      iintro %x HS
      irw [Prog.pure_eq_ret]
      iapply wpc_ret
      iapply Hk $$ HS
      unfold rest
      isplitl [HX]; · iexact HX
      isplitl [H1 H2 Ho Hwc]
      · isplitl [H1]; · iexact H1
        isplitl [H2]; · iexact H2
        isplitl [Ho]; · unfold outV acc4 acc3 acc2 acc1; iexact Ho
        iapply (wcHas_any c _ _) $$ Hwc
      isplitl [Hch0 Hch1 Hch2 Hch3]
      · isplitl [Hch0]; · iexact Hch0
        isplitl [Hch1]; · iexact Hch1
        isplitl [Hch2]; · iexact Hch2
        iexact Hch3
      isplitl [Hs0 Hs1 Hs2]
      · isplitl [Hs0]; · iexact Hs0
        isplitl [Hs1]; · iexact Hs1
        iexact Hs2
      isplitl [Hz66 Hz67 Hz68]
      · isplitl [Hz66]; · iexact Hz66
        isplitl [Hz67]; · iexact Hz67
        iexact Hz68
      irw [groups_end]
      isplitl [HG0]; · iexact HG0
      isplitl [HG1]; · iexact HG1
      isplitl [HG2]; · iexact HG2
      iexact HG3
    isplitr; · iexact HP
    isplitl [HO Hrows Hpeer Htk]
    · iapply (sends_start m c)
      isplitl [HO]; · iexact HO
      isplitl [Hrows]; · iexact Hrows
      isplitl [Hpeer]; · iexact Hpeer
      iexact Htk
    isplitr [Hk]
    · unfold aside
      isplitl [Hc66]; · iexact Hc66
      isplitl [Hc67]; · iexact Hc67
      isplitl [Hc68]; · iexact Hc68
      isplitl [Hx Hz69 Hzb]
      · isplitl [Hx]; · iexact Hx
        isplitl [Hz69]; · iexact Hz69
        iexact Hzb
      isplitr [HL]
      · irw [waits_split]
        isplitl [Hcr Har]
        · unfold waitRes
          rw [dmaAmt_recv c.isLt]
          isplitl [Hcr]; · iexact Hcr
          iexact Har
        iexact Hrw
      iexact HL
    iexact Hk
  isplitr; · iexact HP
  isplitl [HS]; · iexact HS
  isplitl [HX]; · iexact HX
  isplitl [HW0]; · iexact HW0
  isplitl [HW1]; · iexact HW1
  isplitl [HW2]; · iexact HW2
  isplitl [HG]; · iexact HG
  isplitl [HL]; · iexact HL
  iexact Hk

/-- The whole kernel. -/
theorem sound {Q : PUnit → sProp 𝕄} :
    iprop(pers m ∗ start m c s₁ s₂ ∗ (SentSt m c 31 -∗ rest m c s₁ s₂ -∗ Q ⟨⟩)) ⊢ wpc c (atArgs (cc0_body (F := F))) Q := by
  rw [cc0_body_eq_skeleton]; unfold cc0_body_skel
  iintro ⟨#HP, Hs, Hk⟩
  iapply (first c _ _); iapply (part57 m c s₁ s₂)
  isplitr; · iexact HP
  isplitl [Hs]; · iexact Hs
  iintro HS HR
  iapply (sent_then m c 30 (R := iprop(SentSt m c 31 -∗ Q ⟨⟩)) (by decide) rfl ?last)
  case last =>
    iintro ⟨-, HS, Hk⟩
    irw [Prog.pure_eq_ret]
    iapply wpc_ret
    iapply Hk; iexact HS
  isplitr; · iexact HP
  isplitl [HS]; · iexact HS
  iintro HS
  iapply Hk $$ HS HR

end Body

end Cert.AllToAll

end
-- ==== Proof.Launch.lean ====
/-
# The launch

The semaphores' ghost state at launch: every cell of the protocol is opened at round 0 with the tokens of its duties, and the tokens are
dealt to the devices that will pay them. What the devices owe one another at launch is matched by the credit
each device is given on its own barrier and receive semaphores.
-/
module

public import proofs.«01_k».proof.Proof.Body

@[expose] public section

noncomputable section

namespace Cert.AllToAll

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells and the tokens -/

/-- A device's cells: its barrier semaphore, and its 67 transfer semaphores. -/
def kcell (p : Dev nD × (Unit ⊕ Fin 67)) : GSem nD τ sig := match p.2 with
  | .inl _ => bar p.1
  | .inr k => dcell p.1 (3 + k.val)

theorem dcell_inj {c c' : Dev nD} {n n' : ℕ} (h : n < 70) (h' : n' < 70) (he : dcell c n = dcell c' n') : c = c' ∧ n = n' := by
  refine ⟨congrArg (fun g : GSem nD τ sig => g.1.1) he, ?_⟩
  have h2 : (SemLoc.dma (dq n) : SemLoc sig) = .dma (dq n') := congrArg Prod.snd he
  have h3 : dq n = dq n' := by injection h2
  have h4 := congrArg Fin.val h3
  rwa [dq_val h, dq_val h'] at h4
theorem bar_ne_dcell (c c' : Dev nD) (n : ℕ) : bar c ≠ dcell c' n := fun h => by
  have h2 : (SemLoc.reg barS : SemLoc sig) = .dma (dq n) := congrArg Prod.snd h
  cases h2
theorem bar_inj {c c' : Dev nD} (h : bar c = bar c') : c = c' := congrArg (fun g : GSem nD τ sig => g.1.1) h

theorem kcell_injective : Function.Injective kcell := by
  rintro ⟨c, a | k⟩ ⟨c', a' | k'⟩ h
  · have h1 : c = c' := bar_inj h
    rw [h1]
  · exact absurd h (bar_ne_dcell _ _ _)
  · exact absurd h.symm (bar_ne_dcell _ _ _)
  · have hk := k.isLt
    have hk' := k'.isLt
    obtain ⟨h1, h2⟩ := dcell_inj (c := c) (c' := c') (n := 3 + k.val) (n' := 3 + k'.val) (by omega) (by omega) h
    have h3 : k = k' := Fin.ext (by omega)
    rw [h1, h3]

def kCells : Finset (GSem nD τ sig) := Finset.univ.map ⟨kcell, kcell_injective⟩

/-- The tokens: one per device on the barrier, one per transfer semaphore, and a second round's on `w` semaphore 0. -/
def tokOf (p : Dev nD × (Dev nD ⊕ (Fin 67 ⊕ Unit))) : GSem nD τ sig × ℕ × Dev nD := match p.2 with
  | .inl d => (bar p.1, 0, d)
  | .inr (.inl k) => (dcell p.1 (3 + k.val), 0, 0)
  | .inr (.inr _) => (dcell p.1 66, 1, 0)

theorem tokOf_injective : Function.Injective tokOf := by
  rintro ⟨c, d | k | u⟩ ⟨c', d' | k' | u'⟩ h
  · have h1 : bar c = bar c' := congrArg Prod.fst h
    have h2 : d = d' := congrArg (fun x : GSem nD τ sig × ℕ × Dev nD => x.2.2) h
    rw [bar_inj h1, h2]
  · exact absurd (congrArg Prod.fst h) (bar_ne_dcell _ _ _)
  · exact absurd (congrArg Prod.fst h) (bar_ne_dcell _ _ _)
  · exact absurd (congrArg Prod.fst h).symm (bar_ne_dcell _ _ _)
  · have h1 : dcell c (3 + k.val) = dcell c' (3 + k'.val) := congrArg Prod.fst h
    have hk := k.isLt
    have hk' := k'.isLt
    obtain ⟨h2, h3⟩ := dcell_inj (by omega) (by omega) h1
    have h4 : k = k' := Fin.ext (by omega)
    rw [h2, h4]
  · exact absurd (congrArg (fun x : GSem nD τ sig × ℕ × Dev nD => x.2.1) h) (by show ¬(0 : ℕ) = 1; decide)
  · exact absurd (congrArg Prod.fst h).symm (bar_ne_dcell _ _ _)
  · exact absurd (congrArg (fun x : GSem nD τ sig × ℕ × Dev nD => x.2.1) h) (by show ¬(1 : ℕ) = 0; decide)
  · have h1 : dcell c 66 = dcell c' 66 := congrArg Prod.fst h
    rw [(dcell_inj (by decide) (by decide) h1).1]

def kToks : Finset (GSem nD τ sig × ℕ × Dev nD) := Finset.univ.map ⟨tokOf, tokOf_injective⟩

/-- The ghost state of the launch: the staging pipeline's, and the protocol's. -/
def u₀ : UU := (Rounds.initOf (Pipeline.cells cfgs cellOf_inj) (Pipeline.launchToks cfgs cellOf_inj), Rounds.initOf kCells kToks)

/-! ## By device -/

omit [FloatOps F] in
theorem over_unit (Φ : Unit → sProp 𝕄) : bigSep Finset.univ Φ = Φ () := by
  rw [show (Finset.univ : Finset Unit) = {()} from rfl, bigSep_singleton]
omit [FloatOps F] in
theorem over_sum {A B : Type} [Fintype A] [Fintype B] (Φ : A ⊕ B → sProp 𝕄) :
    bigSep Finset.univ Φ = iprop(bigSep Finset.univ (fun a => Φ (.inl a)) ∗ bigSep Finset.univ (fun b => Φ (.inr b))) := bigSep_univ_sum Φ
omit [FloatOps F] in
theorem over_sep {I : Type} (s : Finset I) (Φ Ψ : I → sProp 𝕄) :
    bigSep s (fun i => iprop(Φ i ∗ Ψ i)) = iprop(bigSep s Φ ∗ bigSep s Ψ) := bigSep_sep s Φ Ψ

omit [FloatOps F] in
theorem over_sep4 {I : Type} (s : Finset I) (A B C D : I → sProp 𝕄) :
    bigSep s (fun i => iprop(A i ∗ B i ∗ C i ∗ D i)) = iprop(bigSep s A ∗ bigSep s B ∗ bigSep s C ∗ bigSep s D) := by
  rw [over_sep s A, over_sep s B, over_sep s C]

omit [FloatOps F] in
theorem over_cells (Φ : GSem nD τ sig → sProp 𝕄) :
    bigSep kCells Φ = bigSep Finset.univ fun c : Dev nD => iprop(Φ (bar c) ∗ bigSep Finset.univ fun k : Fin 67 => Φ (dcell c (3 + k.val))) := by
  unfold kCells
  rw [bigSep_map, bigSep_univ_prod]
  refine bigSep_congr fun c _ => ?_
  rw [over_sum, over_unit]
  rfl

/-- The tokens of device `c`'s own cells. -/
def toks (c : Dev nD) : sProp 𝕄 :=
  iprop((bigSep Finset.univ fun d : Dev nD => dutyTok ER (bar c) 0 d)
    ∗ (bigSep Finset.univ fun k : Fin 67 => dutyTok ER (dcell c (3 + k.val)) 0 0) ∗ dutyTok ER (dcell c 66) 1 0)

omit [FloatOps F] in
theorem over_toks : bigSep kToks (fun x => (dutyTok ER x.1 x.2.1 x.2.2 : sProp 𝕄)) = bigSep Finset.univ fun c : Dev nD => toks (F := F) c := by
  unfold kToks
  rw [bigSep_map, bigSep_univ_prod]
  refine bigSep_congr fun c _ => ?_
  rw [over_sum, over_sum, over_unit]
  rfl

/-- The 67 transfer semaphores, by kind: 31 send, 32 receive, three for `w` and the one for `x`. -/
theorem by_kind (Φ : ℕ → sProp 𝕄) : bigSep Finset.univ (fun k : Fin 67 => Φ (3 + k.val))
    = iprop(bigSep (Finset.Ico 0 31) (fun d => Φ (3 + d)) ∗ bigSep Finset.univ (fun j : Dev nD => Φ (34 + j.val)) ∗ Φ 66 ∗ Φ 67 ∗ Φ 68 ∗ Φ 69) := by
  have h1 : bigSep Finset.univ (fun k : Fin 67 => Φ (3 + k.val)) = bigSep (Finset.range 67) (fun k => Φ (3 + k)) := by
    rw [← Nat.Iio_eq_range, ← Fin.map_valEmbedding_univ, bigSep_map]; rfl
  have h2 : bigSep Finset.univ (fun j : Dev nD => Φ (34 + j.val)) = bigSep (Finset.univ.map ⟨fun j : Dev nD => 31 + j.val, fun a b h => Fin.ext (Nat.add_left_cancel h)⟩) (fun k => Φ (3 + k)) := by
    rw [bigSep_map]; exact bigSep_congr fun j _ => congrArg Φ (by show 34 + j.val = 3 + (31 + j.val); omega)
  have h3 : bigSep ({63, 64, 65, 66} : Finset ℕ) (fun k => Φ (3 + k)) = iprop(Φ 66 ∗ Φ 67 ∗ Φ 68 ∗ Φ 69) := by
    rw [bigSep_insert (by decide), bigSep_insert (by decide), bigSep_insert (by decide), bigSep_singleton]
    rfl
  have hs : Finset.range 67 = Finset.Ico 0 31 ∪ (Finset.univ.map ⟨fun j : Dev nD => 31 + j.val, fun a b h => Fin.ext (Nat.add_left_cancel h)⟩ ∪ {63, 64, 65, 66}) := by decide +kernel
  rw [h1, h2, ← h3, hs, bigSep_union (by decide +kernel), bigSep_union (by decide +kernel)]
  rfl

section Launch

variable (m : Mem0 F)

/-- What the launch gives device `c` for its own cells. -/
def G (c : Dev nD) : sProp 𝕄 :=
  iprop((roundState ER (sched m) (bar c) 0 ∗ bigSep Finset.univ fun k : Fin 67 => roundState ER (sched m) (dcell c (3 + k.val)) 0)
    ∗ (reached ER (bar c) 0 ∗ bigSep Finset.univ fun k : Fin 67 => reached ER (dcell c (3 + k.val)) 0)
    ∗ (atPos ER (bar c) 0 ∅ 0 ∗ bigSep Finset.univ fun k : Fin 67 => atPos ER (dcell c (3 + k.val)) 0 ∅ 0) ∗ toks c)

theorem G_all : bigSep Finset.univ (G m)
    = iprop((bigSep Finset.univ fun c : Dev nD => iprop(roundState ER (sched m) (bar c) 0 ∗ bigSep Finset.univ fun k : Fin 67 => roundState ER (sched m) (dcell c (3 + k.val)) 0))
      ∗ (bigSep Finset.univ fun c : Dev nD => iprop(reached ER (bar c) 0 ∗ bigSep Finset.univ fun k : Fin 67 => reached ER (dcell c (3 + k.val)) 0))
      ∗ (bigSep Finset.univ fun c : Dev nD => iprop(atPos ER (bar c) 0 ∅ 0 ∗ bigSep Finset.univ fun k : Fin 67 => atPos ER (dcell c (3 + k.val)) 0 ∅ 0))
      ∗ bigSep Finset.univ fun c : Dev nD => toks c) :=
  over_sep4 _ _ _ _ _

theorem fund_ring : BI.own (ER (Rounds.initOf kCells kToks)) ⊢ (|==> bigSep Finset.univ (G m) : sProp 𝕄) := by
  iintro HX
  imod (Rounds.fund ER (sched m) kCells kToks) $$ HX with ⟨Hst, Hr, Hat, Htok⟩
  imodintro
  ihave Hst' := (Entails.of_eq (over_cells fun g => roundState ER (sched m) g 0)) $$ Hst
  ihave Hr' := (Entails.of_eq (over_cells fun g => reached ER g 0)) $$ Hr
  ihave Hat' := (Entails.of_eq (over_cells fun g => atPos ER g 0 ∅ 0)) $$ Hat
  ihave Htok' := (Entails.of_eq (over_toks (F := F))) $$ Htok
  iapply (Entails.of_eq (G_all m).symm)
  isplitl [Hst']; · iexact Hst'
  isplitl [Hr']; · iexact Hr'
  isplitl [Hat']; · iexact Hat'
  iexact Htok'

/-! ## The cells' invariants -/

/-- The kernel's own semaphores, in the generated order. -/
abbrev osem : Fin 67 → SemLoc sig := fun k => .dma (dq (3 + k.val))

theorem ownSemFacts : Pipeline.OwnSemFacts cfg0.spec osem := by decide +kernel

/-- They are the transfer semaphores; -/
theorem ownSems0_eq (c : Dev nD) : (Pipeline.ownSems0 (Ix := Unit) (Name := ℕ) (U := UU) (Lvl := ℕ) (Val := Elt F) (τ := τ) osem c : sProp 𝕄)
    = bigSep Finset.univ (fun k : Fin 67 => semVal (dcell c (3 + k.val)) 0) := rfl
/-- the barrier semaphore is the one that outlives the kernel. -/
theorem unscopedSems0_eq (c : Dev nD) : (unscopedSems0 c : sProp 𝕄) = semVal (bar c) 0 := by
  unfold unscopedSems0; rw [bigSep_eq_bigSepL_of_eq [SemLoc.reg barS] (by decide) (by decide)]; rfl

theorem open_cell (g : GSem nD τ sig) : iprop(semVal g 0 ∗ roundState ER (sched m) g 0) ⊢ (|={Set.univ}=> iprop(∃ κ : ℕ, cellInv ER (sched m) κ g) : sProp 𝕄) :=
  (Rounds.body_intro ER (sched m) g).trans inv_alloc

/-- The invariant and the reached round of a device's barrier and transfer cells. -/
def ownRecs (c : Dev nD) : sProp 𝕄 := iprop(rcd m (bar c) ∗ bigSep Finset.univ (fun k : Fin 67 => rcd m (dcell c (3 + k.val))))
/-- A device's positions on its own cells. -/
def ats (c : Dev nD) : sProp 𝕄 := iprop(atPos ER (bar c) 0 ∅ 0 ∗ bigSep Finset.univ fun k : Fin 67 => atPos ER (dcell c (3 + k.val)) 0 ∅ 0)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop(ownRecs m c ∗ ats c ∗ toks c) := by
  rw [ownSems0_eq, unscopedSems0_eq]
  unfold G ats
  iintro ⟨HD, HB, ⟨HsB, HsD⟩, ⟨HrB, HrD⟩, Hat, Htok⟩
  imod (open_cell m (bar c)) $$ [HB HsB] with HiB
  · isplitl [HB] <;> iassumption
  imod (show iprop((bigSep Finset.univ fun k : Fin 67 => semVal (dcell c (3 + k.val)) 0) ∗ bigSep Finset.univ fun k : Fin 67 => roundState ER (sched m) (dcell c (3 + k.val)) 0)
      ⊢ (|={Set.univ}=> bigSep Finset.univ fun k : Fin 67 => iprop(∃ κ : ℕ, cellInv ER (sched m) κ (dcell c (3 + k.val))) : sProp 𝕄) from by
        rw [← over_sep]
        exact (bigSep_mono fun k _ => open_cell m (dcell c (3 + k.val))).trans (bigSep_fupd _ _)) $$ [HD HsD] with HiD
  · isplitl [HD] <;> iassumption
  imodintro
  isplitl [HiB HrB HiD HrD]
  · unfold ownRecs rcd
    isplitl [HiB HrB]
    · isplitl [HiB] <;> iassumption
    · iapply (Entails.of_eq (over_sep Finset.univ (fun k : Fin 67 => iprop(∃ κ : ℕ, cellInv ER (sched m) κ (dcell c (3 + k.val)))) (fun k : Fin 67 => reached ER (dcell c (3 + k.val)) 0)).symm)
      isplitl [HiD] <;> iassumption
  isplitl [Hat]; · iexact Hat
  iexact Htok

theorem recs_eq : recs m = bigSep Finset.univ (ownRecs m) := by
  unfold recs ownRecs
  rw [over_sep, bigSep_univ_prod]

/-! ## Dealing the tokens -/

/-- The tokens of the duties device `c` pays. -/
def payToks (c : Dev nD) : sProp 𝕄 :=
  iprop((bigSep (Finset.Ico 0 31) fun d => dutyTok ER (bar (pr c (d + 1))) 0 c)
    ∗ (bigSep (Finset.Ico 0 31) fun d => dutyTok ER (dcell (pr c (d + 1)) (34 + c.val)) 0 0)
    ∗ dutyTok ER (dcell c (34 + c.val)) 0 0
    ∗ (bigSep (Finset.Ico 0 31) fun d => dutyTok ER (dcell c (3 + d)) 0 0)
    ∗ dutyTok ER (dcell c 66) 0 0 ∗ dutyTok ER (dcell c 67) 0 0 ∗ dutyTok ER (dcell c 68) 0 0 ∗ dutyTok ER (dcell c 69) 0 0
    ∗ dutyTok ER (dcell c 66) 1 0)

/-- A family over ordered pairs of devices, turned round: each device gets what the others hold for it, and what it holds for itself. -/
theorem turn (Φ : Dev nD → Dev nD → sProp 𝕄) :
    (bigSep Finset.univ fun c : Dev nD => bigSep Finset.univ fun d : Dev nD => Φ c d)
      = bigSep Finset.univ fun c : Dev nD => iprop(Φ c c ∗ bigSep (Finset.Ico 0 31) fun d => Φ (pr c (d + 1)) c) := by
  rw [bigSep_univ_comm]
  refine bigSep_congr fun c _ => ?_
  rw [bigSep_erase (Finset.mem_univ c)]
  exact congrArg (BI.sep (Φ c c)) (erase_peers c (fun d => Φ d c))

theorem toks_kinds (A B C D E H I J : sProp 𝕄) : iprop(A ∗ (B ∗ C ∗ D ∗ E ∗ H ∗ I) ∗ J) ⊢ iprop(A ∗ C ∗ (B ∗ D ∗ E ∗ H ∗ I ∗ J)) := by
  iintro ⟨HA, ⟨HB, HC, HD, HE, HH, HI⟩, HJ⟩
  isplitl [HA]; · iexact HA
  isplitl [HC]; · iexact HC
  isplitl [HB]; · iexact HB
  isplitl [HD]; · iexact HD
  isplitl [HE]; · iexact HE
  isplitl [HH]; · iexact HH
  isplitl [HI] <;> iassumption

theorem toks_deal (A B C D E : sProp 𝕄) : iprop((A ∗ B) ∗ (C ∗ D) ∗ E) ⊢ iprop(B ∗ D ∗ C ∗ E) := by
  iintro ⟨⟨-, HB⟩, ⟨HC, HD⟩, HE⟩
  isplitl [HB]; · iexact HB
  isplitl [HD]; · iexact HD
  isplitl [HC] <;> iassumption

theorem toks_around : (bigSep Finset.univ fun c : Dev nD => toks (F := F) c) ⊢ bigSep Finset.univ fun c : Dev nD => payToks c := by
  refine (bigSep_mono fun c _ => (Entails.of_eq (by unfold toks; rw [by_kind (fun n => dutyTok ER (dcell c n) 0 0)])).trans (toks_kinds _ _ _ _ _ _ _ _)).trans ?_
  rw [over_sep, over_sep, turn (fun c d => dutyTok ER (bar c) 0 d), turn (fun c d => dutyTok ER (dcell c (34 + d.val)) 0 0), ← over_sep, ← over_sep]
  exact bigSep_mono fun c _ => toks_deal _ _ _ _ _

/-- What stays with device `c`: its positions, and the tokens it pays with. -/
def linear (c : Dev nD) : sProp 𝕄 := iprop(ats (F := F) c ∗ payToks c)

/-- What device `c` starts from: every cell's record, and its own positions and tokens. -/
def G' (c : Dev nD) : sProp 𝕄 := iprop(recs m ∗ linear c)

theorem regroup : (bigSep Finset.univ fun c : Dev nD => iprop(ownRecs m c ∗ ats c ∗ toks c)) ⊢ bigSep Finset.univ (G' m) := by
  rw [over_sep, over_sep, ← recs_eq]
  iintro ⟨#HR, Hat, Htok⟩
  ihave Htk := (toks_around (F := F)) $$ Htok
  unfold G' linear
  iapply (Entails.of_eq (over_sep Finset.univ (fun _ : Dev nD => recs m) (fun c => iprop(ats (F := F) c ∗ payToks c))).symm)
  isplitr
  · iapply (BI.bigSep_of_persistent Finset.univ (recs m)); iexact HR
  · iapply (Entails.of_eq (over_sep Finset.univ (ats (F := F)) payToks).symm)
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Launch

/-! ## The credit at launch -/

theorem sum_peers (c : Dev nD) (f : Dev nD → CellTallies nD τ sig Unit) :
    (∑ k ∈ Finset.Ico 0 31, f (pr c (k + 1))) = ∑ d ∈ Finset.univ.erase c, f d := by
  rw [← peers_image c]
  exact (Finset.sum_image (fun x hx y hy h => peers_inj c (Finset.mem_coe.mpr hx) (Finset.mem_coe.mpr hy) h)).symm

theorem sum_at {S : Finset (Dev nD)} (f : Dev nD → CellTallies nD τ sig Unit) (g : GSem nD τ sig) : (∑ d ∈ S, f d) g () = ∑ d ∈ S, f d g () := by
  rw [Finset.sum_apply, Finsupp.finsetSum_apply]

theorem owed_bar (d c : Dev nD) : O₀ d (bar c) () = if d = c then 0 else 1 := by
  unfold O₀ OB OR
  rw [sum_peers d (fun p => tallyAt (bar p) () 1), sum_peers d (fun p => tallyAt (dcell p (34 + d.val)) () NT), Pi.add_apply, Finsupp.add_apply, sum_at, sum_at,
    Finset.sum_eq_zero (s := Finset.univ.erase d) (f := fun p => tallyAt (dcell p (34 + d.val)) () NT (bar c) ()) (fun p _ => by rw [tallyAt_apply, if_neg (fun h => bar_ne_dcell _ _ _ h.1)]),
    Nat.add_zero]
  by_cases h : d = c
  · subst h
    rw [if_pos rfl]
    exact Finset.sum_eq_zero fun p hp => by rw [tallyAt_apply, if_neg (fun h => (Finset.mem_erase.mp hp).1 (bar_inj h.1).symm)]
  · rw [if_neg h, Finset.sum_eq_single c (fun p _ hp => by rw [tallyAt_apply, if_neg (fun h => hp (bar_inj h.1).symm)])
      (fun hc => absurd (Finset.mem_erase.mpr ⟨fun e => h e.symm, Finset.mem_univ _⟩) hc), tallyAt_apply, if_pos ⟨rfl, rfl⟩]

theorem owed_recv (d c j : Dev nD) (hj : j ≠ c) : O₀ d (dcell c (34 + j.val)) () = if d = j then NT else 0 := by
  have hj' : j.val < 32 := j.isLt
  have hd' : d.val < 32 := d.isLt
  unfold O₀ OB OR
  rw [sum_peers d (fun p => tallyAt (bar p) () 1), sum_peers d (fun p => tallyAt (dcell p (34 + d.val)) () NT), Pi.add_apply, Finsupp.add_apply, sum_at, sum_at,
    Finset.sum_eq_zero (s := Finset.univ.erase d) (f := fun p => tallyAt (bar p) () 1 (dcell c (34 + j.val)) ()) (fun p _ => by rw [tallyAt_apply, if_neg (fun h => bar_ne_dcell _ _ _ h.1.symm)]),
    Nat.zero_add]
  by_cases h : d = j
  · subst h
    rw [if_pos rfl, Finset.sum_eq_single c (fun p _ hp => by rw [tallyAt_apply, if_neg (fun h => hp (dcell_inj (by omega) (by omega) h.1).1.symm)])
      (fun hc => absurd (Finset.mem_erase.mpr ⟨fun e => hj e.symm, Finset.mem_univ _⟩) hc), tallyAt_apply, if_pos ⟨rfl, rfl⟩]
  · rw [if_neg h]
    exact Finset.sum_eq_zero fun p _ => by
      rw [tallyAt_apply, if_neg (fun e => h (Fin.ext (by have := (dcell_inj (by omega) (by omega) e.1).2; omega)))]

theorem launch_bar (c : Dev nD) :
    tallyOn (bar c) (launchCredit (Pipeline.owing O₀) 0 (bar c)) = (tallyAt (bar c) () 31 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide +kernel

theorem launch_recv (c j : Dev nD) (hj : j ≠ c) :
    tallyOn (dcell c (34 + j.val)) (launchCredit (Pipeline.owing O₀) 0 (dcell c (34 + j.val))) = (tallyAt (dcell c (34 + j.val)) () NT : CellTallies nD τ sig Unit) := by
  unfold tallyAt; refine congrArg _ (Finsupp.ext fun u => ?_); cases u
  rw [Pipeline.launchCredit_owing, Finsupp.single_eq_same, Finset.sum_congr rfl fun d _ => owed_recv d c j hj, Finset.sum_ite_eq' Finset.univ j fun _ => NT,
    if_pos (Finset.mem_univ _)]

theorem recvSem_inj : Function.Injective (fun j : Dev nD => (SemLoc.dma (dq (34 + j.val)) : SemLoc sig)) := fun a b h => by
  have ha : a.val < 32 := a.isLt
  have hb : b.val < 32 := b.isLt
  have h3 : dq (34 + a.val) = dq (34 + b.val) := by injection h
  have h4 := congrArg Fin.val h3
  rw [dq_val (by omega), dq_val (by omega)] at h4
  exact Fin.ext (by omega)

/-- The credit device `c` starts with: the 31 signals and the 31 incoming transfers. -/
def creds (c : Dev nD) : sProp 𝕄 :=
  iprop(cred (tallyAt (bar c) () 31) ∗ bigSep (Finset.univ.erase c) (fun j : Dev nD => cred (tallyAt (dcell c (34 + j.val)) () NT)))

theorem creds_intro (c : Dev nD) : (Pipeline.launchCred O₀ c : sProp 𝕄) ⊢ creds c := by
  unfold Pipeline.launchCred creds
  rw [bigSep_univ_at _ (SemLoc.reg barS), launch_bar]
  refine BIClass.sep_mono (BI.Entails.refl _) ?_
  refine (bigSep_subset (t := (Finset.univ.erase c).map ⟨_, recvSem_inj⟩) ?_).trans ?_
  · intro x hx
    obtain ⟨j, -, rfl⟩ := Finset.mem_map.mp hx
    exact Finset.mem_erase.mpr ⟨fun h => by exact absurd h (by simp), Finset.mem_univ _⟩
  · rw [bigSep_map]
    exact bigSep_mono fun j hj => Entails.of_eq (congrArg cred (launch_recv c j (Finset.mem_erase.mp hj).1))

end Cert.AllToAll

end
-- ==== Proof.Entry.lean ====
/-
# Into the kernel and out of it

At entry a device holds each of its buffers whole; the protocol passes pieces of them about. Here the buffers are cut into
those pieces, and at the end the pieces the kernel has got back are put together again.
-/
module

public import proofs.«01_k».proof.Proof.Launch

@[expose] public section

noncomputable section

namespace Cert.AllToAll

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Pieces

variable (c : Dev nD)

/-- The gathered array, by slots: the device's own and its 31 peers'. -/
theorem slots_whole (f : Buf (Elt F) (xgLoc c)) : (xgLoc c ↦{fullShare} f : sProp 𝕄) = bigSep (Finset.univ : Finset (Dev nD)) (fun d => slotPts c d.val f) := by
  rw [show (Finset.univ : Finset (Idx (xgLoc c))) = (Finset.univ : Finset (Dev nD)).biUnion (fun d => slotSet d.val) from ?_]
  · exact pointsTo_biUnion _ _ (fun a _ b _ hab => Finset.disjoint_left.mpr fun i hi hj => hab (Fin.ext ((mem_slotSet.mp hi).symm.trans (mem_slotSet.mp hj))))
  · ext i
    have hi : (i 0).val < 32 := (i 0).isLt
    simp only [Finset.mem_univ, Finset.mem_biUnion, true_and, true_iff]
    exact ⟨⟨(i 0).val, hi⟩, mem_slotSet.mpr rfl⟩

theorem slots_split (f : Buf (Elt F) (xgLoc c)) :
    (xgLoc c ↦{fullShare} f : sProp 𝕄) ⊢ iprop(slotAny c c.val ∗ bigSep (Finset.Ico 0 31) (fun d => slotAny c (pr c (d + 1)).val)) := by
  rw [slots_whole, ← erase_peers c (fun d => slotAny c d.val)]
  have e : bigSep (Finset.univ : Finset (Dev nD)) (fun d => slotAny (F := F) c d.val)
      = iprop(slotAny c c.val ∗ bigSep (Finset.univ.erase c) (fun d : Dev nD => slotAny c d.val)) := bigSep_erase (Finset.mem_univ c)
  rw [← e]
  exact bigSep_mono fun d _ => show _ ⊢ slotAny c d.val from by unfold slotAny; iintro H; iexists f; iexact H

theorem three (Φ : Fin 3 → sProp 𝕄) : bigSep Finset.univ Φ = iprop(Φ 0 ∗ Φ 1 ∗ Φ 2) := bigSep_univ_eq_bigSepL [0, 1, 2] (by decide) (by decide) Φ
theorem four (Φ : Fin 4 → sProp 𝕄) : bigSep Finset.univ Φ = iprop(Φ 0 ∗ Φ 1 ∗ Φ 2 ∗ Φ 3) := bigSep_univ_eq_bigSepL [0, 1, 2, 3] (by decide) (by decide) Φ

theorem wslot_disjoint (a b : Fin 3) (h : a ≠ b) : Disjoint (wSet a.val) (wSet b.val) :=
  Finset.disjoint_left.mpr fun i hi hj => h (Fin.ext ((mem_wSet.mp hi).symm.trans (mem_wSet.mp hj)))
theorem wslot_cover : (Finset.univ : Finset (Fin 3)).biUnion (fun s => wSet s.val) = Finset.univ := by
  ext i
  have hi : (i 0).val < 3 := (i 0).isLt
  simp only [Finset.mem_univ, Finset.mem_biUnion, true_and, iff_true]
  exact ⟨⟨(i 0).val, hi⟩, mem_wSet.mpr rfl⟩

/-- The staging array of `w`, by slots. -/
theorem wslots_split (f : Buf (Elt F) (wbLoc c)) :
    (wbLoc c ↦{fullShare} f : sProp 𝕄) = iprop(wslotPts c 0 f ∗ wslotPts c 1 f ∗ wslotPts c 2 f) := by
  have h := pointsTo_biUnion (ℓ := wbLoc c) (q := fullShare) (f := f) (Name := ℕ) (U := UU) (Lvl := ℕ) (Ix := Unit) (Finset.univ : Finset (Fin 3)) (fun s => wSet s.val) (fun a _ b _ => wslot_disjoint a b)
  rw [wslot_cover, three] at h
  exact h

/-- The slots, whatever each holds, are the array. -/
theorem wslots_join (f₀ f₁ f₂ : Buf (Elt F) (wbLoc c)) :
    iprop(wslotPts c 0 f₀ ∗ wslotPts c 1 f₁ ∗ wslotPts c 2 f₂) ⊢ (iprop(∃ f, wbLoc c ↦{fullShare} f) : sProp 𝕄) := by
  have h := pointsTo_biUnion_join (ℓ := wbLoc c) (q := fullShare) (Name := ℕ) (U := UU) (Lvl := ℕ) (Ix := Unit) (Finset.univ : Finset (Fin 3)) (fun s => wSet s.val) ![f₀, f₁, f₂] f₀ (fun a _ b _ => wslot_disjoint a b)
  rw [wslot_cover, three] at h
  refine (show iprop(wslotPts c 0 f₀ ∗ wslotPts c 1 f₁ ∗ wslotPts c 2 f₂) ⊢ _ from h).trans ?_
  iintro ⟨%g, -, H⟩
  iexists g; iexact H

/-- `w`, by quarters in the order the device takes them. -/
theorem chunks_split (f : Buf (Elt F) (wLoc c)) :
    (wLoc c ↦{fullShare} f : sProp 𝕄) = iprop(chunkPts c (quarter c 0) f ∗ chunkPts c (quarter c 1) f ∗ chunkPts c (quarter c 2) f ∗ chunkPts c (quarter c 3) f) := by
  have hc : (Finset.univ : Finset (Fin 4)).biUnion (fun r => chunkSet (quarter c r.val)) = Finset.univ := by
    ext i
    have hi : (i 0).val < 4096 := (i 0).isLt
    simp only [Finset.mem_univ, Finset.mem_biUnion, true_and, iff_true]
    exact ⟨⟨((i 0).val / 1024 + 4 - c.val / 8 % 4) % 4, Nat.mod_lt _ (by decide)⟩, mem_chunkSet.mpr (by show _ = (c.val / 8 + ((i 0).val / 1024 + 4 - c.val / 8 % 4) % 4) % 4; omega)⟩
  have hd (a b : Fin 4) (h : a ≠ b) : Disjoint (chunkSet (quarter c a.val)) (chunkSet (quarter c b.val)) :=
    Finset.disjoint_left.mpr fun i hi hj => h (Fin.ext (by
      have h1 : (c.val / 8 + a.val) % 4 = (c.val / 8 + b.val) % 4 := (mem_chunkSet.mp hi).symm.trans (mem_chunkSet.mp hj)
      have := a.isLt
      have := b.isLt
      omega))
  have h := pointsTo_biUnion (ℓ := wLoc c) (q := fullShare) (f := f) (Name := ℕ) (U := UU) (Lvl := ℕ) (Ix := Unit) (Finset.univ : Finset (Fin 4)) (fun r => chunkSet (quarter c r.val)) (fun a _ b _ => hd a b)
  rw [hc, four] at h
  exact h

end Pieces

section Ends

variable (m : Mem0 F) (c : Dev nD)

/-- The arguments the kernel reads in place. -/
def args : sProp 𝕄 := iprop((((c : Thread nD τ).loc main_arg0) ↦{fullShare} m ((c : Thread nD τ).loc main_arg0)) ∗ (wLoc c ↦{fullShare} m (wLoc c)))

/-- The kernel's scratch buffers, whatever they hold. -/
def scratch : sProp 𝕄 :=
  iprop((∃ f : Buf (Elt F) ((c : Thread nD τ).loc cc0_scratch0), ((c : Thread nD τ).loc cc0_scratch0) ↦{fullShare} f) ∗ (∃ f, x8Loc c ↦{fullShare} f)
    ∗ (∃ f, xgLoc c ↦{fullShare} f) ∗ (∃ f, wbLoc c ↦{fullShare} f) ∗ wcAny c)

/-- What a device holds when the kernel starts, besides its staging buffers. -/
def Φ₀ : sProp 𝕄 := iprop((pers m ∗ linear c ∗ creds c ∗ args m c) ∗ scratch c)

/-- What it holds when the kernel ends. -/
def Φ₁ : sProp 𝕄 := iprop((semVal (bar c) 0 ∗ args m c) ∗ bigSep Finset.univ (fun k : Fin 67 => semVal (dcell c (3 + k.val)) 0) ∗ scratch c)

variable (s₁ : Buf (Elt F) ((c : Thread nD τ).loc cc0_stg0_0)) (s₂ : Buf (Elt F) ((c : Thread nD τ).loc cc0_stg1_0))

/-- The staging buffers, the result's at `f`. -/
def stages (f : Buf (Elt F) (oLoc c)) : sProp 𝕄 :=
  iprop((((c : Thread nD τ).loc cc0_stg0_0) ↦{fullShare} s₁) ∗ (((c : Thread nD τ).loc cc0_stg1_0) ↦{fullShare} s₂) ∗ (oLoc c ↦{fullShare} f))

/-- Credit and position on the cells the peers' transfers arrive at. -/
theorem recv_waits : iprop(bigSep (Finset.univ.erase c) (fun j : Dev nD => cred (tallyAt (dcell c (34 + j.val)) () NT))
      ∗ bigSep Finset.univ (fun j : Dev nD => atPos ER (dcell c (34 + j.val)) 0 ∅ 0))
    ⊢ (iprop(atPos ER (dcell c (34 + c.val)) 0 ∅ 0 ∗ bigSep (Finset.univ.erase c) (fun j : Dev nD => waitRes c (34 + j.val))) : sProp 𝕄) := by
  have e : bigSep Finset.univ (fun j : Dev nD => (atPos ER (dcell c (34 + j.val)) 0 ∅ 0 : sProp 𝕄))
      = iprop(atPos ER (dcell c (34 + c.val)) 0 ∅ 0 ∗ bigSep (Finset.univ.erase c) (fun j : Dev nD => atPos ER (dcell c (34 + j.val)) 0 ∅ 0)) := bigSep_erase (Finset.mem_univ c)
  have e2 : bigSep (Finset.univ.erase c) (fun j : Dev nD => waitRes (F := F) c (34 + j.val))
      = iprop(bigSep (Finset.univ.erase c) (fun j : Dev nD => cred (tallyAt (dcell c (34 + j.val)) () NT)) ∗ bigSep (Finset.univ.erase c) (fun j : Dev nD => atPos ER (dcell c (34 + j.val)) 0 ∅ 0)) := by
    rw [← over_sep]
    exact bigSep_congr fun j _ => by unfold waitRes; rw [dmaAmt_recv (show j.val < 32 from j.isLt)]
  rw [e, e2]
  iintro ⟨Hc, Ha, Hr⟩
  isplitl [Ha]; · iexact Ha
  isplitl [Hc] <;> iassumption

theorem ats_kinds : ats (F := F) c = iprop(atPos ER (bar c) 0 ∅ 0
    ∗ (bigSep (Finset.Ico 0 31) (fun d => atPos ER (dcell c (3 + d)) 0 ∅ 0) ∗ bigSep Finset.univ (fun j : Dev nD => atPos ER (dcell c (34 + j.val)) 0 ∅ 0)
      ∗ atPos ER (dcell c 66) 0 ∅ 0 ∗ atPos ER (dcell c 67) 0 ∅ 0 ∗ atPos ER (dcell c 68) 0 ∅ 0 ∗ atPos ER (dcell c 69) 0 ∅ 0)) := by
  unfold ats; rw [by_kind (fun n => atPos ER (dcell c n) 0 ∅ 0)]

theorem sig_start : iprop(ow c (O₀ c) ∗ bigSep (Finset.Ico 0 31) (fun d => dutyTok ER (bar (pr c (d + 1))) 0 c) ∗ bigSep (Finset.Ico 0 31) (fun d => slotAny c (pr c (d + 1)).val))
    ⊢ (SigSt c 0 : sProp 𝕄) := by
  have e : bigSep (Finset.Ico 0 31) (sigRes (F := F) c)
      = iprop(bigSep (Finset.Ico 0 31) (fun d => dutyTok ER (bar (pr c (d + 1))) 0 c) ∗ bigSep (Finset.Ico 0 31) (fun d => slotAny c (pr c (d + 1)).val)) := by
    rw [← over_sep]; rfl
  unfold SigSt
  rw [e]
  unfold O₀
  exact BI.Entails.refl _

set_option maxHeartbeats 1000000 in
/-- Into the kernel. -/
theorem entry (f : Buf (Elt F) (oLoc c)) : iprop(Φ₀ m c ∗ ow c (O₀ c) ∗ stages c s₁ s₂ f) ⊢ iprop(pers m ∗ start m c s₁ s₂) := by
  unfold Φ₀ linear creds args scratch stages payToks
  rw [ats_kinds]
  iintro ⟨⟨⟨#HP, ⟨⟨HaB, Ha3, Ha34, Ha66, Ha67, Ha68, Ha69⟩, Htb, Htp, Hto, Hts, Ht66, Ht67, Ht68, Ht69, Ht66'⟩, ⟨HcB, HcR⟩, Hx, Hw⟩, Hxf, Hx8, ⟨%fg, Hxg⟩, ⟨%fw, Hwb⟩, Hwc⟩, HO, Hs1, Hs2, Hout⟩
  ihave Hg := (slots_split c fg) $$ Hxg
  icases Hg with ⟨Hsl, Hsls⟩
  ihave Hwb := (Entails.of_eq (wslots_split c fw)) $$ Hwb
  icases Hwb with ⟨Hb0, Hb1, Hb2⟩
  ihave Hw := (Entails.of_eq (chunks_split c _)) $$ Hw
  icases Hw with ⟨Hw0, Hw1, Hw2, Hw3⟩
  ihave Hr := (recv_waits (F := F) c) $$ [HcR Ha34]
  · isplitl [HcR] <;> iassumption
  icases Hr with ⟨Hao, Hwr⟩
  isplitr; · iexact HP
  unfold start
  isplitl [HO Htb Hsls]
  · iapply (sig_start (F := F) c)
    isplitl [HO]; · iexact HO
    isplitl [Htb] <;> iassumption
  isplitl [Hx Hxf Ht69]
  · unfold xcopyRes
    isplitl [Hx]; · iexact Hx
    isplitl [Hxf] <;> iassumption
  isplitl [Hw0 Hb0 Ht66]
  · unfold wcopyRes
    isplitl [Hw0]; · iexact Hw0
    isplitl [Hb0]; · iexists fw; iexact Hb0
    iexact Ht66
  isplitl [Hw1 Hb1 Ht67]
  · unfold wcopyRes
    isplitl [Hw1]; · iexact Hw1
    isplitl [Hb1]; · iexists fw; iexact Hb1
    iexact Ht67
  isplitl [Hw3 Hb2 Ht68]
  · unfold wcopyRes
    isplitl [Hw3]; · iexact Hw3
    isplitl [Hb2]; · iexists fw; iexact Hb2
    iexact Ht68
  isplitl [Ha69 Hx8 Hsl Hto HcB HaB Hts Htp Hao Hwr]
  · unfold gate
    isplitl [Ha69]; · iexact Ha69
    isplitl [Hx8]; · iexact Hx8
    isplitl [Hsl]; · iexact Hsl
    isplitl [Hto]; · iexact Hto
    isplitl [HcB]; · iexact HcB
    isplitl [HaB]; · iexact HaB
    isplitl [Hts Htp]
    · iapply (Entails.of_eq (over_sep (Finset.Ico 0 31) (fun d => dutyTok ER (dcell c (3 + d)) 0 0) (fun d => dutyTok ER (dcell (pr c (d + 1)) (34 + c.val)) 0 0)).symm)
      isplitl [Hts] <;> iassumption
    isplitl [Hao] <;> iassumption
  unfold later
  isplitl [Hw2]; · iexact Hw2
  isplitl [Ht66']; · iexact Ht66'
  isplitl [Ha66 Ha67 Ha68]
  · isplitl [Ha66]; · iexact Ha66
    isplitl [Ha67] <;> iassumption
  isplitl [Ha3]; · iexact Ha3
  isplitl [Hs1]; · iexact Hs1
  isplitl [Hs2]; · iexact Hs2
  isplitl [Hout]; · iexists f; iexact Hout
  iexact Hwc

/-- The sends waited for give back the peers' rows and the send semaphores. -/
theorem sent_back : SentSt m c 31 ⊢ iprop(ow c 0 ∗ bigSep (Finset.Ico 0 31) (fun d => rowPts c (pr c (d + 1)).val (X8 m c)) ∗ bigSep (Finset.Ico 0 31) (fun d => semVal (dcell c (3 + d)) 0)) := by
  have e : bigSep (Finset.range 31) (fun d => iprop(dmaPay m c (3 + d) 0 ∗ semVal (dcell c (3 + d)) 0))
      = iprop(bigSep (Finset.Ico 0 31) (fun d => rowPts c (pr c (d + 1)).val (X8 m c)) ∗ bigSep (Finset.Ico 0 31) (fun d => semVal (dcell c (3 + d)) 0)) := by
    rw [← over_sep, Finset.range_eq_Ico 31]
    exact bigSep_congr fun d hd => by rw [dmaPay_send m c (Finset.mem_Ico.mp hd).2]; rfl
  unfold SentSt
  rw [e]
  iintro ⟨HO, -, H⟩
  isplitl [HO] <;> iassumption

/-- The gathered blocks give back the gathered array, the device's own rows and the receive semaphores. -/
theorem recv_back : bigSep Finset.univ (fun j : Dev nD => iprop(dmaPay m c (34 + j.val) 0 ∗ semVal (dcell c (34 + j.val)) 0))
    ⊢ iprop((xgLoc c ↦{fullShare} XG m c) ∗ rowPts c c.val (X8 m c) ∗ bigSep Finset.univ (fun j : Dev nD => semVal (dcell c (34 + j.val)) 0)) := by
  have e : bigSep Finset.univ (fun j : Dev nD => iprop(dmaPay m c (34 + j.val) 0 ∗ semVal (dcell c (34 + j.val)) 0))
      = iprop((bigSep Finset.univ (fun j : Dev nD => slotPts c j.val (XG m c)) ∗ bigSep Finset.univ (fun j : Dev nD => if j.val = c.val then rowPts c c.val (X8 m c) else iprop(emp)))
        ∗ bigSep Finset.univ (fun j : Dev nD => semVal (dcell c (34 + j.val)) 0)) := by
    rw [← over_sep, ← over_sep]
    exact bigSep_congr fun j _ => by rw [dmaPay_recv m c (show j.val < 32 from j.isLt)]; rfl
  rw [e, ← slots_whole]
  iintro ⟨⟨Hg, Hr⟩, Hz⟩
  isplitl [Hg]; · iexact Hg
  isplitl [Hr]
  · ihave H := (pick (fun j : Dev nD => if j.val = c.val then rowPts c c.val (X8 m c) else iprop(emp)) (Finset.mem_univ c)) $$ Hr
    ihave H := (Entails.of_eq (if_pos (rfl : c.val = c.val))) $$ H
    iexact H
  iexact Hz

set_option maxHeartbeats 1000000 in
/-- Out of the kernel. -/
theorem leave : iprop(SentSt m c 31 ∗ rest m c s₁ s₂) ⊢ iprop(Φ₁ m c ∗ ow c 0 ∗ stages c s₁ s₂ (outV m c s₁ s₂)) := by
  unfold rest Φ₁ args scratch stages xPay
  rw [by_kind (fun n => semVal (dcell c n) 0)]
  iintro ⟨HS, ⟨⟨Hxf, Hx⟩, Hz69, HzB⟩, ⟨Hs1, Hs2, Hout, Hwc⟩, ⟨Hw0, Hw1, Hw2, Hw3⟩, ⟨Hb0, Hb1, Hb2⟩, ⟨Hz66, Hz67, Hz68⟩, HR⟩
  ihave HS := (sent_back m c) $$ HS
  icases HS with ⟨HO, Hrows, Hz3⟩
  ihave HR := (recv_back m c) $$ HR
  icases HR with ⟨Hxg, Hrow, Hz34⟩
  ihave Hwb := (wslots_join c _ _ _) $$ [Hb0 Hb1 Hb2]
  · isplitl [Hb0]; · iexact Hb0
    isplitl [Hb1] <;> iassumption
  isplitr [HO Hs1 Hs2 Hout]
  · isplitl [HzB Hx Hw0 Hw1 Hw2 Hw3]
    · isplitl [HzB]; · iexact HzB
      isplitl [Hx]; · iexact Hx
      iapply (Entails.of_eq (chunks_split c _).symm)
      isplitl [Hw0]; · iexact Hw0
      isplitl [Hw1]; · iexact Hw1
      isplitl [Hw2] <;> iassumption
    isplitl [Hz3 Hz34 Hz66 Hz67 Hz68 Hz69]
    · isplitl [Hz3]; · iexact Hz3
      isplitl [Hz34]; · iexact Hz34
      isplitl [Hz66]; · iexact Hz66
      isplitl [Hz67]; · iexact Hz67
      isplitl [Hz68] <;> iassumption
    isplitl [Hxf]; · iexists _; iexact Hxf
    isplitl [Hrows Hrow]
    · iexists (X8 m c)
      iapply (Entails.of_eq (rows_split c _).symm)
      isplitl [Hrow] <;> iassumption
    isplitl [Hxg]; · iexists _; iexact Hxg
    isplitl [Hwb] <;> iassumption
  isplitl [HO]; · iexact HO
  isplitl [Hs1]; · iexact Hs1
  isplitl [Hs2] <;> iassumption

end Ends

end Cert.AllToAll

end
-- ==== Proof.Run.lean ====
/-
# The run

The kernel's proof on one device, put into the launch theorem: from any memory with every counter at zero the program ends on every
device, its result is `outV`, its arguments are unchanged and every counter is at zero again.
-/
module

public import proofs.«01_k».proof.Proof.Entry
public import proofs.«01_k».proof.Proof.Gen.KernelIdeal.Points
public import Idealize.ShloMosaic.Lib.Pipeline.Launch
public import Idealize.ShloMosaic.Lib.Pipeline.CollectiveSegs
public import Idealize.ShloMosaic.Lib.Quiescent

@[expose] public section

noncomputable section

namespace Cert.AllToAll

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

section Run

variable (m : Mem0 F) (ρ : Dev nD → PrngReg)

/-- The state at launch. -/
abbrev s₀ : MemSt nD τ sig (Elt F) := ⟨m, fun _ => 0, ρ⟩

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The two scales as the pipeline stages them. -/
def sx (c : Dev nD) : (cc0_stg0_0 : Ref sig .tc).ty.Contents (Elt F) := (win0_0.blk (0 : Fin 1)).view.read (Elt F) (m ((c : Thread nD τ).loc main_arg2))
def sw (c : Dev nD) : (cc0_stg1_0 : Ref sig .tc).ty.Contents (Elt F) := (win0_1.blk (0 : Fin 1)).view.read (Elt F) (m ((c : Thread nD τ).loc main_arg3))
/-- The kernel's result. -/
def outAt (c : Dev nD) : (cc0_stg2_0 : Ref sig .tc).ty.Contents (Elt F) := outV m c (sx m c) (sw m c)

/-- The pipeline's proof data. -/
def dats (_ : Fin 1) (c : Dev nD) : Dat τ (Elt F) Unit ℕ UU ℕ cfg0 c where
  A w := (s₀ m ρ).mem ((cfg0.win w).arr.view.loc (c : Thread nD τ))
  after w _ := match w with
    | (0 : Fin 3) => sx m c
    | (1 : Fin 3) => sw m c
    | (2 : Fin 3) => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 3) ∗ Φ (1 : Fin 3) ∗ Φ (2 : Fin 3)) := bigSep_W0 Φ

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer whose contents are known. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ m c ∗ (dats m ρ 0 c).owesAt () t₀.succ ∗ stg c cc0_stg0_0 (sx m c) ∗ stg c cc0_stg1_0 (sw m c) ∗ stg c cc0_stg2_0 (outAt m c))

theorem owes_in (c : Dev nD) : (dats m ρ 0 c).owesAt () t₀.castSucc ⊢ ow c (O₀ c) := by
  unfold Dat.owesAt Pipeline.owesWithin ow
  rw [show (dats m ρ 0 c).owed t₀.castSucc = O₀ c from rfl]
  iintro ⟨%W, -, HO⟩
  iexists W; iexact HO
theorem owes_out (c : Dev nD) : ow c 0 ⊢ (dats m ρ 0 c).owesAt () t₀.succ := by
  unfold Dat.owesAt Pipeline.owesWithin ow
  rw [show (dats m ρ 0 c).owed t₀.succ = 0 from rfl]
  iintro ⟨%W, HO⟩
  iexists W
  isplitr; · ipureintro; exact fun _ _ => Or.inl trivial
  iexact HO

theorem before_x (c : Dev nD) (d) : (dats m ρ 0 c).before (0 : Fin 3) t₀ d = sx m c := by
  unfold Dat.before; rw [if_pos (fetch0_0 t₀)]; rfl
theorem before_w (c : Dev nD) (d) : (dats m ρ 0 c).before (1 : Fin 3) t₀ d = sw m c := by
  unfold Dat.before; rw [if_pos (fetch0_1 t₀)]; rfl

theorem sound_body (c : Dev nD) : bodyPre m ρ c ⊢ wpc c (atArgs (cc0_body (F := F))) (fun _ => bodyPost m ρ c) := by
  unfold bodyPre
  iintro ⟨HΦ, Ho, ⟨%d0, %g0, %hg0, H0⟩, ⟨%d1, %g1, %hg1, H1⟩, ⟨%d2, %g2, -, H2⟩⟩
  have h0 : g0 = sx m c := hg0.trans (before_x m ρ c d0)
  have h1 : g1 = sw m c := hg1.trans (before_w m ρ c d1)
  subst h0 h1
  ihave Ho := (owes_in m ρ c) $$ Ho
  ihave H := (entry m c (sx m c) (sw m c) g2) $$ [HΦ Ho H0 H1 H2]
  · isplitl [HΦ]; · iexact HΦ
    isplitl [Ho]; · iexact Ho
    unfold stages
    isplitl [H0]; · iexact H0
    isplitl [H1] <;> iassumption
  icases H with ⟨#HP, Hs⟩
  iapply (sound m c (sx m c) (sw m c))
  isplitr; · iexact HP
  isplitl [Hs]; · iexact Hs
  iintro HS HR
  ihave H := (leave m c (sx m c) (sw m c)) $$ [HS HR]
  · isplitl [HS] <;> iassumption
  unfold stages
  icases H with ⟨HΦ, HO, H0, H1, H2⟩
  unfold bodyPost
  isplitl [HΦ]; · iexact HΦ
  isplitl [HO]; · iapply (owes_out m ρ c); iexact HO
  isplitl [H0]
  · iexists _; isplitr; · (ipureintro; rfl)
    iexact H0
  isplitl [H1]
  · iexists _; isplitr; · (ipureintro; rfl)
    iexact H1
  iexists _; isplitr; · (ipureintro; rfl)
  iexact H2

set_option maxRecDepth 40000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole]
  exact sound_body m ρ c

/-! ## The launch's side conditions -/

theorem share_eq (c : Dev nD) (w : Fin cfg0.W) : (dats m ρ 0 c).share w = fullShare := by unfold Dat.share; split <;> rfl

/-- What a device starts from. -/
def launchX (c : Dev nD) : sProp 𝕄 := iprop(pers m ∗ linear c ∗ creds c ∗ args m c)
/-- What is left of it. -/
def launchY (c : Dev nD) : sProp 𝕄 := iprop(semVal (bar c) 0 ∗ args m c)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(launchX m c ∗ emp) := by
  rw [Pipeline.unscopedRestP_none, unscopedRest0_eq]
  unfold launchX G' pers args
  iintro ⟨⟨Hx, Hw⟩, Hlev, Hcr, -, ⟨HR, HL⟩⟩
  ihave Hc := (creds_intro (F := F) c) $$ Hcr
  imodintro
  isplitl
  · isplitl [HR Hlev]
    · isplitl [HR] <;> iassumption
    isplitl [HL]; · iexact HL
    isplitl [Hc]; · iexact Hc
    isplitl [Hx] <;> iassumption
  · iempintro

theorem phi0_intro (c : Dev nD) :
    iprop(launchX m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ launchX scratch wcAny
  iintro ⟨Hs, -, Hr⟩
  isplitl [Hs]; · iexact Hs
  iexact Hr

theorem phi1_exit (c : Dev nD) :
    (dats m ρ 0 c).Φ (Fin.last cfg0.N) ⊢ iprop(launchY m c ∗ Pipeline.ownSems0 osem c ∗ Pipeline.scopedRest cfg0.spec c) := by
  rw [show (dats m ρ 0 c).Φ (Fin.last cfg0.N) = Φ₁ m c from rfl, scopedRest0_eq, ownSems0_eq]
  unfold Φ₁ launchY
  exact BI.Entails.refl _

theorem mayWait_stage (c : Dev nD) (q : DmaSem sig) (hq : ¬(34 ≤ q.val ∧ q.val < 66)) (O : CellTallies nD τ sig Unit) (hO : O = O₀ c ∨ O = 0) :
    (levAts L lv : sProp 𝕄) ⊢ MayWait (c : Thread nD τ) (.dma q) () O := by
  rcases hO with rfl | rfl
  · exact mayWait_low c q hq 0 0
  · exact mayWait_nothing c _

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What is read off at the end besides the windows' arrays. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0) ∧ s.mem ((c : Thread nD τ).loc main_arg1) = m ((c : Thread nD τ).loc main_arg1)

theorem read_off (c : Dev nD) (s' : Phys nD τ sig (Elt F)) : iprop(launchY m c ∗ emp ∗ SI s') ⊢ |={Set.univ}=> iprop(⌜QY m c s'.mem⌝ ∗ SI s') := by
  unfold launchY args
  iintro ⟨⟨Hz, Hx, Hw⟩, -, HSI⟩
  icombine HSI Hx gives %hx
  icombine HSI Hw gives %hw
  imod (Pipeline.unscopedSems0_read (X := semVal (bar c) 0) (c := c) (by rw [unscopedSems0_eq]; exact fupd_intro) s') $$ [Hz HSI] with ⟨%hs, HSI⟩
  · isplitl [Hz] <;> iassumption
  imodintro
  isplitr
  · ipureintro; exact ⟨hs, Buf.eq_of_forall_mem_univ hx, Buf.eq_of_forall_mem_univ hw⟩
  iexact HSI

/-! ## The run -/

def finalA (c : Dev nD) (w : Fin cfg0.W) : Buf (Elt F) ((cfg0.win w).arr.view.loc (c : Thread nD τ)) := (dats m ρ 0 c).arrAt w cfg0.N

/-- Every window's array at the contents the pipeline computes, and the arguments read in place unchanged. -/
def QC (s : MemSt nD τ sig (Elt F)) : Prop :=
  ∀ c : Dev nD, (∀ w : Fin cfg0.W, s.mem ((cfg0.win w).arr.view.loc (c : Thread nD τ)) = finalA m ρ c w)
    ∧ s.mem ((c : Thread nD τ).loc main_arg0) = m ((c : Thread nD τ).loc main_arg0) ∧ s.mem ((c : Thread nD τ).loc main_arg1) = m ((c : Thread nD τ).loc main_arg1)

set_option maxRecDepth 8000 in
theorem run_raw : θ_run defs (onTc (τ := τ) (main (F := F))) (s₀ m ρ) (fun r => QC m ρ r.2 ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := launchX m) (Y := launchY m) (Z := fun _ => iprop(emp))
    (hX := start_intro m ρ) (hin := phi0_intro m ρ) (hout := phi1_exit m ρ)
    (QY := QY m) (hY := read_off m)
    (hQ := fun _ h hs => ⟨fun c => ⟨fun w => (h c).1 w, (h c).2.2.2⟩, sem_eq_zero hs fun c => (h c).2.2.1⟩)

end Run

end Cert.AllToAll

end
-- ==== Proof.Result.lean ====
/-
# What the program leaves

The run of the whole program read at the buffers a caller sees: on every device the result buffer holds `outV` of the two scales in
their argument buffers, the four arguments are as they were, and every counter is at zero.
-/
module

public import proofs.«01_k».proof.Proof.Run

@[expose] public section

noncomputable section

namespace Cert.AllToAll

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Result

variable (m : Mem0 F) (ρ : Dev nD → PrngReg)

/-! ## The windows' arrays at the end -/

/-- The scales are only read: their arrays end as they began. -/
theorem finalA_sx (c : Dev nD) : finalA m ρ c (0 : Fin 3) = m ((c : Thread nD τ).loc main_arg2) := (dats m ρ 0 c).arrAt_in (0 : Fin 3) rfl _
theorem finalA_sw (c : Dev nD) : finalA m ρ c (1 : Fin 3) = m ((c : Thread nD τ).loc main_arg3) := (dats m ρ 0 c).arrAt_in (1 : Fin 3) rfl _

/-- The one block of each window is its whole array, so what is staged of a scale is the scale. -/
theorem sx_eq (c : Dev nD) : sx m c = m ((c : Thread nD τ).loc main_arg2) :=
  Memref.read_access_unit_zero (Elt F) main_arg2 (funext fun a => by fin_cases a; decide) (fun a => by fin_cases a; decide) _
theorem sw_eq (c : Dev nD) : sw m c = m ((c : Thread nD τ).loc main_arg3) :=
  Memref.read_access_unit_zero (Elt F) main_arg3 (funext fun a => by fin_cases a; decide) (fun a => by fin_cases a; decide) _

/-- The result's block is flushed at the single grid point. -/
theorem flushed (c : Dev nD) : (win0_2.blk (0 : Fin 1)).view.read (Elt F) (finalA m ρ c (2 : Fin 3)) = outAt m c := by
  have hs := (dats m ρ 0 c).arrAt_succ (2 : Fin 3) (0 : Fin 1)
  rw [show (cfg0.win (2 : Fin 3)).flush (0 : Fin 1) = true from by decide, if_pos rfl] at hs
  have he : finalA m ρ c (2 : Fin 3) = _ := hs
  rw [he]
  exact View.read_write_univ _ _

theorem finalA_out (c : Dev nD) :
    finalA m ρ c (2 : Fin 3) = outV m c (m ((c : Thread nD τ).loc main_arg2)) (m ((c : Thread nD τ).loc main_arg3)) := by
  have h := flushed m ρ c
  unfold outAt at h
  rw [sx_eq, sw_eq] at h
  exact (Memref.read_access_unit_zero (Elt F) main_v1 (funext fun a => by fin_cases a <;> decide) (fun a => by fin_cases a <;> decide) _).symm.trans h

/-- The four arguments of one device unchanged. -/
def Kept (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1)
    ∧ s.mem ((c : Thread nD τ).loc main_arg2) = m ((c : Thread nD τ).loc main_arg2) ∧ s.mem ((c : Thread nD τ).loc main_arg3) = m ((c : Thread nD τ).loc main_arg3)

theorem run_main : θ_run defs (onTc (τ := τ) (main (F := F))) ⟨m, fun _ => 0, ρ⟩ (fun r =>
    (∀ c : Dev nD, r.2.mem ((c : Thread nD τ).loc main_v1) = outV m c (m ((c : Thread nD τ).loc main_arg2)) (m ((c : Thread nD τ).loc main_arg3)) ∧ Kept m c r.2)
      ∧ r.2.sem = fun _ => 0) :=
  (θ_run defs _ _).mono
    (fun r h => ⟨fun c => ⟨((h.1 c).1 (2 : Fin 3)).trans (finalA_out m ρ c), (h.1 c).2.1, (h.1 c).2.2,
      ((h.1 c).1 (0 : Fin 3)).trans (finalA_sx m ρ c), ((h.1 c).1 (1 : Fin 3)).trans (finalA_sw m ρ c)⟩, h.2⟩)
    (run_raw m ρ)

end Result

end Cert.AllToAll

end
-- ==== Proof.Frames.lean ====
/-
# The frames

Both readings of the kernel's program, bit-exact and over the extended reals, and the reference run to the end, leave their arguments
unchanged and leave every counter at zero.
-/
module

public import proofs.«01_k».proof.Defs
public import proofs.«01_k».proof.Proof.Result
public import proofs.«01_k».proof.Proof.Gen.Kernel
public import proofs.«01_k».proof.Proof.Gen.ReferenceIdeal.Run

@[expose] public section

noncomputable section

namespace Cert.AllToAll

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

/-- `Cert.quiescent_KernelIdeal`: the run, at the extended reals. -/
theorem frame_ideal : Cert.quiescent_KernelIdeal := fun m ρ _ =>
  (θ_run defs _ _).mono (fun _ h => ⟨fun c => (h.1 c).2, h.2⟩) (run_main (F := Ideal) m ρ)

/-! ## The two programs are one -/

/-- The kernels' bodies agree, label by label; -/
theorem bodies_eq : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => exact rfl

/-- so do the whole tables, which add the same pipeline to the bodies. -/
theorem tables_eq : Cert.Kernel.defs (F := Bits) = Cert.KernelIdeal.defs (F := Bits) := congrArg (Pipeline.defs Cert.KernelIdeal.pcfgs) bodies_eq

/-- `Cert.quiescent_Kernel`: the run, at the machine's floats. -/
theorem frame_kernel : Cert.quiescent_Kernel := fun m ρ _ => by
  rw [tables_eq]
  exact (θ_run Cert.KernelIdeal.defs _ _).mono (fun _ h => ⟨fun c => (h.1 c).2, h.2⟩) (run_main (F := Bits) m ρ)

/-- `Cert.quiescent_ReferenceIdeal`: the reference's host operations write none of its arguments, and it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.AllToAll

end
-- ==== Proof.Product.lean ====
/-
# One quarter's product

Each step of the kernel lays the eight gathered blocks of a quarter side by side and multiplies them by that quarter of `w`. The four
steps are the same product on four sets of blocks, and over the extended reals an entry of it is a sum over the quarter's 1024 columns.
-/
module

public import proofs.«01_k».proof.Proof.Body
public import Idealize.ShloMosaic.Lib.Pipeline.Value
public import Idealize.ShloMosaic.Lib.MatmulPlain
public import Idealize.ShloMosaic.Lib.ValueIdx

@[expose] public section

noncomputable section

namespace Cert.AllToAll

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The four steps -/

/-- Eight blocks side by side times a quarter of `w`, rounded. -/
def product (b : Fin 8 → Vec F S1x128x128 .fp8e5m2) (w : Vec F S1x1024x2048 .f32) : FVec F S128x2048 .f32 :=
  matmul dot_S128x1024_S1024x2048_S128x2048_1_0_0_1_n_n none
    (concatenate S128x1024 1 (List.ofFn fun i : Fin 8 => (⟨S128x128, shapeCast S128x128 (b i) shapeCasts_S1x128x128_S128x128⟩ : (s : Shape) × (s.Idx → F .fp8e5m2)))
      concatenates_S128x128_S128x128_S128x128_S128x128_S128x128_S128x128_S128x128_S128x128_S128x1024_d1)
    (shapeCast S1024x2048 (shapeCast S1x1024x2048 (truncf .fp8e5m2 (shapeCast S1024x2048 w shapeCasts_S1x1024x2048_S1024x2048) bitsLt_fp8e5m2_f32)
      shapeCasts_S1024x2048_S1x1024x2048) shapeCasts_S1x1024x2048_S1024x2048)
    (constant S128x2048 .f32 0x00000000#32)

variable (m : Mem0 F) (c : Dev nD)

theorem acc1_eq : acc1 m c = product (blk m c 0) (wblk m c 0) := rfl
theorem acc2_eq : acc2 m c = addf (acc1 m c) (product (blk m c 1) (wblk m c 1)) :=
  congrArg (fun a => addf a (product (blk m c 1) (wblk m c 1))) (shapeCast_self _ shapeCasts_S128x2048_S128x2048)
theorem acc3_eq : acc3 m c = addf (acc2 m c) (product (blk m c 3) (wblk m c 3)) :=
  congrArg (fun a => addf a (product (blk m c 3) (wblk m c 3))) (shapeCast_self _ shapeCasts_S128x2048_S128x2048)
theorem acc4_eq : acc4 m c = addf (acc3 m c) (product (blk m c 2) (wblk m c 2)) :=
  congrArg (fun a => addf a (product (blk m c 2) (wblk m c 2))) (shapeCast_self _ shapeCasts_S128x2048_S128x2048)

/-! ## An entry of the product -/

/-- The eight blocks side by side, at a row and a column: the block that the column over 128 names, at the column modulo 128. -/
theorem side_by_side (b : Fin 8 → Vec F S1x128x128 .fp8e5m2) (p : Fin 128) (k : Fin 1024) :
    concatenate S128x1024 1 (List.ofFn fun i : Fin 8 => (⟨S128x128, shapeCast S128x128 (b i) shapeCasts_S1x128x128_S128x128⟩ : (s : Shape) × (s.Idx → F .fp8e5m2)))
      concatenates_S128x128_S128x128_S128x128_S128x128_S128x128_S128x128_S128x128_S128x128_S128x1024_d1 (ix2 p k : S128x1024.Idx)
      = b ⟨k.val / 128, by omega⟩ (ix3 (0 : Fin 1) p (⟨k.val % 128, by omega⟩ : Fin 128) : S1x128x128.Idx) := by
  refine (concatenate_ofFn_apply (t := S128x1024) (s₁ := S128x128) (1 : Fin 2) (fun i : Fin 8 => shapeCast S128x128 (b i) shapeCasts_S1x128x128_S128x128) _ rfl
    128 rfl (ix2 p k) ⟨k.val / 128, by omega⟩ rfl (ix2 p (⟨k.val % 128, by omega⟩ : Fin 128)) rfl ?_).trans ?_
  · intro a ha
    match a with
    | ⟨0, _⟩ => rfl
    | ⟨1, _⟩ => exact absurd rfl ha
  · refine shapeCast_apply _ _ _ _ ?_
    rw [Shape.rowMajor_val_three, Shape.rowMajor_val_two]
    show (0 * 128 + p.val) * 128 + k.val % 128 = p.val * 128 + k.val % 128
    omega

/-- A quarter of `w` without its leading axis. -/
theorem quarter_entry (w : Vec F S1x1024x2048 .f32) (k : Fin 1024) (n : Fin 2048) :
    shapeCast S1024x2048 w shapeCasts_S1x1024x2048_S1024x2048 (ix2 k n : S1024x2048.Idx) = w (ix3 (0 : Fin 1) k n : S1x1024x2048.Idx) := by
  refine shapeCast_apply _ _ _ _ ?_
  rw [Shape.rowMajor_val_three, Shape.rowMajor_val_two]
  show (0 * 1024 + k.val) * 2048 + n.val = k.val * 2048 + n.val
  omega

/-- Over the extended reals, where rounding is the identity, an entry of the product is a sum over the quarter's columns. -/
theorem product_entry (b : Fin 8 → Vec Ideal S1x128x128 .fp8e5m2) (w : Vec Ideal S1x1024x2048 .f32) (p : Fin 128) (n : Fin 2048) :
    product b w (ix2 p n : S128x2048.Idx)
      = ∑ k : Fin 1024, (b ⟨k.val / 128, by omega⟩ (ix3 (0 : Fin 1) p (⟨k.val % 128, by omega⟩ : Fin 128) : S1x128x128.Idx) : EReal)
          * w (ix3 (0 : Fin 1) k n : S1x1024x2048.Idx) := by
  unfold product
  rw [shapeCast_shapeCast]
  refine (Ideal.matmul_plain_apply (M := 128) (K := 1024) (N := 2048) none _ _ _ p n).trans ?_
  refine (congrArg (· + _) Ideal.ofBits_zero_f32).trans ?_
  rw [zero_add]
  refine Finset.sum_congr rfl fun k _ => ?_
  rw [side_by_side]
  exact congrArg (_ * ·) (quarter_entry w k n)

end Cert.AllToAll

end
-- ==== Proof.Quarters.lean ====
/-
# A sum over 4096 columns, quarter by quarter

The sum over all columns is the sum over four quarters of 1024 in any order, and each device's four steps meet every quarter once.
-/
module

public import proofs.«01_k».proof.Proof.Protocol
public import Mathlib.Algebra.BigOperators.Fin
public import Mathlib.Tactic.Abel

@[expose] public section

noncomputable section

namespace Cert.AllToAll

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

section Sum

variable {β : Type} [AddCommMonoid β] (f : Fin 4096 → β)

/-- The sum over one quarter. -/
def part (q : Fin 4) : β := ∑ k : Fin 1024, f ⟨1024 * q.val + k.val, by omega⟩

/-- The whole sum is the sum of its four quarters; -/
theorem sum_parts : ∑ k, f k = part f 0 + part f 1 + part f 2 + part f 3 := by
  rw [← Fin.sum_univ_four (part f)]
  unfold part
  rw [← Fintype.sum_prod_type' (fun (q : Fin 4) (k : Fin 1024) => f ⟨1024 * q.val + k.val, by omega⟩)]
  exact (Fintype.sum_equiv finProdFinEquiv (fun y : Fin 4 × Fin 1024 => f ⟨1024 * y.1.val + y.2.val, by omega⟩) f
    (fun y => congrArg f (Fin.ext (Nat.add_comm _ _)))).symm

/-- the order in which a device takes them does not matter. -/
theorem sum_quarters (c : Dev nD) : part f (qr c 0) + part f (qr c 1) + part f (qr c 3) + part f (qr c 2) = ∑ k, f k := by
  have hc : c.val / 8 < 4 := by have : c.val < 32 := c.isLt; omega
  have hq : ∀ r, qr c r = ⟨(c.val / 8 + r) % 4, Nat.mod_lt _ (by decide)⟩ := fun _ => rfl
  rw [sum_parts, hq, hq, hq, hq]
  generalize c.val / 8 = d at hc
  match d, hc with
  | 0, _ => show part f 0 + part f 1 + part f 3 + part f 2 = _; abel
  | 1, _ => show part f 1 + part f 2 + part f 0 + part f 3 = _; abel
  | 2, _ => show part f 2 + part f 3 + part f 1 + part f 0 = _; abel
  | 3, _ => show part f 3 + part f 0 + part f 2 + part f 1 = _; abel

end Sum

end Cert.AllToAll

end
-- ==== Proof.Value.lean ====
/-
# What the kernel computes

Over the extended reals device `c`'s result is rows `128 c … 128 c + 127` of the whole product of `x` and `w`, scaled and clamped at
zero, where the devices' blocks are the blocks of columns of `x`.
-/
module

public import proofs.«01_k».proof.Proof.Product
public import proofs.«01_k».proof.Proof.Quarters
public import Idealize.ShloMosaic.Lib.Layout

@[expose] public section

noncomputable section

namespace Cert.AllToAll

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

/-- The whole array `x`, and `w`. -/
abbrev WholeX : Type := (⟨2, ![4096, 4096]⟩ : Shape).Idx → EReal
abbrev WholeW : Type := (⟨2, ![4096, 2048]⟩ : Shape).Idx → EReal

/-- The products that an entry of `x w` sums. -/
def term (x : WholeX) (w : WholeW) (a : Fin 4096) (n : Fin 2048) (k : Fin 4096) : EReal := x (ix2 a k) * w (ix2 k n)

theorem row_lt (c : Dev nD) (p : Fin 128) : 128 * c.val + p.val < 4096 := by have : c.val < 32 := c.isLt; omega
/-- Row `p` of device `c`'s block of rows, in the whole array. -/
def row (c : Dev nD) (p : Fin 128) : Fin 4096 := ⟨128 * c.val + p.val, row_lt c p⟩

/-- The devices' blocks of `x` are 32 blocks of columns. -/
theorem cut_x : Layout.Tiles ⟨2, ![4096, 128]⟩ ⟨2, ![4096, 4096]⟩ 1 32 := by decide

variable (m : Mem0 Ideal) (x : WholeX) (w : WholeW)
  (hx : ∀ j : Dev nD, m ((j : Thread nD τ).loc main_arg0) = Layout.block ⟨2, ![4096, 128]⟩ ⟨2, ![4096, 4096]⟩ 1 32 j x cut_x)
  (c : Dev nD) (hw : m ((c : Thread nD τ).loc main_arg1) = w)

include hx in
/-- A gathered block is a block of rows and columns of `x`. -/
theorem blk_entry (r : ℕ) (i : Fin 8) (p l : Fin 128) :
    blk m c r i (ix3 (0 : Fin 1) p l : S1x128x128.Idx)
      = x (ix2 (row c p) (⟨128 * member c r i.val + l.val, by have := member_lt c r i.isLt; omega⟩ : Fin 4096)) := by
  have h8 : X8 m (⟨member c r i.val, member_lt c r i.isLt⟩ : Dev nD) = m (((⟨member c r i.val, member_lt c r i.isLt⟩ : Dev nD) : Thread nD τ).loc main_arg0) :=
    shapeCast_self _ shapeCasts_S4096x128_S4096x128
  show X8 m (⟨member c r i.val, member_lt c r i.isLt⟩ : Dev nD) (ix2 (row c p) l : S4096x128.Idx) = _
  rw [h8, hx]
  refine congrArg x (funext fun a => Fin.ext ?_)
  match a with
  | ⟨0, _⟩ => rfl
  | ⟨1, _⟩ => exact congrArg (· + l.val) (Nat.mul_comm _ _)

include hw in
/-- A fetched quarter is a quarter of `w`'s rows. -/
theorem wblk_entry (r : ℕ) (k : Fin 1024) (n : Fin 2048) :
    wblk m c r (ix3 (0 : Fin 1) k n : S1x1024x2048.Idx) = w (ix2 (⟨1024 * (qr c r).val + k.val, by omega⟩ : Fin 4096) n) := by
  rw [← hw]; rfl

include hx hw in
/-- One step's product is the part of the whole sum over its quarter. -/
theorem step_entry (r : ℕ) (p : Fin 128) (n : Fin 2048) :
    product (blk m c r) (wblk m c r) (ix2 p n : S128x2048.Idx) = part (term x w (row c p) n) (qr c r) := by
  rw [product_entry]
  refine Finset.sum_congr rfl fun k _ => ?_
  rw [blk_entry m x hx, wblk_entry m w c hw]
  unfold term
  refine congrArg (fun l : Fin 4096 => x (ix2 (row c p) l) * _) (Fin.ext ?_)
  show 128 * (8 * quarter c r + k.val / 128) + k.val % 128 = 1024 * quarter c r + k.val
  omega

include hx hw in
/-- The four steps together are the whole sum. -/
theorem acc_entry (p : Fin 128) (n : Fin 2048) : acc4 m c (ix2 p n : S128x2048.Idx) = ∑ k, term x w (row c p) n k := by
  rw [acc4_eq, acc3_eq, acc2_eq, acc1_eq]
  refine Eq.trans ?_ (sum_quarters (term x w (row c p) n) c)
  rw [← step_entry m x w hx c hw 0 p n, ← step_entry m x w hx c hw 1 p n, ← step_entry m x w hx c hw 3 p n, ← step_entry m x w hx c hw 2 p n]
  rfl

/-- An entry of the result, of the whole sum: scaled, and zero if that is negative. -/
def finish (s₁ s₂ : (⟨1, ![1]⟩ : Shape).Idx → EReal) (a : EReal) : EReal := max (a * (s₁ (ix1 0) * s₂ (ix1 0))) 0

include hx hw in
/-- An entry of device `c`'s result. -/
theorem out_entry (s₁ s₂ : (⟨1, ![1]⟩ : Shape).Idx → EReal) (p : Fin 128) (n : Fin 2048) :
    outV m c s₁ s₂ (ix2 p n : S128x2048.Idx) = finish s₁ s₂ (∑ k, term x w (row c p) n k) := by
  rw [← acc_entry m x w hx c hw]
  have hs : shapeCast S128x2048 (acc4 m c) shapeCasts_S128x2048_S128x2048 = acc4 m c := shapeCast_self _ _
  show max (shapeCast S128x2048 (acc4 m c) shapeCasts_S128x2048_S128x2048 (ix2 p n : S128x2048.Idx) * (s₁ (ix1 0) * s₂ (ix1 0)))
    (Ideal.ofBits .f32 0x00000000#32) = _
  rw [hs, Ideal.ofBits_zero_f32]
  rfl

end Cert.AllToAll

end
-- ==== Proof.Equal.lean ====
/-
# The value

The reference's result, entry by entry, is the scaled and clamped sum over all columns; device `c`'s result is block `c` of its rows.
-/
module

public import proofs.«01_k».proof.Defs
public import proofs.«01_k».proof.Proof.Result
public import proofs.«01_k».proof.Proof.Value
public import proofs.«01_k».proof.Proof.Gen.ReferenceIdeal.Run
public import Idealize.ShloMosaic.Lib.StackMember
public import Idealize.ShloMosaic.Lib.IdealHost

@[expose] public section

noncomputable section

namespace Cert.AllToAll

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

/-- The reference's operations composed, of its four arguments. -/
def refOut (x : WholeX) (w : WholeW) (s₁ s₂ : (⟨1, ![1]⟩ : Shape).Idx → EReal) : WholeW :=
  maximumf (F := Ideal) (φ := .f32)
    (mulf (F := Ideal) (φ := .f32) (Host.dotGeneral (F := Ideal) (φ₁ := .f32) (φ₂ := .f32) Cert.ReferenceIdeal.dot_S4096x4096_S4096x2048_S4096x2048_1_0_0_1_n_n none x w)
      (broadcastInDim Cert.ReferenceIdeal.S4096x2048 ![0, 1] Cert.ReferenceIdeal.Facts₀.bcast_S1x1_S4096x2048_0_1
        (broadcastInDim Cert.ReferenceIdeal.S1x1 ![1] Cert.ReferenceIdeal.Facts₀.bcast_S1_S1x1_1 (mulf (F := Ideal) (φ := .f32) s₁ s₂))))
    (broadcastInDim Cert.ReferenceIdeal.S4096x2048 ![] Cert.ReferenceIdeal.Facts₀.bcast_S_S4096x2048 (constant (F := Ideal) Cert.ReferenceIdeal.S_ .f32 0x00000000#32))

/-- An entry of the reference's result. -/
theorem refOut_entry (x : WholeX) (w : WholeW) (s₁ s₂ : (⟨1, ![1]⟩ : Shape).Idx → EReal) (a : Fin 4096) (n : Fin 2048) :
    refOut x w s₁ s₂ (ix2 a n) = finish s₁ s₂ (∑ k, term x w a n k) := by
  unfold refOut finish
  rw [maximumf_apply, mulf_apply]
  refine congrArg₂ max (congrArg₂ (· * ·) (StackMember.dotGeneral_plain_apply (m := 4096) (k := 4096) (n := 2048) none x w a n) ?_) ?_
  · rw [broadcastInDim_apply _ _ _ _ (ix2 0 0 : (⟨2, ![1, 1]⟩ : Shape).Idx) (fun d => by fin_cases d <;> rfl),
      broadcastInDim_apply _ _ _ _ (ix1 0 : (⟨1, ![1]⟩ : Shape).Idx) (fun d => by fin_cases d; rfl)]
    rfl
  · rw [broadcastInDim_apply _ _ _ _ ix0 (fun d => d.elim0)]
    exact Ideal.ofBits_zero_f32

/-- Device `c`'s result is block `c` of the reference's. -/
theorem out_block (m : Mem0 Ideal) (x : WholeX) (w : WholeW) (s₁ s₂ : (⟨1, ![1]⟩ : Shape).Idx → EReal)
    (hx : ∀ j : Dev Cert.KernelIdeal.nD, m ((j : Thread Cert.KernelIdeal.nD Cert.KernelIdeal.τ).loc Cert.KernelIdeal.main_arg0)
      = Layout.block ⟨2, ![4096, 128]⟩ ⟨2, ![4096, 4096]⟩ 1 32 j x cut_x)
    (c : Dev Cert.KernelIdeal.nD) (hw : m ((c : Thread Cert.KernelIdeal.nD Cert.KernelIdeal.τ).loc Cert.KernelIdeal.main_arg1) = w) :
    outV m c s₁ s₂ = Layout.block ⟨2, ![128, 2048]⟩ ⟨2, ![4096, 2048]⟩ 0 32 c (refOut x w s₁ s₂) := by
  refine funext fun (j : (⟨2, ![128, 2048]⟩ : Shape).Idx) => ?_
  rw [eq_ix2 j]
  refine (out_entry m x w hx c hw s₁ s₂ (j 0) (j 1)).trans ((refOut_entry x w s₁ s₂ (row c (j 0)) (j 1)).symm.trans ?_)
  refine congrArg (refOut x w s₁ s₂) (funext fun a => Fin.ext ?_)
  match a with
  | ⟨0, _⟩ => exact congrArg (· + (j 0).val) (Nat.mul_comm _ _)
  | ⟨1, _⟩ => rfl

/-- `Cert.algebraic_KernelIdeal_ReferenceIdeal`: both programs run, and the kernel's results are the blocks of the reference's. -/
theorem value : Cert.algebraic_KernelIdeal_ReferenceIdeal := fun m ρ m' ρ' _ hagree => by
  refine ⟨refOut (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1))
      (m' (((0 : Dev Cert.ReferenceIdeal.nD).tc : Thread _ Cert.ReferenceIdeal.τ).loc Cert.ReferenceIdeal.main_arg2))
      (m' (((0 : Dev Cert.ReferenceIdeal.nD).tc : Thread _ Cert.ReferenceIdeal.τ).loc Cert.ReferenceIdeal.main_arg3)), ?_, ?_⟩
  · refine (θ_run Cert.KernelIdeal.defs _ _).mono (fun r h c => ⟨((h.1 c).1).trans ?_, (h.1 c).2⟩) (run_main (F := Ideal) m ρ)
    rw [(hagree c).2.2.1, (hagree c).2.2.2]
    exact out_block m _ _ _ _ (fun j => (hagree j).1) c (hagree c).2.1
  · exact (θ_run Cert.ReferenceIdeal.defs _ _).mono (fun r h => h 0) (Cert.ReferenceIdeal.Value.run (F := Ideal) m' ρ')

end Cert.AllToAll

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Equal

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.AllToAll.frame_kernel, Cert.AllToAll.frame_ideal, Cert.AllToAll.frame_reference, trivial, Cert.AllToAll.value⟩

end Cert.Proof

end
